-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_ExpertsOdd [hPre_tables : Cert.Pre_tables.Facts] (m : (ℓ : Loc Cert.ExpertsOdd.nD Cert.ExpertsOdd.τ Cert.ExpertsOdd.sig) → Buf (Elt Bits) ℓ) : Prop :=
  ∀ c : Dev Cert.ExpertsOdd.nD,
    (Cert.Pre_tables.fn (F := Bits) (m ((c.tc : Thread Cert.ExpertsOdd.nD Cert.ExpertsOdd.τ).loc Cert.ExpertsOdd.main_arg0)) (m ((c.tc : Thread Cert.ExpertsOdd.nD Cert.ExpertsOdd.τ).loc Cert.ExpertsOdd.main_arg1)) (m ((c.tc : Thread Cert.ExpertsOdd.nD Cert.ExpertsOdd.τ).loc Cert.ExpertsOdd.main_arg2)) (m ((c.tc : Thread Cert.ExpertsOdd.nD Cert.ExpertsOdd.τ).loc Cert.ExpertsOdd.main_arg3)) (m ((c.tc : Thread Cert.ExpertsOdd.nD Cert.ExpertsOdd.τ).loc Cert.ExpertsOdd.main_arg4)) (m ((c.tc : Thread Cert.ExpertsOdd.nD Cert.ExpertsOdd.τ).loc Cert.ExpertsOdd.main_arg5))) = (fun _ => 1#1)

def Pre_ExpertsOddIdeal [hPre_tables : Cert.Pre_tables.Facts] (m : (ℓ : Loc Cert.ExpertsOddIdeal.nD Cert.ExpertsOddIdeal.τ Cert.ExpertsOddIdeal.sig) → Buf (Elt Ideal) ℓ) : Prop :=
  ∀ c : Dev Cert.ExpertsOddIdeal.nD,
    (Cert.Pre_tables.fn (F := Ideal) (m ((c.tc : Thread Cert.ExpertsOddIdeal.nD Cert.ExpertsOddIdeal.τ).loc Cert.ExpertsOddIdeal.main_arg0)) (m ((c.tc : Thread Cert.ExpertsOddIdeal.nD Cert.ExpertsOddIdeal.τ).loc Cert.ExpertsOddIdeal.main_arg1)) (m ((c.tc : Thread Cert.ExpertsOddIdeal.nD Cert.ExpertsOddIdeal.τ).loc Cert.ExpertsOddIdeal.main_arg2)) (m ((c.tc : Thread Cert.ExpertsOddIdeal.nD Cert.ExpertsOddIdeal.τ).loc Cert.ExpertsOddIdeal.main_arg3)) (m ((c.tc : Thread Cert.ExpertsOddIdeal.nD Cert.ExpertsOddIdeal.τ).loc Cert.ExpertsOddIdeal.main_arg4)) (m ((c.tc : Thread Cert.ExpertsOddIdeal.nD Cert.ExpertsOddIdeal.τ).loc Cert.ExpertsOddIdeal.main_arg5))) = (fun _ => 1#1)

def Pre_ExpertsOddReferenceIdeal (m : (ℓ : Loc Cert.ExpertsOddReferenceIdeal.nD Cert.ExpertsOddReferenceIdeal.τ Cert.ExpertsOddReferenceIdeal.sig) → Buf (Elt Ideal) ℓ) : Prop :=
  True

def Pre_ExpertsOddReferenceIdeal_tables [hPre_tables : Cert.Pre_tables.Facts] (m : (ℓ : Loc Cert.ExpertsOddReferenceIdeal.nD Cert.ExpertsOddReferenceIdeal.τ Cert.ExpertsOddReferenceIdeal.sig) → Buf (Elt Ideal) ℓ) : Prop :=
  ∀ c : Dev Cert.ExpertsOddReferenceIdeal.nD,
    (Cert.Pre_tables.fn (F := Ideal) (m ((c.tc : Thread Cert.ExpertsOddReferenceIdeal.nD Cert.ExpertsOddReferenceIdeal.τ).loc Cert.ExpertsOddReferenceIdeal.main_arg0)) (m ((c.tc : Thread Cert.ExpertsOddReferenceIdeal.nD Cert.ExpertsOddReferenceIdeal.τ).loc Cert.ExpertsOddReferenceIdeal.main_arg1)) (m ((c.tc : Thread Cert.ExpertsOddReferenceIdeal.nD Cert.ExpertsOddReferenceIdeal.τ).loc Cert.ExpertsOddReferenceIdeal.main_arg2)) (m ((c.tc : Thread Cert.ExpertsOddReferenceIdeal.nD Cert.ExpertsOddReferenceIdeal.τ).loc Cert.ExpertsOddReferenceIdeal.main_arg3)) (m ((c.tc : Thread Cert.ExpertsOddReferenceIdeal.nD Cert.ExpertsOddReferenceIdeal.τ).loc Cert.ExpertsOddReferenceIdeal.main_arg4)) (m ((c.tc : Thread Cert.ExpertsOddReferenceIdeal.nD Cert.ExpertsOddReferenceIdeal.τ).loc Cert.ExpertsOddReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsOdd [hExpertsOdd : Cert.ExpertsOdd.Facts] [hPre_tables : Cert.Pre_tables.Facts] : Prop :=
  ∀ (m : (ℓ : Loc Cert.ExpertsOdd.nD Cert.ExpertsOdd.τ Cert.ExpertsOdd.sig) → Buf (Elt Bits) ℓ) (g : Dev Cert.ExpertsOdd.nD → PrngReg), Pre_ExpertsOdd m →
    θ_run (Cert.ExpertsOdd.defs (F := Bits)) (onTc (τ := Cert.ExpertsOdd.τ) (Cert.ExpertsOdd.main (F := Bits))) ⟨m, fun _ => 0, g⟩ (fun r => (∀ c : Dev Cert.ExpertsOdd.nD,
      r.2.mem ((c.tc : Thread Cert.ExpertsOdd.nD Cert.ExpertsOdd.τ).loc Cert.ExpertsOdd.main_arg0) = m ((c.tc : Thread Cert.ExpertsOdd.nD Cert.ExpertsOdd.τ).loc Cert.ExpertsOdd.main_arg0)
      ∧ r.2.mem ((c.tc : Thread Cert.ExpertsOdd.nD Cert.ExpertsOdd.τ).loc Cert.ExpertsOdd.main_arg1) = m ((c.tc : Thread Cert.ExpertsOdd.nD Cert.ExpertsOdd.τ).loc Cert.ExpertsOdd.main_arg1)
      ∧ r.2.mem ((c.tc : Thread Cert.ExpertsOdd.nD Cert.ExpertsOdd.τ).loc Cert.ExpertsOdd.main_arg2) = m ((c.tc : Thread Cert.ExpertsOdd.nD Cert.ExpertsOdd.τ).loc Cert.ExpertsOdd.main_arg2)
      ∧ r.2.mem ((c.tc : Thread Cert.ExpertsOdd.nD Cert.ExpertsOdd.τ).loc Cert.ExpertsOdd.main_arg3) = m ((c.tc : Thread Cert.ExpertsOdd.nD Cert.ExpertsOdd.τ).loc Cert.ExpertsOdd.main_arg3)
      ∧ r.2.mem ((c.tc : Thread Cert.ExpertsOdd.nD Cert.ExpertsOdd.τ).loc Cert.ExpertsOdd.main_arg4) = m ((c.tc : Thread Cert.ExpertsOdd.nD Cert.ExpertsOdd.τ).loc Cert.ExpertsOdd.main_arg4)
      ∧ r.2.mem ((c.tc : Thread Cert.ExpertsOdd.nD Cert.ExpertsOdd.τ).loc Cert.ExpertsOdd.main_arg5) = m ((c.tc : Thread Cert.ExpertsOdd.nD Cert.ExpertsOdd.τ).loc Cert.ExpertsOdd.main_arg5))
      ∧ r.2.sem = fun _ => 0)

def quiescent_ExpertsOddIdeal [hExpertsOddIdeal : Cert.ExpertsOddIdeal.Facts] [hPre_tables : Cert.Pre_tables.Facts] : Prop :=
  ∀ (m : (ℓ : Loc Cert.ExpertsOddIdeal.nD Cert.ExpertsOddIdeal.τ Cert.ExpertsOddIdeal.sig) → Buf (Elt Ideal) ℓ) (g : Dev Cert.ExpertsOddIdeal.nD → PrngReg), Pre_ExpertsOddIdeal m →
    θ_run (Cert.ExpertsOddIdeal.defs (F := Ideal)) (onTc (τ := Cert.ExpertsOddIdeal.τ) (Cert.ExpertsOddIdeal.main (F := Ideal))) ⟨m, fun _ => 0, g⟩ (fun r => (∀ c : Dev Cert.ExpertsOddIdeal.nD,
      r.2.mem ((c.tc : Thread Cert.ExpertsOddIdeal.nD Cert.ExpertsOddIdeal.τ).loc Cert.ExpertsOddIdeal.main_arg0) = m ((c.tc : Thread Cert.ExpertsOddIdeal.nD Cert.ExpertsOddIdeal.τ).loc Cert.ExpertsOddIdeal.main_arg0)
      ∧ r.2.mem ((c.tc : Thread Cert.ExpertsOddIdeal.nD Cert.ExpertsOddIdeal.τ).loc Cert.ExpertsOddIdeal.main_arg1) = m ((c.tc : Thread Cert.ExpertsOddIdeal.nD Cert.ExpertsOddIdeal.τ).loc Cert.ExpertsOddIdeal.main_arg1)
      ∧ r.2.mem ((c.tc : Thread Cert.ExpertsOddIdeal.nD Cert.ExpertsOddIdeal.τ).loc Cert.ExpertsOddIdeal.main_arg2) = m ((c.tc : Thread Cert.ExpertsOddIdeal.nD Cert.ExpertsOddIdeal.τ).loc Cert.ExpertsOddIdeal.main_arg2)
      ∧ r.2.mem ((c.tc : Thread Cert.ExpertsOddIdeal.nD Cert.ExpertsOddIdeal.τ).loc Cert.ExpertsOddIdeal.main_arg3) = m ((c.tc : Thread Cert.ExpertsOddIdeal.nD Cert.ExpertsOddIdeal.τ).loc Cert.ExpertsOddIdeal.main_arg3)
      ∧ r.2.mem ((c.tc : Thread Cert.ExpertsOddIdeal.nD Cert.ExpertsOddIdeal.τ).loc Cert.ExpertsOddIdeal.main_arg4) = m ((c.tc : Thread Cert.ExpertsOddIdeal.nD Cert.ExpertsOddIdeal.τ).loc Cert.ExpertsOddIdeal.main_arg4)
      ∧ r.2.mem ((c.tc : Thread Cert.ExpertsOddIdeal.nD Cert.ExpertsOddIdeal.τ).loc Cert.ExpertsOddIdeal.main_arg5) = m ((c.tc : Thread Cert.ExpertsOddIdeal.nD Cert.ExpertsOddIdeal.τ).loc Cert.ExpertsOddIdeal.main_arg5))
      ∧ r.2.sem = fun _ => 0)

def quiescent_ExpertsOddReferenceIdeal [hExpertsOddReferenceIdeal : Cert.ExpertsOddReferenceIdeal.Facts] : Prop :=
  ∀ (m : (ℓ : Loc Cert.ExpertsOddReferenceIdeal.nD Cert.ExpertsOddReferenceIdeal.τ Cert.ExpertsOddReferenceIdeal.sig) → Buf (Elt Ideal) ℓ) (g : Dev Cert.ExpertsOddReferenceIdeal.nD → PrngReg), Pre_ExpertsOddReferenceIdeal m →
    θ_run (Cert.ExpertsOddReferenceIdeal.defs (F := Ideal)) (onTc (τ := Cert.ExpertsOddReferenceIdeal.τ) (Cert.ExpertsOddReferenceIdeal.main (F := Ideal))) ⟨m, fun _ => 0, g⟩ (fun r => (∀ c : Dev Cert.ExpertsOddReferenceIdeal.nD,
      r.2.mem ((c.tc : Thread Cert.ExpertsOddReferenceIdeal.nD Cert.ExpertsOddReferenceIdeal.τ).loc Cert.ExpertsOddReferenceIdeal.main_arg0) = m ((c.tc : Thread Cert.ExpertsOddReferenceIdeal.nD Cert.ExpertsOddReferenceIdeal.τ).loc Cert.ExpertsOddReferenceIdeal.main_arg0)
      ∧ r.2.mem ((c.tc : Thread Cert.ExpertsOddReferenceIdeal.nD Cert.ExpertsOddReferenceIdeal.τ).loc Cert.ExpertsOddReferenceIdeal.main_arg1) = m ((c.tc : Thread Cert.ExpertsOddReferenceIdeal.nD Cert.ExpertsOddReferenceIdeal.τ).loc Cert.ExpertsOddReferenceIdeal.main_arg1)
      ∧ r.2.mem ((c.tc : Thread Cert.ExpertsOddReferenceIdeal.nD Cert.ExpertsOddReferenceIdeal.τ).loc Cert.ExpertsOddReferenceIdeal.main_arg2) = m ((c.tc : Thread Cert.ExpertsOddReferenceIdeal.nD Cert.ExpertsOddReferenceIdeal.τ).loc Cert.ExpertsOddReferenceIdeal.main_arg2)
      ∧ r.2.mem ((c.tc : Thread Cert.ExpertsOddReferenceIdeal.nD Cert.ExpertsOddReferenceIdeal.τ).loc Cert.ExpertsOddReferenceIdeal.main_arg3) = m ((c.tc : Thread Cert.ExpertsOddReferenceIdeal.nD Cert.ExpertsOddReferenceIdeal.τ).loc Cert.ExpertsOddReferenceIdeal.main_arg3)
      ∧ r.2.mem ((c.tc : Thread Cert.ExpertsOddReferenceIdeal.nD Cert.ExpertsOddReferenceIdeal.τ).loc Cert.ExpertsOddReferenceIdeal.main_arg4) = m ((c.tc : Thread Cert.ExpertsOddReferenceIdeal.nD Cert.ExpertsOddReferenceIdeal.τ).loc Cert.ExpertsOddReferenceIdeal.main_arg4)
      ∧ r.2.mem ((c.tc : Thread Cert.ExpertsOddReferenceIdeal.nD Cert.ExpertsOddReferenceIdeal.τ).loc Cert.ExpertsOddReferenceIdeal.main_arg5) = m ((c.tc : Thread Cert.ExpertsOddReferenceIdeal.nD Cert.ExpertsOddReferenceIdeal.τ).loc Cert.ExpertsOddReferenceIdeal.main_arg5))
      ∧ r.2.sem = fun _ => 0)

def quiescent_ExpertsOddReferenceIdeal_pre_tables [hExpertsOddReferenceIdeal : Cert.ExpertsOddReferenceIdeal.Facts] [hPre_tables : Cert.Pre_tables.Facts] : Prop :=
  ∀ (m : (ℓ : Loc Cert.ExpertsOddReferenceIdeal.nD Cert.ExpertsOddReferenceIdeal.τ Cert.ExpertsOddReferenceIdeal.sig) → Buf (Elt Ideal) ℓ) (g : Dev Cert.ExpertsOddReferenceIdeal.nD → PrngReg), Pre_ExpertsOddReferenceIdeal_tables m →
    θ_run (Cert.ExpertsOddReferenceIdeal.defs (F := Ideal)) (onTc (τ := Cert.ExpertsOddReferenceIdeal.τ) (Cert.ExpertsOddReferenceIdeal.main (F := Ideal))) ⟨m, fun _ => 0, g⟩ (fun r => (∀ c : Dev Cert.ExpertsOddReferenceIdeal.nD,
      r.2.mem ((c.tc : Thread Cert.ExpertsOddReferenceIdeal.nD Cert.ExpertsOddReferenceIdeal.τ).loc Cert.ExpertsOddReferenceIdeal.main_arg0) = m ((c.tc : Thread Cert.ExpertsOddReferenceIdeal.nD Cert.ExpertsOddReferenceIdeal.τ).loc Cert.ExpertsOddReferenceIdeal.main_arg0)
      ∧ r.2.mem ((c.tc : Thread Cert.ExpertsOddReferenceIdeal.nD Cert.ExpertsOddReferenceIdeal.τ).loc Cert.ExpertsOddReferenceIdeal.main_arg1) = m ((c.tc : Thread Cert.ExpertsOddReferenceIdeal.nD Cert.ExpertsOddReferenceIdeal.τ).loc Cert.ExpertsOddReferenceIdeal.main_arg1)
      ∧ r.2.mem ((c.tc : Thread Cert.ExpertsOddReferenceIdeal.nD Cert.ExpertsOddReferenceIdeal.τ).loc Cert.ExpertsOddReferenceIdeal.main_arg2) = m ((c.tc : Thread Cert.ExpertsOddReferenceIdeal.nD Cert.ExpertsOddReferenceIdeal.τ).loc Cert.ExpertsOddReferenceIdeal.main_arg2)
      ∧ r.2.mem ((c.tc : Thread Cert.ExpertsOddReferenceIdeal.nD Cert.ExpertsOddReferenceIdeal.τ).loc Cert.ExpertsOddReferenceIdeal.main_arg3) = m ((c.tc : Thread Cert.ExpertsOddReferenceIdeal.nD Cert.ExpertsOddReferenceIdeal.τ).loc Cert.ExpertsOddReferenceIdeal.main_arg3)
      ∧ r.2.mem ((c.tc : Thread Cert.ExpertsOddReferenceIdeal.nD Cert.ExpertsOddReferenceIdeal.τ).loc Cert.ExpertsOddReferenceIdeal.main_arg4) = m ((c.tc : Thread Cert.ExpertsOddReferenceIdeal.nD Cert.ExpertsOddReferenceIdeal.τ).loc Cert.ExpertsOddReferenceIdeal.main_arg4)
      ∧ r.2.mem ((c.tc : Thread Cert.ExpertsOddReferenceIdeal.nD Cert.ExpertsOddReferenceIdeal.τ).loc Cert.ExpertsOddReferenceIdeal.main_arg5) = m ((c.tc : Thread Cert.ExpertsOddReferenceIdeal.nD Cert.ExpertsOddReferenceIdeal.τ).loc Cert.ExpertsOddReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v33) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v30) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_ExpertsOdd_ExpertsOddIdeal : Prop :=
  True

def algebraic_ExpertsOddIdeal_ExpertsOddReferenceIdeal [hExpertsOddIdeal : Cert.ExpertsOddIdeal.Facts] [hExpertsOddReferenceIdeal : Cert.ExpertsOddReferenceIdeal.Facts] [hPre_tables : Cert.Pre_tables.Facts] : Prop :=
  ∀ (m : (ℓ : Loc Cert.ExpertsOddIdeal.nD Cert.ExpertsOddIdeal.τ Cert.ExpertsOddIdeal.sig) → Buf (Elt Ideal) ℓ) (g : Dev Cert.ExpertsOddIdeal.nD → PrngReg)
    (m' : (ℓ : Loc Cert.ExpertsOddReferenceIdeal.nD Cert.ExpertsOddReferenceIdeal.τ Cert.ExpertsOddReferenceIdeal.sig) → Buf (Elt Ideal) ℓ) (g' : Dev Cert.ExpertsOddReferenceIdeal.nD → PrngReg), Pre_ExpertsOddIdeal m →
    (∀ c : Dev Cert.ExpertsOddIdeal.nD,
      m' ((c.tc : Thread Cert.ExpertsOddReferenceIdeal.nD Cert.ExpertsOddReferenceIdeal.τ).loc Cert.ExpertsOddReferenceIdeal.main_arg0) = m ((c.tc : Thread Cert.ExpertsOddIdeal.nD Cert.ExpertsOddIdeal.τ).loc Cert.ExpertsOddIdeal.main_arg0)
      ∧ m' ((c.tc : Thread Cert.ExpertsOddReferenceIdeal.nD Cert.ExpertsOddReferenceIdeal.τ).loc Cert.ExpertsOddReferenceIdeal.main_arg1) = m ((c.tc : Thread Cert.ExpertsOddIdeal.nD Cert.ExpertsOddIdeal.τ).loc Cert.ExpertsOddIdeal.main_arg1)
      ∧ m' ((c.tc : Thread Cert.ExpertsOddReferenceIdeal.nD Cert.ExpertsOddReferenceIdeal.τ).loc Cert.ExpertsOddReferenceIdeal.main_arg2) = m ((c.tc : Thread Cert.ExpertsOddIdeal.nD Cert.ExpertsOddIdeal.τ).loc Cert.ExpertsOddIdeal.main_arg2)
      ∧ m' ((c.tc : Thread Cert.ExpertsOddReferenceIdeal.nD Cert.ExpertsOddReferenceIdeal.τ).loc Cert.ExpertsOddReferenceIdeal.main_arg3) = m ((c.tc : Thread Cert.ExpertsOddIdeal.nD Cert.ExpertsOddIdeal.τ).loc Cert.ExpertsOddIdeal.main_arg3)
      ∧ m' ((c.tc : Thread Cert.ExpertsOddReferenceIdeal.nD Cert.ExpertsOddReferenceIdeal.τ).loc Cert.ExpertsOddReferenceIdeal.main_arg4) = m ((c.tc : Thread Cert.ExpertsOddIdeal.nD Cert.ExpertsOddIdeal.τ).loc Cert.ExpertsOddIdeal.main_arg4)
      ∧ m' ((c.tc : Thread Cert.ExpertsOddReferenceIdeal.nD Cert.ExpertsOddReferenceIdeal.τ).loc Cert.ExpertsOddReferenceIdeal.main_arg5) = m ((c.tc : Thread Cert.ExpertsOddIdeal.nD Cert.ExpertsOddIdeal.τ).loc Cert.ExpertsOddIdeal.main_arg5)) →
    ∃ (v0 : (c : Dev Cert.ExpertsOddIdeal.nD) → Buf (Elt Ideal) ((c.tc : Thread Cert.ExpertsOddIdeal.nD Cert.ExpertsOddIdeal.τ).loc Cert.ExpertsOddIdeal.main_v0)),
      θ_run (Cert.ExpertsOddIdeal.defs (F := Ideal)) (onTc (τ := Cert.ExpertsOddIdeal.τ) (Cert.ExpertsOddIdeal.main (F := Ideal))) ⟨m, fun _ => 0, g⟩ (fun r => ∀ c : Dev Cert.ExpertsOddIdeal.nD,
          r.2.mem ((c.tc : Thread Cert.ExpertsOddIdeal.nD Cert.ExpertsOddIdeal.τ).loc Cert.ExpertsOddIdeal.main_v0) = v0 c
          ∧ r.2.mem ((c.tc : Thread Cert.ExpertsOddIdeal.nD Cert.ExpertsOddIdeal.τ).loc Cert.ExpertsOddIdeal.main_arg0) = m ((c.tc : Thread Cert.ExpertsOddIdeal.nD Cert.ExpertsOddIdeal.τ).loc Cert.ExpertsOddIdeal.main_arg0)
          ∧ r.2.mem ((c.tc : Thread Cert.ExpertsOddIdeal.nD Cert.ExpertsOddIdeal.τ).loc Cert.ExpertsOddIdeal.main_arg1) = m ((c.tc : Thread Cert.ExpertsOddIdeal.nD Cert.ExpertsOddIdeal.τ).loc Cert.ExpertsOddIdeal.main_arg1)
          ∧ r.2.mem ((c.tc : Thread Cert.ExpertsOddIdeal.nD Cert.ExpertsOddIdeal.τ).loc Cert.ExpertsOddIdeal.main_arg2) = m ((c.tc : Thread Cert.ExpertsOddIdeal.nD Cert.ExpertsOddIdeal.τ).loc Cert.ExpertsOddIdeal.main_arg2)
          ∧ r.2.mem ((c.tc : Thread Cert.ExpertsOddIdeal.nD Cert.ExpertsOddIdeal.τ).loc Cert.ExpertsOddIdeal.main_arg3) = m ((c.tc : Thread Cert.ExpertsOddIdeal.nD Cert.ExpertsOddIdeal.τ).loc Cert.ExpertsOddIdeal.main_arg3)
          ∧ r.2.mem ((c.tc : Thread Cert.ExpertsOddIdeal.nD Cert.ExpertsOddIdeal.τ).loc Cert.ExpertsOddIdeal.main_arg4) = m ((c.tc : Thread Cert.ExpertsOddIdeal.nD Cert.ExpertsOddIdeal.τ).loc Cert.ExpertsOddIdeal.main_arg4)
          ∧ r.2.mem ((c.tc : Thread Cert.ExpertsOddIdeal.nD Cert.ExpertsOddIdeal.τ).loc Cert.ExpertsOddIdeal.main_arg5) = m ((c.tc : Thread Cert.ExpertsOddIdeal.nD Cert.ExpertsOddIdeal.τ).loc Cert.ExpertsOddIdeal.main_arg5))
      ∧ θ_run (Cert.ExpertsOddReferenceIdeal.defs (F := Ideal)) (onTc (τ := Cert.ExpertsOddReferenceIdeal.τ) (Cert.ExpertsOddReferenceIdeal.main (F := Ideal))) ⟨m', fun _ => 0, g'⟩ (fun r => ∀ c : Dev Cert.ExpertsOddReferenceIdeal.nD,
          r.2.mem ((c.tc : Thread Cert.ExpertsOddReferenceIdeal.nD Cert.ExpertsOddReferenceIdeal.τ).loc Cert.ExpertsOddReferenceIdeal.main_v30) = v0 c
          ∧ r.2.mem ((c.tc : Thread Cert.ExpertsOddReferenceIdeal.nD Cert.ExpertsOddReferenceIdeal.τ).loc Cert.ExpertsOddReferenceIdeal.main_arg0) = m' ((c.tc : Thread Cert.ExpertsOddReferenceIdeal.nD Cert.ExpertsOddReferenceIdeal.τ).loc Cert.ExpertsOddReferenceIdeal.main_arg0)
          ∧ r.2.mem ((c.tc : Thread Cert.ExpertsOddReferenceIdeal.nD Cert.ExpertsOddReferenceIdeal.τ).loc Cert.ExpertsOddReferenceIdeal.main_arg1) = m' ((c.tc : Thread Cert.ExpertsOddReferenceIdeal.nD Cert.ExpertsOddReferenceIdeal.τ).loc Cert.ExpertsOddReferenceIdeal.main_arg1)
          ∧ r.2.mem ((c.tc : Thread Cert.ExpertsOddReferenceIdeal.nD Cert.ExpertsOddReferenceIdeal.τ).loc Cert.ExpertsOddReferenceIdeal.main_arg2) = m' ((c.tc : Thread Cert.ExpertsOddReferenceIdeal.nD Cert.ExpertsOddReferenceIdeal.τ).loc Cert.ExpertsOddReferenceIdeal.main_arg2)
          ∧ r.2.mem ((c.tc : Thread Cert.ExpertsOddReferenceIdeal.nD Cert.ExpertsOddReferenceIdeal.τ).loc Cert.ExpertsOddReferenceIdeal.main_arg3) = m' ((c.tc : Thread Cert.ExpertsOddReferenceIdeal.nD Cert.ExpertsOddReferenceIdeal.τ).loc Cert.ExpertsOddReferenceIdeal.main_arg3)
          ∧ r.2.mem ((c.tc : Thread Cert.ExpertsOddReferenceIdeal.nD Cert.ExpertsOddReferenceIdeal.τ).loc Cert.ExpertsOddReferenceIdeal.main_arg4) = m' ((c.tc : Thread Cert.ExpertsOddReferenceIdeal.nD Cert.ExpertsOddReferenceIdeal.τ).loc Cert.ExpertsOddReferenceIdeal.main_arg4)
          ∧ r.2.mem ((c.tc : Thread Cert.ExpertsOddReferenceIdeal.nD Cert.ExpertsOddReferenceIdeal.τ).loc Cert.ExpertsOddReferenceIdeal.main_arg5) = m' ((c.tc : Thread Cert.ExpertsOddReferenceIdeal.nD Cert.ExpertsOddReferenceIdeal.τ).loc Cert.ExpertsOddReferenceIdeal.main_arg5))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hExperts : Cert.Experts.Facts) (hExpertsIdeal : Cert.ExpertsIdeal.Facts) (hExpertsReferenceIdeal : Cert.ExpertsReferenceIdeal.Facts) (hExpertsOdd : Cert.ExpertsOdd.Facts) (hExpertsOddIdeal : Cert.ExpertsOddIdeal.Facts) (hExpertsOddReferenceIdeal : Cert.ExpertsOddReferenceIdeal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectReferenceIdeal (hProjectReferenceIdeal := hProjectReferenceIdeal)
    ∧ quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_ExpertsOdd (hExpertsOdd := hExpertsOdd) (hPre_tables := hPre_tables)
    ∧ quiescent_ExpertsOddIdeal (hExpertsOddIdeal := hExpertsOddIdeal) (hPre_tables := hPre_tables)
    ∧ quiescent_ExpertsOddReferenceIdeal (hExpertsOddReferenceIdeal := hExpertsOddReferenceIdeal)
    ∧ quiescent_ExpertsOddReferenceIdeal_pre_tables (hExpertsOddReferenceIdeal := hExpertsOddReferenceIdeal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectReferenceIdeal (hProjectIdeal := hProjectIdeal) (hProjectReferenceIdeal := hProjectReferenceIdeal)
    ∧ preserves_Experts_ExpertsIdeal
    ∧ algebraic_ExpertsIdeal_ExpertsReferenceIdeal (hExpertsIdeal := hExpertsIdeal) (hExpertsReferenceIdeal := hExpertsReferenceIdeal) (hPre_tables := hPre_tables)
    ∧ preserves_ExpertsOdd_ExpertsOddIdeal
    ∧ algebraic_ExpertsOddIdeal_ExpertsOddReferenceIdeal (hExpertsOddIdeal := hExpertsOddIdeal) (hExpertsOddReferenceIdeal := hExpertsOddReferenceIdeal) (hPre_tables := hPre_tables)
-- ==== Pre_finite.lean ====
abbrev S12288x3072 : Shape := ⟨2, ![12288, 3072]⟩
abbrev S8x1x256x4x2x64 : Shape := ⟨6, ![8, 1, 256, 4, 2, 64]⟩
abbrev S8x1x256x4x128 : Shape := ⟨5, ![8, 1, 256, 4, 128]⟩
abbrev S1x4x64 : Shape := ⟨3, ![1, 4, 64]⟩
abbrev S1x128 : Shape := ⟨2, ![1, 128]⟩
abbrev S_ : Shape := ⟨0, ![]⟩

class Facts : Prop where
  bcast_S_S12288x3072 : S_.BroadcastsInDim S12288x3072 (![] : Fin 0 → Fin S12288x3072.rank)
  bcast_S_S8x1x256x4x2x64 : S_.BroadcastsInDim S8x1x256x4x2x64 (![] : Fin 0 → Fin S8x1x256x4x2x64.rank)
  bcast_S_S8x1x256x4x128 : S_.BroadcastsInDim S8x1x256x4x128 (![] : Fin 0 → Fin S8x1x256x4x128.rank)
  bcast_S_S1x4x64 : S_.BroadcastsInDim S1x4x64 (![] : Fin 0 → Fin S1x4x64.rank)
  reducesTo_S12288x3072_S_d0_1 : S12288x3072.ReducesTo [0, 1] S_
  h_S_ : 0 < S_.numel
  reducesTo_S8x1x256x4x2x64_S_d0_1_2_3_4_5 : S8x1x256x4x2x64.ReducesTo [0, 1, 2, 3, 4, 5] S_
  reducesTo_S8x1x256x4x128_S_d0_1_2_3_4 : S8x1x256x4x128.ReducesTo [0, 1, 2, 3, 4] S_
  reducesTo_S1x4x64_S_d0_1_2 : S1x4x64.ReducesTo [0, 1, 2] S_

variable [Facts]

def fn_part1 {F : FTy → Type} [FloatOps F] (main_v12 : IVec S_ 1) (main_v13 : IVec S_ 1) (main_v14 : IVec S_ 1) (main_v15 : IVec S_ 1) : IVec S_ 1 :=
  let main_v16 : IVec S_ 1 := andi main_v12 main_v13
  let main_v17 : IVec S_ 1 := andi main_v16 main_v14
  let main_v18 : IVec S_ 1 := andi main_v17 main_v15
  main_v18

def fn {F : FTy → Type} [FloatOps F] (main_arg0 : FVec F S12288x3072 .f32) (main_arg1 : FVec F S8x1x256x4x2x64 .f32) (main_arg2 : FVec F S8x1x256x4x128 .f32) (main_arg3 : FVec F S1x4x64 .f32) (main_arg4 : FVec F S1x128 .f32) : IVec S_ 1 :=
  let main_v0 : FVec F S12288x3072 .f32 := Host.absf main_arg0
  let main_cst : FVec F S_ .f32 := constant S_ .f32 0x7F800000#32
  let main_v1 : FVec F S12288x3072 .f32 := broadcastInDim S12288x3072 ![] bcast_S_S12288x3072 main_cst
  let main_v2 : IVec S12288x3072 1 := cmpf .olt main_v0 main_v1
  let main_v3 : FVec F S8x1x256x4x2x64 .f32 := Host.absf main_arg1
  let main_cst_0 : FVec F S_ .f32 := constant S_ .f32 0x7F800000#32
  let main_v4 : FVec F S8x1x256x4x2x64 .f32 := broadcastInDim S8x1x256x4x2x64 ![] bcast_S_S8x1x256x4x2x64 main_cst_0
  let main_v5 : IVec S8x1x256x4x2x64 1 := cmpf .olt main_v3 main_v4
  let main_v6 : FVec F S8x1x256x4x128 .f32 := Host.absf main_arg2
  let main_cst_1 : FVec F S_ .f32 := constant S_ .f32 0x7F800000#32
  let main_v7 : FVec F S8x1x256x4x128 .f32 := broadcastInDim S8x1x256x4x128 ![] bcast_S_S8x1x256x4x128 main_cst_1
  let main_v8 : IVec S8x1x256x4x128 1 := cmpf .olt main_v6 main_v7
  let main_v9 : FVec F S1x4x64 .f32 := Host.absf main_arg3
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  let main_c : IVec S_ 1 := constantI S_ 1 1#1
  let main_v12 : IVec S_ 1 := (fun x v => Host.reduce IntOp.andi x v reducesTo_S12288x3072_S_d0_1 h_S_) main_v2 main_c
  let main_c_3 : IVec S_ 1 := constantI S_ 1 1#1
  let main_v13 : IVec S_ 1 := (fun x v => Host.reduce IntOp.andi x v reducesTo_S8x1x256x4x2x64_S_d0_1_2_3_4_5 h_S_) main_v5 main_c_3
  let main_c_4 : IVec S_ 1 := constantI S_ 1 1#1
  let main_v14 : IVec S_ 1 := (fun x v => Host.reduce IntOp.andi x v reducesTo_S8x1x256x4x128_S_d0_1_2_3_4 h_S_) main_v8 main_c_4
  let main_c_5 : IVec S_ 1 := constantI S_ 1 1#1
  let main_v15 : IVec S_ 1 := (fun x v => Host.reduce IntOp.andi x v reducesTo_S1x4x64_S_d0_1_2 h_S_) main_v11 main_c_5
  fn_part1 (F := F) main_v12 main_v13 main_v14 main_v15
-- ==== Pre_tables.lean ====
abbrev S112 : Shape := ⟨1, ![112]⟩
abbrev S1 : Shape := ⟨1, ![1]⟩
abbrev S28672x8x128 : Shape := ⟨3, ![28672, 8, 128]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S112 : S_.BroadcastsInDim S112 (![] : Fin 0 → Fin S112.rank)
  reducesTo_S112_S_d0 : S112.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S112 32) (main_arg1 : IVec S1 32) (main_arg2 : FVec F S28672x8x128 .f32) (main_arg3 : FVec F S2x16x1024x512 .f32) (main_arg4 : FVec F S2x16x1024x512 .f32) (main_arg5 : FVec F S2x16x512x1024 .f32) : IVec S_ 1 :=
  let main_c : IVec S_ 32 := constantI S_ 32 0#32
  let main_v0 : IVec S112 32 := broadcastInDim S112 ![] bcast_S_S112 main_c
  let main_v1 : IVec S112 1 := cmpi .sge main_arg0 main_v0
  let main_c_0 : IVec S_ 1 := constantI S_ 1 1#1
  let main_v2 : IVec S_ 1 := (fun x v => Host.reduce IntOp.andi x v reducesTo_S112_S_d0 h_S_) main_v1 main_c_0
  let main_c_1 : IVec S_ 32 := constantI S_ 32 16#32
  let main_v3 : IVec S112 32 := broadcastInDim S112 ![] bcast_S_S112 main_c_1
  let main_v4 : IVec S112 1 := cmpi .slt main_arg0 main_v3
  let main_c_2 : IVec S_ 1 := constantI S_ 1 1#1
  let main_v5 : IVec S_ 1 := (fun x v => Host.reduce IntOp.andi x v reducesTo_S112_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 112#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S12288x3072 : Shape := ⟨2, ![12288, 3072]⟩
abbrev S8x1x256x4x2x64 : Shape := ⟨6, ![8, 1, 256, 4, 2, 64]⟩
abbrev S8x1x256x4x128 : Shape := ⟨5, ![8, 1, 256, 4, 128]⟩
abbrev S1x4x64 : Shape := ⟨3, ![1, 4, 64]⟩
abbrev S1x128 : Shape := ⟨2, ![1, 128]⟩
abbrev S8x256x4x2x64 : Shape := ⟨5, ![8, 256, 4, 2, 64]⟩
abbrev S8x256x512 : Shape := ⟨3, ![8, 256, 512]⟩
abbrev S8x256x4x128 : Shape := ⟨4, ![8, 256, 4, 128]⟩
abbrev S4x64 : Shape := ⟨2, ![4, 64]⟩
abbrev S128 : Shape := ⟨1, ![128]⟩
abbrev S1024 : Shape := ⟨1, ![1024]⟩
abbrev S16 : Shape := ⟨1, ![16]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S8192x512 : Shape := ⟨2, ![8192, 512]⟩
abbrev S1x256x128 : Shape := ⟨3, ![1, 256, 128]⟩
abbrev S1x64 : Shape := ⟨2, ![1, 64]⟩
abbrev S1 : Shape := ⟨1, ![1]⟩
abbrev S1x1 : Shape := ⟨2, ![1, 1]⟩
abbrev S1024x256 : Shape := ⟨2, ![1024, 256]⟩
abbrev S256x128 : Shape := ⟨2, ![256, 128]⟩
abbrev S256x256 : Shape := ⟨2, ![256, 256]⟩
abbrev S1x256x64 : Shape := ⟨3, ![1, 256, 64]⟩
abbrev S256x64 : Shape := ⟨2, ![256, 64]⟩
abbrev S1024x1024 : Shape := ⟨2, ![1024, 1024]⟩

abbrev nBuf : Space → Nat
  | .hbm => 90
  | .vmem => 17
  | .smem => 0
  | _ => 0

abbrev bufTy : (tb : Table) → Fin (tcTables nBuf tb) → BufTy
  | .hbm, ⟨0, _⟩ => ⟨S12288x3072, .f32⟩
  | .hbm, ⟨1, _⟩ => ⟨S8x1x256x4x2x64, .f32⟩
  | .hbm, ⟨2, _⟩ => ⟨S8x1x256x4x128, .f32⟩
  | .hbm, ⟨3, _⟩ => ⟨S1x4x64, .f32⟩
  | .hbm, ⟨4, _⟩ => ⟨S1x128, .f32⟩
  | .hbm, ⟨5, _⟩ => ⟨S8x256x4x2x64, .f32⟩
  | .hbm, ⟨6, _⟩ => ⟨S8x256x512, .f32⟩
  | .hbm, ⟨7, _⟩ => ⟨S8x256x4x128, .f32⟩
  | .hbm, ⟨8, _⟩ => ⟨S8x256x512, .f32⟩
  | .hbm, ⟨9, _⟩ => ⟨S4x64, .f32⟩
  | .hbm, ⟨10, _⟩ => ⟨S128, .f32⟩
  | .hbm, ⟨11, _⟩ => ⟨S1024, .i32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024, .f32⟩
  | .hbm, ⟨39, _⟩ => ⟨S1024x1, .f32⟩
  | .hbm, ⟨40, _⟩ => ⟨S1x16, .f32⟩
  | .hbm, ⟨41, _⟩ => ⟨S1024x16, .f32⟩
  | .hbm, ⟨42, _⟩ => ⟨S1024x16, .f32⟩
  | .hbm, ⟨43, _⟩ => ⟨S1024x16, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S_, .i1⟩
  | .hbm, ⟨60, _⟩ => ⟨S1024, .i1⟩
  | .hbm, ⟨61, _⟩ => ⟨S1024, .i1⟩
  | .hbm, ⟨62, _⟩ => ⟨S1024, .i1⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S1024, .f32⟩
  | .hbm, ⟨67, _⟩ => ⟨S1024x1, .f32⟩
  | .hbm, ⟨68, _⟩ => ⟨S1x16, .f32⟩
  | .hbm, ⟨69, _⟩ => ⟨S1024x16, .f32⟩
  | .hbm, ⟨70, _⟩ => ⟨S1024x16, .f32⟩
  | .hbm, ⟨71, _⟩ => ⟨S1024x16, .f32⟩
  | .hbm, ⟨72, _⟩ => ⟨S1024x16, .f32⟩
  | .hbm, ⟨73, _⟩ => ⟨S1024x16, .f32⟩
  | .hbm, ⟨74, _⟩ => ⟨S1024x64, .f32⟩
  | .hbm, ⟨75, _⟩ => ⟨S1024x16, .f32⟩
  | .hbm, ⟨76, _⟩ => ⟨S1024x16, .f32⟩
  | .hbm, ⟨77, _⟩ => ⟨S1024x16, .f32⟩
  | .hbm, ⟨78, _⟩ => ⟨S1024x16, .f32⟩
  | .hbm, ⟨79, _⟩ => ⟨S1024x16, .f32⟩
  | .hbm, ⟨80, _⟩ => ⟨S1024x16, .f32⟩
  | .hbm, ⟨81, _⟩ => ⟨S1024x64, .f32⟩
  | .hbm, ⟨82, _⟩ => ⟨S1x1024x1x64, .f32⟩
  | .hbm, ⟨83, _⟩ => ⟨S1x1024x2x64, .f32⟩
  | .hbm, ⟨84, _⟩ => ⟨S1024x128, .f32⟩
  | .hbm, ⟨85, _⟩ => ⟨S1x1024x1x64, .f32⟩
  | .hbm, ⟨86, _⟩ => ⟨S1x1024x2x64, .f32⟩
  | .hbm, ⟨87, _⟩ => ⟨S1024x128, .f32⟩
  | .hbm, ⟨88, _⟩ => ⟨S1x128, .f32⟩
  | .hbm, ⟨89, _⟩ => ⟨S8192x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1024x128, .f32⟩
  | .local _ .vmem, ⟨11, _⟩ => ⟨S1024x128, .f32⟩
  | .local _ .vmem, ⟨12, _⟩ => ⟨S4x64, .f32⟩
  | .local _ .vmem, ⟨13, _⟩ => ⟨S1x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let arg2 : BitVec 32 := BitVec.ofNat 32 (i 2).val
  let c1024_i32 : BitVec 32 := 1024#32
  let v20 : BitVec 32 := Scalar.muli arg2 c1024_i32
  v20
def k0_off1 (i : grid0.Coords) : Fin 2 → Nat :=
  let arg2 : BitVec 32 := BitVec.ofNat 32 (i 2).val
  let c1024_i32 : BitVec 32 := 1024#32
  let v20 : BitVec 32 := Scalar.muli arg2 c1024_i32
  let v21 : BitVec 32 := v20
  let v23 : Index := Scalar.indexCast v21
  let c0_6 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c20_i32 : BitVec 32 := 20#32
  let v1 : BitVec 32 := Scalar.addi c20_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S12288x3072 : Shape := ⟨2, ![12288, 3072]⟩
abbrev S8x1x256x4x2x64 : Shape := ⟨6, ![8, 1, 256, 4, 2, 64]⟩
abbrev S8x1x256x4x128 : Shape := ⟨5, ![8, 1, 256, 4, 128]⟩
abbrev S1x4x64 : Shape := ⟨3, ![1, 4, 64]⟩
abbrev S1x128 : Shape := ⟨2, ![1, 128]⟩
abbrev S8192x3072 : Shape := ⟨2, ![8192, 3072]⟩
abbrev S8x1024x3072 : Shape := ⟨3, ![8, 1024, 3072]⟩
abbrev S8x1024x512 : Shape := ⟨3, ![8, 1024, 512]⟩
abbrev S8x1024x4x2x64 : Shape := ⟨5, ![8, 1024, 4, 2, 64]⟩
abbrev S8x1024x4x128 : Shape := ⟨4, ![8, 1024, 4, 128]⟩
abbrev S1024 : Shape := ⟨1, ![1024]⟩
abbrev S16 : Shape := ⟨1, ![16]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x1x1x16 : Shape := ⟨4, ![1024, 1, 1, 16]⟩
abbrev S8x1024x4x2x16 : Shape := ⟨5, ![8, 1024, 4, 2, 16]⟩
abbrev S1x1024x1x1x16 : Shape := ⟨5, ![1, 1024, 1, 1, 16]⟩
abbrev S8x256x4x2x64 : Shape := ⟨5, ![8, 256, 4, 2, 64]⟩
abbrev S8x1280x4x2x64 : Shape := ⟨5, ![8, 1280, 4, 2, 64]⟩
abbrev S8x256x4x128 : Shape := ⟨4, ![8, 256, 4, 128]⟩
abbrev S8x1280x4x128 : Shape := ⟨4, ![8, 1280, 4, 128]⟩
abbrev S4x64 : Shape := ⟨2, ![4, 64]⟩
abbrev S1x64 : Shape := ⟨2, ![1, 64]⟩
abbrev S64 : Shape := ⟨1, ![64]⟩
abbrev S8x4x2x1024x1280 : Shape := ⟨5, ![8, 4, 2, 1024, 1280]⟩
abbrev S8x4x2x1024 : Shape := ⟨4, ![8, 4, 2, 1024]⟩
abbrev S8x4x2x1024x1 : Shape := ⟨5, ![8, 4, 2, 1024, 1]⟩
abbrev S8x4x1x1024x1280 : Shape := ⟨5, ![8, 4, 1, 1024, 1280]⟩
abbrev S8x4x1024x1280 : Shape := ⟨4, ![8, 4, 1024, 1280]⟩
abbrev S8x4x128x1024 : Shape := ⟨4, ![8, 4, 128, 1024]⟩
abbrev S128 : Shape := ⟨1, ![128]⟩
abbrev S8x1024x4 : Shape := ⟨3, ![8, 1024, 4]⟩
abbrev S8x1024x4x1 : Shape := ⟨4, ![8, 1024, 4, 1]⟩
abbrev S1x1x1x128 : Shape := ⟨4, ![1, 1, 1, 128]⟩
abbrev S8192x512 : Shape := ⟨2, ![8192, 512]⟩

abbrev nBuf : Space → Nat
  | .hbm => 290
  | .vmem => 0
  | .smem => 0
  | _ => 0

abbrev hbmTy0_0 (i : Nat) : BufTy := match i % 128 with
  | 0 => ⟨S12288x3072, .f32⟩
  | 1 => ⟨S8x1x256x4x2x64, .f32⟩
  | 2 => ⟨S8x1x256x4x128, .f32⟩
  | 3 => ⟨S1x4x64, .f32⟩
  | 4 => ⟨S1x128, .f32⟩
  | 5 => ⟨S8192x3072, .f32⟩
  | 6 => ⟨S8x1024x3072, .f32⟩
  | 7 => ⟨S8x1024x512, .f32⟩
  | 8 => ⟨S8x1024x4x2x64, .f32⟩
  | 9 => ⟨S8x1024x512, .f32⟩
  | 10 => ⟨S8x1024x4x2x64, .f32⟩
  | 11 => ⟨S8x1024x512, .f32⟩
  | 12 => ⟨S8x1024x4x128, .f32⟩
  | 13 => ⟨S1024, .i32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .i32⟩
  | 23 => ⟨S_, .i32⟩
  | 24 => ⟨S1024, .i32⟩
  | 25 => ⟨S1024, .i32⟩
  | 26 => ⟨S1024, .i32⟩
  | 27 => ⟨S_, .i32⟩
  | 28 => ⟨S1024, .i32⟩
  | 29 => ⟨S1024, .i1⟩
  | 30 => ⟨S1024, .i32⟩
  | 31 => ⟨S1024, .i32⟩
  | 32 => ⟨S_, .i32⟩
  | 33 => ⟨S1024, .i32⟩
  | 34 => ⟨S1024, .i1⟩
  | 35 => ⟨S1024, .i1⟩
  | 36 => ⟨S_, .i32⟩
  | 37 => ⟨S1024, .i32⟩
  | 38 => ⟨S1024, .i32⟩
  | 39 => ⟨S1024, .i32⟩
  | 40 => ⟨S1024, .f32⟩
  | 41 => ⟨S1024x1, .f32⟩
  | 42 => ⟨S1x16, .f32⟩
  | 43 => ⟨S1024x16, .f32⟩
  | 44 => ⟨S1024x16, .f32⟩
  | 45 => ⟨S1024x16, .f32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i1⟩
  | 60 => ⟨S_, .i32⟩
  | 61 => ⟨S_, .i1⟩
  | 62 => ⟨S1024, .i1⟩
  | 63 => ⟨S1024, .i1⟩
  | 64 => ⟨S1024, .i1⟩
  | 65 => ⟨S1024, .i32⟩
  | 66 => ⟨S1024, .i32⟩
  | 67 => ⟨S1024, .i32⟩
  | 68 => ⟨S1024, .f32⟩
  | 69 => ⟨S1024x1, .f32⟩
  | 70 => ⟨S1x16, .f32⟩
  | 71 => ⟨S1024x16, .f32⟩
  | 72 => ⟨S1024x16, .f32⟩
  | 73 => ⟨S1024x16, .f32⟩
  | 74 => ⟨S1024x16, .f32⟩
  | 75 => ⟨S1024x1x1x16, .f32⟩
  | 76 => ⟨S1024x16, .f32⟩
  | 77 => ⟨S1024x1x1x16, .f32⟩
  | 78 => ⟨S1024x16, .f32⟩
  | 79 => ⟨S1024x1x1x16, .f32⟩
  | 80 => ⟨S1024x16, .f32⟩
  | 81 => ⟨S1024x1x1x16, .f32⟩
  | 82 => ⟨S8x1024x4x2x16, .f32⟩
  | 83 => ⟨S8x1024x4x2x16, .f32⟩
  | 84 => ⟨S8x1024x4x2x16, .f32⟩
  | 85 => ⟨S8x1024x4x2x16, .f32⟩
  | 86 => ⟨S1x1024x1x1x16, .f32⟩
  | 87 => ⟨S8x1024x4x2x16, .f32⟩
  | 88 => ⟨S8x1024x4x2x16, .f32⟩
  | 89 => ⟨S1x1024x1x1x16, .f32⟩
  | 90 => ⟨S8x1024x4x2x16, .f32⟩
  | 91 => ⟨S8x1024x4x2x16, .f32⟩
  | 92 => ⟨S8x1024x4x2x16, .f32⟩
  | 93 => ⟨S1x1024x1x1x16, .f32⟩
  | 94 => ⟨S8x1024x4x2x16, .f32⟩
  | 95 => ⟨S8x1024x4x2x16, .f32⟩
  | 96 => ⟨S1x1024x1x1x16, .f32⟩
  | 97 => ⟨S8x1024x4x2x16, .f32⟩
  | 98 => ⟨S8x1024x4x2x16, .f32⟩
  | 99 => ⟨S8x1024x4x2x16, .f32⟩
  | 100 => ⟨S1x1024x1x1x16, .f32⟩
  | 101 => ⟨S8x1024x4x2x16, .f32⟩
  | 102 => ⟨S8x1024x4x2x16, .f32⟩
  | 103 => ⟨S1x1024x1x1x16, .f32⟩
  | 104 => ⟨S8x1024x4x2x16, .f32⟩
  | 105 => ⟨S8x1024x4x2x16, .f32⟩
  | 106 => ⟨S8x1024x4x2x16, .f32⟩
  | 107 => ⟨S1x1024x1x1x16, .f32⟩
  | 108 => ⟨S8x1024x4x2x16, .f32⟩
  | 109 => ⟨S8x1024x4x2x16, .f32⟩
  | 110 => ⟨S1x1024x1x1x16, .f32⟩
  | 111 => ⟨S8x1024x4x2x16, .f32⟩
  | 112 => ⟨S8x1024x4x2x16, .f32⟩
  | 113 => ⟨S8x1024x4x2x16, .f32⟩
  | 114 => ⟨S8x1024x4x2x64, .f32⟩
  | 115 => ⟨S1024, .i32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S_, .i32⟩
  | 125 => ⟨S_, .i32⟩
  | 126 => ⟨S1024, .i32⟩
  | 127 => ⟨S1024, .i32⟩
  | _ => ⟨S12288x3072, .f32⟩

abbrev hbmTy0_1 (i : Nat) : BufTy := match i % 128 with
  | 0 => ⟨S1024, .i32⟩
  | 1 => ⟨S_, .i32⟩
  | 2 => ⟨S1024, .i32⟩
  | 3 => ⟨S1024, .i1⟩
  | 4 => ⟨S1024, .i32⟩
  | 5 => ⟨S1024, .i32⟩
  | 6 => ⟨S_, .i32⟩
  | 7 => ⟨S1024, .i32⟩
  | 8 => ⟨S1024, .i1⟩
  | 9 => ⟨S1024, .i1⟩
  | 10 => ⟨S_, .i32⟩
  | 11 => ⟨S1024, .i32⟩
  | 12 => ⟨S1024, .i32⟩
  | 13 => ⟨S1024, .i32⟩
  | 14 => ⟨S1024, .f32⟩
  | 15 => ⟨S1024x1, .f32⟩
  | 16 => ⟨S1x16, .f32⟩
  | 17 => ⟨S1024x16, .f32⟩
  | 18 => ⟨S1024x16, .f32⟩
  | 19 => ⟨S1024x16, .f32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i1⟩
  | 34 => ⟨S_, .i32⟩
  | 35 => ⟨S_, .i1⟩
  | 36 => ⟨S1024, .i1⟩
  | 37 => ⟨S1024, .i1⟩
  | 38 => ⟨S1024, .i1⟩
  | 39 => ⟨S1024, .i32⟩
  | 40 => ⟨S1024, .i32⟩
  | 41 => ⟨S1024, .i32⟩
  | 42 => ⟨S1024, .f32⟩
  | 43 => ⟨S1024x1, .f32⟩
  | 44 => ⟨S1x16, .f32⟩
  | 45 => ⟨S1024x16, .f32⟩
  | 46 => ⟨S1024x16, .f32⟩
  | 47 => ⟨S1024x16, .f32⟩
  | 48 => ⟨S1024x16, .f32⟩
  | 49 => ⟨S1024x1x1x16, .f32⟩
  | 50 => ⟨S1024x16, .f32⟩
  | 51 => ⟨S1024x1x1x16, .f32⟩
  | 52 => ⟨S1024x16, .f32⟩
  | 53 => ⟨S1024x1x1x16, .f32⟩
  | 54 => ⟨S1024x16, .f32⟩
  | 55 => ⟨S1024x1x1x16, .f32⟩
  | 56 => ⟨S8x1024x4x2x16, .f32⟩
  | 57 => ⟨S8x1024x4x2x16, .f32⟩
  | 58 => ⟨S8x1024x4x2x16, .f32⟩
  | 59 => ⟨S8x1024x4x2x16, .f32⟩
  | 60 => ⟨S1x1024x1x1x16, .f32⟩
  | 61 => ⟨S8x1024x4x2x16, .f32⟩
  | 62 => ⟨S8x1024x4x2x16, .f32⟩
  | 63 => ⟨S1x1024x1x1x16, .f32⟩
  | 64 => ⟨S8x1024x4x2x16, .f32⟩
  | 65 => ⟨S8x1024x4x2x16, .f32⟩
  | 66 => ⟨S8x1024x4x2x16, .f32⟩
  | 67 => ⟨S1x1024x1x1x16, .f32⟩
  | 68 => ⟨S8x1024x4x2x16, .f32⟩
  | 69 => ⟨S8x1024x4x2x16, .f32⟩
  | 70 => ⟨S1x1024x1x1x16, .f32⟩
  | 71 => ⟨S8x1024x4x2x16, .f32⟩
  | 72 => ⟨S8x1024x4x2x16, .f32⟩
  | 73 => ⟨S8x1024x4x2x16, .f32⟩
  | 74 => ⟨S1x1024x1x1x16, .f32⟩
  | 75 => ⟨S8x1024x4x2x16, .f32⟩
  | 76 => ⟨S8x1024x4x2x16, .f32⟩
  | 77 => ⟨S1x1024x1x1x16, .f32⟩
  | 78 => ⟨S8x1024x4x2x16, .f32⟩
  | 79 => ⟨S8x1024x4x2x16, .f32⟩
  | 80 => ⟨S8x1024x4x2x16, .f32⟩
  | 81 => ⟨S1x1024x1x1x16, .f32⟩
  | 82 => ⟨S8x1024x4x2x16, .f32⟩
  | 83 => ⟨S8x1024x4x2x16, .f32⟩
  | 84 => ⟨S1x1024x1x1x16, .f32⟩
  | 85 => ⟨S8x1024x4x2x16, .f32⟩
  | 86 => ⟨S8x1024x4x2x16, .f32⟩
  | 87 => ⟨S8x1024x4x2x16, .f32⟩
  | 88 => ⟨S8x1024x4x2x64, .f32⟩
  | 89 => ⟨S8x256x4x2x64, .f32⟩
  | 90 => ⟨S8x1280x4x2x64, .f32⟩
  | 91 => ⟨S8x256x4x128, .f32⟩
  | 92 => ⟨S8x1280x4x128, .f32⟩
  | 93 => ⟨S4x64, .f32⟩
  | 94 => ⟨S1x64, .f32⟩
  | 95 => ⟨S64, .f32⟩
  | 96 => ⟨S1x64, .f32⟩
  | 97 => ⟨S64, .f32⟩
  | 98 => ⟨S64, .f32⟩
  | 99 => ⟨S_, .f32⟩
  | 100 => ⟨S_, .f32⟩
  | 101 => ⟨S_, .f32⟩
  | 102 => ⟨S1x64, .f32⟩
  | 103 => ⟨S64, .f32⟩
  | 104 => ⟨S1x64, .f32⟩
  | 105 => ⟨S64, .f32⟩
  | 106 => ⟨S64, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S8x4x2x1024x1280, .f32⟩
  | 114 => ⟨S_, .f32⟩
  | 115 => ⟨S8x4x2x1024x1280, .f32⟩
  | 116 => ⟨S8x4x2x1024x1280, .f32⟩
  | 117 => ⟨S_, .f32⟩
  | 118 => ⟨S8x4x2x1024, .f32⟩
  | 119 => ⟨S_, .f32⟩
  | 120 => ⟨S8x4x2x1024, .f32⟩
  | 121 => ⟨S8x4x2x1024, .f32⟩
  | 122 => ⟨S8x4x2x1024x1, .f32⟩
  | 123 => ⟨S8x4x2x1024x1280, .f32⟩
  | 124 => ⟨S8x4x2x1024x1280, .f32⟩
  | 125 => ⟨S8x4x2x1024x1280, .f32⟩
  | 126 => ⟨S_, .f32⟩
  | 127 => ⟨S8x4x2x1024, .f32⟩
  | _ => ⟨S12288x3072, .f32⟩

abbrev hbmTy0_2 (i : Nat) : BufTy := match i % 128 with
  | 0 => ⟨S8x4x2x1024x1, .f32⟩
  | 1 => ⟨S8x4x2x1024x1280, .f32⟩
  | 2 => ⟨S8x4x2x1024x1280, .f32⟩
  | 3 => ⟨S8x4x1x1024x1280, .f32⟩
  | 4 => ⟨S8x4x1024x1280, .f32⟩
  | 5 => ⟨S8x4x1x1024x1280, .f32⟩
  | 6 => ⟨S8x4x1024x1280, .f32⟩
  | 7 => ⟨S8x4x1024x1280, .f32⟩
  | 8 => ⟨S8x4x1024x1280, .f32⟩
  | 9 => ⟨S8x4x1024x1280, .f32⟩
  | 10 => ⟨S8x4x128x1024, .f32⟩
  | 11 => ⟨S8x1024x4x128, .f32⟩
  | 12 => ⟨S128, .f32⟩
  | 13 => ⟨S8x1024x4x128, .f32⟩
  | 14 => ⟨S_, .f32⟩
  | 15 => ⟨S8x1024x4, .f32⟩
  | 16 => ⟨S8x1024x4x1, .f32⟩
  | 17 => ⟨S_, .f32⟩
  | 18 => ⟨S8x1024x4x1, .f32⟩
  | 19 => ⟨S8x1024x4x1, .f32⟩
  | 20 => ⟨S_, .f32⟩
  | 21 => ⟨S8x1024x4x1, .f32⟩
  | 22 => ⟨S8x1024x4x1, .f32⟩
  | 23 => ⟨S8x1024x4x1, .f32⟩
  | 24 => ⟨S8x1024x4x128, .f32⟩
  | 25 => ⟨S8x1024x4x128, .f32⟩
  | 26 => ⟨S1x1x1x128, .f32⟩
  | 27 => ⟨S8x1024x4x128, .f32⟩
  | 28 => ⟨S8x1024x4x128, .f32⟩
  | 29 => ⟨S_, .f32⟩
  | 30 => ⟨S8x1024x4x128, .f32⟩
  | 31 => ⟨S8x1024x4x128, .f32⟩
  | 32 => ⟨S8192x512, .f32⟩
  | 33 => ⟨S8192x512, .bf16⟩
  | _ => ⟨S12288x3072, .f32⟩

abbrev hbmTy (i : Nat) : BufTy := match i / 128 with
  | 0 => hbmTy0_0 i
  | 1 => hbmTy0_1 i
  | 2 => hbmTy0_2 i
  | _ => ⟨S12288x3072, .f32⟩

abbrev bufTy : (tb : Table) → Fin (tcTables nBuf tb) → BufTy
  | .hbm, ⟨i, _⟩ => hbmTy i
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_1 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_2 : Ref sig .tc := ⟨.hbm, 118, rfl⟩
abbrev main_v73 : Ref sig .tc := ⟨.hbm, 119, rfl⟩
abbrev main_v74 : Ref sig .tc := ⟨.hbm, 120, rfl⟩
abbrev main_cst_3 : Ref sig .tc := ⟨.hbm, 121, rfl⟩
abbrev main_v75 : Ref sig .tc := ⟨.hbm, 122, rfl⟩
abbrev main_v76 : Ref sig .tc := ⟨.hbm, 123, rfl⟩
abbrev main_c_4 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_c : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_0 : Ref sig .tc := ⟨.hbm, 138, rfl⟩
abbrev main_call2_v12 : Ref sig .tc := ⟨.hbm, 139, rfl⟩
abbrev main_call2_v13 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_c_5 : Ref sig .tc := ⟨.hbm, 148, rfl⟩
abbrev main_call3_v0 : Ref sig .tc := ⟨.hbm, 149, rfl⟩
abbrev main_call3_c : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_c_1 : Ref sig .tc := ⟨.hbm, 156, rfl⟩
abbrev main_call3_v5 : Ref sig .tc := ⟨.hbm, 157, rfl⟩
abbrev main_call3_v6 : Ref sig .tc := ⟨.hbm, 158, rfl⟩
abbrev main_call3_c_2 : Ref sig .tc := ⟨.hbm, 159, rfl⟩
abbrev main_call3_v7 : Ref sig .tc := ⟨.hbm, 160, rfl⟩
abbrev main_call3_v8 : Ref sig .tc := ⟨.hbm, 161, rfl⟩
abbrev main_call3_c_3 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_v12 : Ref sig .tc := ⟨.hbm, 166, rfl⟩
abbrev main_call3_v13 : Ref sig .tc := ⟨.hbm, 167, rfl⟩
abbrev main_call3_v14 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_6 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_cst_7 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_cst_8 : Ref sig .tc := ⟨.hbm, 239, rfl⟩
abbrev main_v152 : Ref sig .tc := ⟨.hbm, 240, rfl⟩
abbrev main_v153 : Ref sig .tc := ⟨.hbm, 241, rfl⟩
abbrev main_cst_9 : Ref sig .tc := ⟨.hbm, 242, rfl⟩
abbrev main_v154 : Ref sig .tc := ⟨.hbm, 243, rfl⟩
abbrev main_v155 : Ref sig .tc := ⟨.hbm, 244, rfl⟩
abbrev main_cst_10 : Ref sig .tc := ⟨.hbm, 245, rfl⟩
abbrev main_v156 : Ref sig .tc := ⟨.hbm, 246, rfl⟩
abbrev main_cst_11 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_cst_12 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_cst_13 : Ref sig .tc := ⟨.hbm, 270, rfl⟩
abbrev main_v178 : Ref sig .tc := ⟨.hbm, 271, rfl⟩
abbrev main_v179 : Ref sig .tc := ⟨.hbm, 272, rfl⟩
abbrev main_cst_14 : Ref sig .tc := ⟨.hbm, 273, rfl⟩
abbrev main_v180 : Ref sig .tc := ⟨.hbm, 274, rfl⟩
abbrev main_v181 : Ref sig .tc := ⟨.hbm, 275, rfl⟩
abbrev main_cst_15 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_cst_16 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩

abbrev nD : Nat := 1
abbrev τ : Topo := Topo.v7x

variable {F : FTy → Type} [FloatOps F]
-- ==== Project.lean ====
abbrev S16x256x1024 : Shape := ⟨3, ![16, 256, 1024]⟩
abbrev S8x1024x1024 : Shape := ⟨3, ![8, 1024, 1024]⟩
abbrev S16x6x1024 : Shape := ⟨3, ![16, 6, 1024]⟩
abbrev S1x1024x3072 : Shape := ⟨3, ![1, 1024, 3072]⟩
abbrev S4096x1024 : Shape := ⟨2, ![4096, 1024]⟩
abbrev S8192x1024 : Shape := ⟨2, ![8192, 1024]⟩
abbrev S1024x3072 : Shape := ⟨2, ![1024, 3072]⟩
abbrev S12288x3072 : Shape := ⟨2, ![12288, 3072]⟩
abbrev S512x1024 : Shape := ⟨2, ![512, 1024]⟩
abbrev S1x6x1024 : Shape := ⟨3, ![1, 6, 1024]⟩
abbrev S512x3072 : Shape := ⟨2, ![512, 3072]⟩
abbrev S6x1024 : Shape := ⟨2, ![6, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x6x1024, .f32⟩
  | .hbm, ⟨3, _⟩ => ⟨S1x1024x3072, .f32⟩
  | .hbm, ⟨4, _⟩ => ⟨S4096x1024, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S12288x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x3072, .bf16⟩
  | .local _ .vmem, ⟨7, _⟩ => ⟨S512x3072, .f32⟩
  | .local _ .vmem, ⟨8, _⟩ => ⟨S512x3072, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectReferenceIdeal.lean ====
abbrev S16x256x1024 : Shape := ⟨3, ![16, 256, 1024]⟩
abbrev S8x1024x1024 : Shape := ⟨3, ![8, 1024, 1024]⟩
abbrev S16x6x1024 : Shape := ⟨3, ![16, 6, 1024]⟩
abbrev S1x1024x3072 : Shape := ⟨3, ![1, 1024, 3072]⟩
abbrev S1x6x1024 : Shape := ⟨3, ![1, 6, 1024]⟩
abbrev S6x1024 : Shape := ⟨2, ![6, 1024]⟩
abbrev S8x6x1024 : Shape := ⟨3, ![8, 6, 1024]⟩
abbrev S1x1024 : Shape := ⟨2, ![1, 1024]⟩
abbrev S1024 : Shape := ⟨1, ![1024]⟩
abbrev S_ : Shape := ⟨0, ![]⟩
abbrev S1x1x1024 : Shape := ⟨3, ![1, 1, 1024]⟩
abbrev S8x1x1024 : Shape := ⟨3, ![8, 1, 1024]⟩
abbrev S8x1024 : Shape := ⟨2, ![8, 1024]⟩
abbrev S1024x3072 : Shape := ⟨2, ![1024, 3072]⟩
abbrev S16x256x3072 : Shape := ⟨3, ![16, 256, 3072]⟩
abbrev S8x1024x3072 : Shape := ⟨3, ![8, 1024, 3072]⟩
abbrev S4096x3072 : Shape := ⟨2, ![4096, 3072]⟩
abbrev S8192x3072 : Shape := ⟨2, ![8192, 3072]⟩
abbrev S12288x3072 : Shape := ⟨2, ![12288, 3072]⟩

abbrev nBuf : Space → Nat
  | .hbm => 40
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x6x1024, .f32⟩
  | .hbm, ⟨3, _⟩ => ⟨S1x1024x3072, .f32⟩
  | .hbm, ⟨4, _⟩ => ⟨S1x6x1024, .f32⟩
  | .hbm, ⟨5, _⟩ => ⟨S6x1024, .f32⟩
  | .hbm, ⟨6, _⟩ => ⟨S8x6x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1x1024, .f32⟩
  | .hbm, ⟨13, _⟩ => ⟨S16x256x1024, .f32⟩
  | .hbm, ⟨14, _⟩ => ⟨S16x256x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x1024x1024, .f32⟩
  | .hbm, ⟨27, _⟩ => ⟨S8x1024x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x1024x1024, .f32⟩
  | .hbm, ⟨32, _⟩ => ⟨S8x1024x1024, .f32⟩
  | .hbm, ⟨33, _⟩ => ⟨S1024x3072, .f32⟩
  | .hbm, ⟨34, _⟩ => ⟨S16x256x3072, .f32⟩
  | .hbm, ⟨35, _⟩ => ⟨S1024x3072, .f32⟩
  | .hbm, ⟨36, _⟩ => ⟨S8x1024x3072, .f32⟩
  | .hbm, ⟨37, _⟩ => ⟨S4096x3072, .f32⟩
  | .hbm, ⟨38, _⟩ => ⟨S8192x3072, .f32⟩
  | .hbm, ⟨39, _⟩ => ⟨S12288x3072, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Experts.lean ====
abbrev S112 : Shape := ⟨1, ![112]⟩
abbrev S1 : Shape := ⟨1, ![1]⟩
abbrev S28672x8x128 : Shape := ⟨3, ![28672, 8, 128]⟩
abbrev S2x16x1024x512 : Shape := ⟨4, ![2, 16, 1024, 512]⟩
abbrev S2x16x512x1024 : Shape := ⟨4, ![2, 16, 512, 1024]⟩
abbrev S256x8x128 : Shape := ⟨3, ![256, 8, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S32x8x8x128 : Shape := ⟨4, ![32, 8, 8, 128]⟩
abbrev S8x32x8x128 : Shape := ⟨4, ![8, 32, 8, 128]⟩
abbrev S8x256x128 : Shape := ⟨3, ![8, 256, 128]⟩
abbrev S1x256x128 : Shape := ⟨3, ![1, 256, 128]⟩
abbrev S256x128 : Shape := ⟨2, ![256, 128]⟩
abbrev S256x1024 : Shape := ⟨2, ![256, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S28672x8x128, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S28672x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x8x128, .f32⟩
  | .local _ .vmem, ⟨9, _⟩ => ⟨S256x8x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S112, .i32⟩
  | .local _ .smem, ⟨1, _⟩ => ⟨S1, .i32⟩
  | _, _ => ⟨S28672x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S112 : Shape := ⟨1, ![112]⟩
abbrev S1 : Shape := ⟨1, ![1]⟩
abbrev S28672x8x128 : Shape := ⟨3, ![28672, 8, 128]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S28672x1024 : Shape := ⟨2, ![28672, 1024]⟩
abbrev S112x1 : Shape := ⟨2, ![112, 1]⟩
abbrev S112x256 : Shape := ⟨2, ![112, 256]⟩
abbrev S28672 : Shape := ⟨1, ![28672]⟩
abbrev S_ : Shape := ⟨0, ![]⟩
abbrev S28672x1 : Shape := ⟨2, ![28672, 1]⟩
abbrev S1x16 : Shape := ⟨2, ![1, 16]⟩
abbrev S28672x16 : Shape := ⟨2, ![28672, 16]⟩
abbrev S16x512x28672 : Shape := ⟨3, ![16, 512, 28672]⟩
abbrev S16x28672x512 : Shape := ⟨3, ![16, 28672, 512]⟩
abbrev S16x28672 : Shape := ⟨2, ![16, 28672]⟩
abbrev S16x28672x1 : Shape := ⟨3, ![16, 28672, 1]⟩
abbrev S16x28672x1024 : Shape := ⟨3, ![16, 28672, 1024]⟩

abbrev nBuf : Space → Nat
  | .hbm => 56
  | .vmem => 0
  | .smem => 0
  | _ => 0

abbrev bufTy : (tb : Table) → Fin (tcTables nBuf tb) → BufTy
  | .hbm, ⟨0, _⟩ => ⟨S112, .i32⟩
  | .hbm, ⟨1, _⟩ => ⟨S1, .i32⟩
  | .hbm, ⟨2, _⟩ => ⟨S28672x8x128, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S1x16x1024x512, .f32⟩
  | .hbm, ⟨7, _⟩ => ⟨S16x1024x512, .f32⟩
  | .hbm, ⟨8, _⟩ => ⟨S1x16x1024x512, .f32⟩
  | .hbm, ⟨9, _⟩ => ⟨S16x1024x512, .f32⟩
  | .hbm, ⟨10, _⟩ => ⟨S1x16x512x1024, .f32⟩
  | .hbm, ⟨11, _⟩ => ⟨S16x512x1024, .f32⟩
  | .hbm, ⟨12, _⟩ => ⟨S28672x1024, .f32⟩
  | .hbm, ⟨13, _⟩ => ⟨S112x1, .i32⟩
  | .hbm, ⟨14, _⟩ => ⟨S112x256, .i32⟩
  | .hbm, ⟨15, _⟩ => ⟨S28672, .i32⟩
  | .hbm, ⟨16, _⟩ => ⟨S28672, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S28672, .i32⟩
  | .hbm, ⟨21, _⟩ => ⟨S28672, .i1⟩
  | .hbm, ⟨22, _⟩ => ⟨S28672x1, .i1⟩
  | .hbm, ⟨23, _⟩ => ⟨S28672x1, .i32⟩
  | .hbm, ⟨24, _⟩ => ⟨S1x16, .i32⟩
  | .hbm, ⟨25, _⟩ => ⟨S28672x16, .i32⟩
  | .hbm, ⟨26, _⟩ => ⟨S28672x16, .i32⟩
  | .hbm, ⟨27, _⟩ => ⟨S28672x16, .i1⟩
  | .hbm, ⟨28, _⟩ => ⟨S28672x16, .f32⟩
  | .hbm, ⟨29, _⟩ => ⟨S_, .f32⟩
  | .hbm, ⟨30, _⟩ => ⟨S_, .f32⟩
  | .hbm, ⟨31, _⟩ => ⟨S28672x16, .i1⟩
  | .hbm, ⟨32, _⟩ => ⟨S28672x16, .f32⟩
  | .hbm, ⟨33, _⟩ => ⟨S28672x16, .f32⟩
  | .hbm, ⟨34, _⟩ => ⟨S16x512x28672, .f32⟩
  | .hbm, ⟨35, _⟩ => ⟨S16x28672x512, .f32⟩
  | .hbm, ⟨36, _⟩ => ⟨S16x28672x512, .f32⟩
  | .hbm, ⟨37, _⟩ => ⟨S16x28672x512, .f32⟩
  | .hbm, ⟨38, _⟩ => ⟨S_, .f32⟩
  | .hbm, ⟨39, _⟩ => ⟨S16x28672x512, .f32⟩
  | .hbm, ⟨40, _⟩ => ⟨S16x28672x512, .f32⟩
  | .hbm, ⟨41, _⟩ => ⟨S_, .f32⟩
  | .hbm, ⟨42, _⟩ => ⟨S16x28672x512, .f32⟩
  | .hbm, ⟨43, _⟩ => ⟨S16x28672x512, .f32⟩
  | .hbm, ⟨44, _⟩ => ⟨S16x28672x512, .f32⟩
  | .hbm, ⟨45, _⟩ => ⟨S16x512x28672, .f32⟩
  | .hbm, ⟨46, _⟩ => ⟨S16x28672x512, .f32⟩
  | .hbm, ⟨47, _⟩ => ⟨S16x28672x512, .f32⟩
  | .hbm, ⟨48, _⟩ => ⟨S16x28672, .f32⟩
  | .hbm, ⟨49, _⟩ => ⟨S16x28672x1, .f32⟩
  | .hbm, ⟨50, _⟩ => ⟨S16x28672x1024, .f32⟩
  | .hbm, ⟨51, _⟩ => ⟨S16x28672x1024, .f32⟩
  | .hbm, ⟨52, _⟩ => ⟨S16x28672x1024, .f32⟩
  | .hbm, ⟨53, _⟩ => ⟨S_, .f32⟩
  | .hbm, ⟨54, _⟩ => ⟨S28672x1024, .f32⟩
  | .hbm, ⟨55, _⟩ => ⟨S28672x8x128, .f32⟩
  | _, _ => ⟨S112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== ExpertsOdd.lean ====
abbrev S112 : Shape := ⟨1, ![112]⟩
abbrev S1 : Shape := ⟨1, ![1]⟩
abbrev S28672x8x128 : Shape := ⟨3, ![28672, 8, 128]⟩
abbrev S2x16x1024x512 : Shape := ⟨4, ![2, 16, 1024, 512]⟩
abbrev S2x16x512x1024 : Shape := ⟨4, ![2, 16, 512, 1024]⟩
abbrev S256x8x128 : Shape := ⟨3, ![256, 8, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S32x8x8x128 : Shape := ⟨4, ![32, 8, 8, 128]⟩
abbrev S8x32x8x128 : Shape := ⟨4, ![8, 32, 8, 128]⟩
abbrev S8x256x128 : Shape := ⟨3, ![8, 256, 128]⟩
abbrev S1x256x128 : Shape := ⟨3, ![1, 256, 128]⟩
abbrev S256x128 : Shape := ⟨2, ![256, 128]⟩
abbrev S256x1024 : Shape := ⟨2, ![256, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S28672x8x128, .f32⟩
  | .hbm, ⟨1, _⟩ => ⟨S2x16x1024x512, .f32⟩
  | .hbm, ⟨2, _⟩ => ⟨S2x16x1024x512, .f32⟩
  | .hbm, ⟨3, _⟩ => ⟨S2x16x512x1024, .f32⟩
  | .hbm, ⟨4, _⟩ => ⟨S28672x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x8x128, .f32⟩
  | .local _ .vmem, ⟨9, _⟩ => ⟨S256x8x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S112, .i32⟩
  | .local _ .smem, ⟨1, _⟩ => ⟨S1, .i32⟩
  | _, _ => ⟨S28672x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S112) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsOddReferenceIdeal.lean ====
abbrev S112 : Shape := ⟨1, ![112]⟩
abbrev S1 : Shape := ⟨1, ![1]⟩
abbrev S28672x8x128 : Shape := ⟨3, ![28672, 8, 128]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S28672x1024 : Shape := ⟨2, ![28672, 1024]⟩
abbrev S112x1 : Shape := ⟨2, ![112, 1]⟩
abbrev S112x256 : Shape := ⟨2, ![112, 256]⟩
abbrev S28672 : Shape := ⟨1, ![28672]⟩
abbrev S_ : Shape := ⟨0, ![]⟩
abbrev S28672x1 : Shape := ⟨2, ![28672, 1]⟩
abbrev S1x16 : Shape := ⟨2, ![1, 16]⟩
abbrev S28672x16 : Shape := ⟨2, ![28672, 16]⟩
abbrev S16x512x28672 : Shape := ⟨3, ![16, 512, 28672]⟩
abbrev S16x28672x512 : Shape := ⟨3, ![16, 28672, 512]⟩
abbrev S16x28672 : Shape := ⟨2, ![16, 28672]⟩
abbrev S16x28672x1 : Shape := ⟨3, ![16, 28672, 1]⟩
abbrev S16x28672x1024 : Shape := ⟨3, ![16, 28672, 1024]⟩

abbrev nBuf : Space → Nat
  | .hbm => 56
  | .vmem => 0
  | .smem => 0
  | _ => 0

abbrev bufTy : (tb : Table) → Fin (tcTables nBuf tb) → BufTy
  | .hbm, ⟨0, _⟩ => ⟨S112, .i32⟩
  | .hbm, ⟨1, _⟩ => ⟨S1, .i32⟩
  | .hbm, ⟨2, _⟩ => ⟨S28672x8x128, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S1x16x1024x512, .f32⟩
  | .hbm, ⟨7, _⟩ => ⟨S16x1024x512, .f32⟩
  | .hbm, ⟨8, _⟩ => ⟨S1x16x1024x512, .f32⟩
  | .hbm, ⟨9, _⟩ => ⟨S16x1024x512, .f32⟩
  | .hbm, ⟨10, _⟩ => ⟨S1x16x512x1024, .f32⟩
  | .hbm, ⟨11, _⟩ => ⟨S16x512x1024, .f32⟩
  | .hbm, ⟨12, _⟩ => ⟨S28672x1024, .f32⟩
  | .hbm, ⟨13, _⟩ => ⟨S112x1, .i32⟩
  | .hbm, ⟨14, _⟩ => ⟨S112x256, .i32⟩
  | .hbm, ⟨15, _⟩ => ⟨S28672, .i32⟩
  | .hbm, ⟨16, _⟩ => ⟨S28672, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S28672, .i32⟩
  | .hbm, ⟨21, _⟩ => ⟨S28672, .i1⟩
  | .hbm, ⟨22, _⟩ => ⟨S28672x1, .i1⟩
  | .hbm, ⟨23, _⟩ => ⟨S28672x1, .i32⟩
  | .hbm, ⟨24, _⟩ => ⟨S1x16, .i32⟩
  | .hbm, ⟨25, _⟩ => ⟨S28672x16, .i32⟩
  | .hbm, ⟨26, _⟩ => ⟨S28672x16, .i32⟩
  | .hbm, ⟨27, _⟩ => ⟨S28672x16, .i1⟩
  | .hbm, ⟨28, _⟩ => ⟨S28672x16, .f32⟩
  | .hbm, ⟨29, _⟩ => ⟨S_, .f32⟩
  | .hbm, ⟨30, _⟩ => ⟨S_, .f32⟩
  | .hbm, ⟨31, _⟩ => ⟨S28672x16, .i1⟩
  | .hbm, ⟨32, _⟩ => ⟨S28672x16, .f32⟩
  | .hbm, ⟨33, _⟩ => ⟨S28672x16, .f32⟩
  | .hbm, ⟨34, _⟩ => ⟨S16x512x28672, .f32⟩
  | .hbm, ⟨35, _⟩ => ⟨S16x28672x512, .f32⟩
  | .hbm, ⟨36, _⟩ => ⟨S16x28672x512, .f32⟩
  | .hbm, ⟨37, _⟩ => ⟨S16x28672x512, .f32⟩
  | .hbm, ⟨38, _⟩ => ⟨S_, .f32⟩
  | .hbm, ⟨39, _⟩ => ⟨S16x28672x512, .f32⟩
  | .hbm, ⟨40, _⟩ => ⟨S16x28672x512, .f32⟩
  | .hbm, ⟨41, _⟩ => ⟨S_, .f32⟩
  | .hbm, ⟨42, _⟩ => ⟨S16x28672x512, .f32⟩
  | .hbm, ⟨43, _⟩ => ⟨S16x28672x512, .f32⟩
  | .hbm, ⟨44, _⟩ => ⟨S16x28672x512, .f32⟩
  | .hbm, ⟨45, _⟩ => ⟨S16x512x28672, .f32⟩
  | .hbm, ⟨46, _⟩ => ⟨S16x28672x512, .f32⟩
  | .hbm, ⟨47, _⟩ => ⟨S16x28672x512, .f32⟩
  | .hbm, ⟨48, _⟩ => ⟨S16x28672, .f32⟩
  | .hbm, ⟨49, _⟩ => ⟨S16x28672x1, .f32⟩
  | .hbm, ⟨50, _⟩ => ⟨S16x28672x1024, .f32⟩
  | .hbm, ⟨51, _⟩ => ⟨S16x28672x1024, .f32⟩
  | .hbm, ⟨52, _⟩ => ⟨S16x28672x1024, .f32⟩
  | .hbm, ⟨53, _⟩ => ⟨S_, .f32⟩
  | .hbm, ⟨54, _⟩ => ⟨S28672x1024, .f32⟩
  | .hbm, ⟨55, _⟩ => ⟨S28672x8x128, .f32⟩
  | _, _ => ⟨S112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Proof.Soft.lean ====
module

public import Idealize.ShloMosaic.Lib.Pipeline.ValueKit

@[expose] public section

noncomputable section

open Idealize.ShloMosaic

/-! # Softmax over the extended reals, at real arguments

The two programs shift their scores by different maxima and divide at different places; at real
scores both are the plain quotients of exponentials below. -/

namespace Attn

/-- A value of the extended reals that is a real number. -/
def IsReal (x : EReal) : Prop := ∃ r : ℝ, x = (r : EReal)

/-- A real number is one. -/
theorem isReal_coe (r : ℝ) : IsReal (r : EReal) := ⟨r, rfl⟩

/-- Zero is a real number. -/
theorem isReal_zero : IsReal (0 : EReal) := ⟨0, rfl⟩

/-- Sums of two reals are real. -/
theorem IsReal.add {x y : EReal} (hx : IsReal x) (hy : IsReal y) : IsReal (x + y) := by
  obtain ⟨a, rfl⟩ := hx; obtain ⟨b, rfl⟩ := hy; exact ⟨a + b, rfl⟩

/-- Products of two reals are real. -/
theorem IsReal.mul {x y : EReal} (hx : IsReal x) (hy : IsReal y) : IsReal (x * y) := by
  obtain ⟨a, rfl⟩ := hx; obtain ⟨b, rfl⟩ := hy; exact ⟨a * b, rfl⟩

/-- Differences of two reals are real. -/
theorem IsReal.sub {x y : EReal} (hx : IsReal x) (hy : IsReal y) : IsReal (x - y) := by
  obtain ⟨a, rfl⟩ := hx; obtain ⟨b, rfl⟩ := hy; exact ⟨a - b, rfl⟩

/-- The negative of a real is real. -/
theorem IsReal.neg {x : EReal} (hx : IsReal x) : IsReal (-x) := by
  obtain ⟨a, rfl⟩ := hx; exact ⟨-a, rfl⟩

/-- A value that is neither infinity is real. -/
theorem isReal_of_ne {x : EReal} (ht : x ≠ ⊤) (hb : x ≠ ⊥) : IsReal x :=
  ⟨x.toReal, (EReal.coe_toReal ht hb).symm⟩

/-- A real is not the upper infinity. -/
theorem IsReal.ne_top {x : EReal} (hx : IsReal x) : x ≠ ⊤ := by
  obtain ⟨a, rfl⟩ := hx; exact EReal.coe_ne_top a

/-- A real is not the lower infinity. -/
theorem IsReal.ne_bot {x : EReal} (hx : IsReal x) : x ≠ ⊥ := by
  obtain ⟨a, rfl⟩ := hx; exact EReal.coe_ne_bot a

/-- A finite sum of reals, summed among the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite sums of reals are real. -/
theorem IsReal.sum {ι : Type*} (s : Finset ι) (f : ι → EReal) (h : ∀ i, IsReal (f i)) :
    IsReal (∑ i ∈ s, f i) := by
  choose g hg using h
  exact ⟨∑ i ∈ s, g i, by rw [coe_sum]; exact Finset.sum_congr rfl fun i _ => hg i⟩

/-- The running maximum of at least one real, begun below the upper infinity, is real. -/
theorem isReal_fold_max {n : ℕ} (hn : 0 < n) (b : EReal) (hb : b ≠ ⊤) (f : Fin n → EReal)
    (h : ∀ i, IsReal (f i)) : IsReal (Finset.univ.fold max b f) := by
  refine isReal_of_ne (ne_of_lt ?_) (ne_of_gt ?_)
  · rw [Finset.fold_max_lt]
    exact ⟨lt_top_iff_ne_top.2 hb, fun x _ => lt_top_iff_ne_top.2 (h x).ne_top⟩
  · rw [Finset.lt_fold_max]
    exact Or.inr ⟨⟨0, hn⟩, Finset.mem_univ _, bot_lt_iff_ne_bot.2 (h _).ne_bot⟩

/-- The larger of a value below the upper infinity and a real is real. -/
theorem IsReal.max_left {x y : EReal} (hx : x ≠ ⊤) (hy : IsReal y) : IsReal (max x y) := by
  refine isReal_of_ne (ne_of_lt ?_) (ne_of_gt ?_)
  · exact max_lt (lt_top_iff_ne_top.2 hx) (lt_top_iff_ne_top.2 hy.ne_top)
  · exact lt_of_lt_of_le (bot_lt_iff_ne_bot.2 hy.ne_bot) (le_max_right _ _)

/-- The exponential of a difference of reals. -/
theorem exp_sub_coe (a b : ℝ) :
    Ideal.exp ((a : EReal) - (b : EReal)) = ((Real.exp a * Real.exp (-b) : ℝ) : EReal) := by
  rw [← EReal.coe_sub, Ideal.exp_coe, ← Real.exp_add, sub_eq_add_neg]

/-- Division of reals, the divisor not zero. -/
theorem div_coe_coe (a b : ℝ) (hb : b ≠ 0) : Ideal.div (a : EReal) (b : EReal) = ((a / b : ℝ) : EReal) := by
  rw [Ideal.div_coe hb, ← EReal.coe_mul, mul_one_div]

/-- The reference's softmax weight: the shift drops out. -/
theorem weight_coe {n : ℕ} (S : Fin n → EReal) (s : Fin n → ℝ) (hS : ∀ k, S k = (s k : EReal)) (N : ℝ)
    (k : Fin n) :
    Ideal.div (Ideal.exp (S k - (N : EReal))) (∑ j, Ideal.exp (S j - (N : EReal)))
      = ((Real.exp (s k) / ∑ j, Real.exp (s j) : ℝ) : EReal) := by
  have hpos : 0 < ∑ j, Real.exp (s j) := Finset.sum_pos (fun _ _ => Real.exp_pos _) ⟨k, Finset.mem_univ _⟩
  have he : ∀ j, Ideal.exp (S j - (N : EReal)) = ((Real.exp (s j) * Real.exp (-N) : ℝ) : EReal) := fun j => by
    rw [hS, exp_sub_coe]
  simp only [he]
  rw [← coe_sum, ← Finset.sum_mul, div_coe_coe _ _ (mul_pos hpos (Real.exp_pos _)).ne']
  rw [mul_div_mul_right _ _ (Real.exp_pos _).ne']

/-- The kernel's weighted mean over two groups of keys, its denominator a sum of the same exponentials
    times one: the shift drops out. -/
theorem mean_coe {a b : ℕ} (ha : 0 < a) (sl vl : Fin a → ℝ) (sc vc : Fin b → ℝ) (M : ℝ) :
    Ideal.div ((∑ i, Ideal.exp ((sl i : EReal) - (M : EReal)) * (vl i : EReal))
        + (∑ i, Ideal.exp ((sc i : EReal) - (M : EReal)) * (vc i : EReal)))
      ((∑ i, Ideal.exp ((sl i : EReal) - (M : EReal)) * 1)
        + (∑ i, Ideal.exp ((sc i : EReal) - (M : EReal)) * 1))
      = (((∑ i, Real.exp (sl i) * vl i + ∑ i, Real.exp (sc i) * vc i)
          / (∑ i, Real.exp (sl i) + ∑ i, Real.exp (sc i)) : ℝ) : EReal) := by
  have h1 : 0 < ∑ i, Real.exp (sl i) := Finset.sum_pos (fun _ _ => Real.exp_pos _) ⟨⟨0, ha⟩, Finset.mem_univ _⟩
  have h2 : 0 ≤ ∑ i, Real.exp (sc i) := Finset.sum_nonneg fun _ _ => (Real.exp_pos _).le
  simp only [exp_sub_coe, mul_one, zero_add, ← EReal.coe_mul, ← coe_sum, ← EReal.coe_add]
  have e1 : (∑ i, Real.exp (sl i) * Real.exp (-M) * vl i + ∑ i, Real.exp (sc i) * Real.exp (-M) * vc i)
      = (∑ i, Real.exp (sl i) * vl i + ∑ i, Real.exp (sc i) * vc i) * Real.exp (-M) := by
    rw [add_mul, Finset.sum_mul, Finset.sum_mul]
    congr 1 <;> exact Finset.sum_congr rfl fun _ _ => by ring
  have e2 : (∑ i, Real.exp (sl i) * Real.exp (-M) + ∑ i, Real.exp (sc i) * Real.exp (-M))
      = (∑ i, Real.exp (sl i) + ∑ i, Real.exp (sc i)) * Real.exp (-M) := by
    rw [add_mul, Finset.sum_mul, Finset.sum_mul]
  rw [e1, e2, div_coe_coe _ _ (mul_pos (by linarith) (Real.exp_pos _)).ne', mul_div_mul_right _ _ (Real.exp_pos _).ne']

/-- THE ATTENTION EQUATION. Over keys of which the first `b` are cached and the next `a` local, the kernel's
    difference of two weighted means is the reference's weighted sum by the difference of the two softmaxes. -/
theorem attend_eq {a b n : ℕ} (hn : b + a = n) (ha : 0 < a) (lam : ℝ)
    (S0 S1 V : Fin n → EReal) (N0 N1 M0 M1 : EReal)
    (sl0 sl1 vl : Fin a → EReal) (sc0 sc1 vc : Fin b → EReal)
    (hS0c : ∀ i : Fin b, S0 ⟨i, by omega⟩ = sc0 i) (hS0l : ∀ i : Fin a, S0 ⟨b + i, by omega⟩ = sl0 i)
    (hS1c : ∀ i : Fin b, S1 ⟨i, by omega⟩ = sc1 i) (hS1l : ∀ i : Fin a, S1 ⟨b + i, by omega⟩ = sl1 i)
    (hVc : ∀ i : Fin b, V ⟨i, by omega⟩ = vc i) (hVl : ∀ i : Fin a, V ⟨b + i, by omega⟩ = vl i)
    (rl0 : ∀ i, IsReal (sl0 i)) (rl1 : ∀ i, IsReal (sl1 i)) (rc0 : ∀ i, IsReal (sc0 i)) (rc1 : ∀ i, IsReal (sc1 i))
    (rvl : ∀ i, IsReal (vl i)) (rvc : ∀ i, IsReal (vc i))
    (rN0 : IsReal N0) (rN1 : IsReal N1) (rM0 : IsReal M0) (rM1 : IsReal M1) :
    Ideal.div ((∑ i, Ideal.exp (sl0 i - M0) * vl i) + (∑ i, Ideal.exp (sc0 i - M0) * vc i))
        ((∑ i, Ideal.exp (sl0 i - M0) * 1) + (∑ i, Ideal.exp (sc0 i - M0) * 1))
      - (lam : EReal) * Ideal.div ((∑ i, Ideal.exp (sl1 i - M1) * vl i) + (∑ i, Ideal.exp (sc1 i - M1) * vc i))
        ((∑ i, Ideal.exp (sl1 i - M1) * 1) + (∑ i, Ideal.exp (sc1 i - M1) * 1))
      = ∑ k, V k * (Ideal.div (Ideal.exp (S0 k - N0)) (∑ j, Ideal.exp (S0 j - N0))
          - (lam : EReal) * Ideal.div (Ideal.exp (S1 k - N1)) (∑ j, Ideal.exp (S1 j - N1))) := by
  subst hn
  choose sl0' e1 using rl0; choose sl1' e2 using rl1; choose sc0' e3 using rc0; choose sc1' e4 using rc1
  choose vl' e5 using rvl; choose vc' e6 using rvc
  obtain ⟨N0', rfl⟩ := rN0; obtain ⟨N1', rfl⟩ := rN1; obtain ⟨M0', rfl⟩ := rM0; obtain ⟨M1', rfl⟩ := rM1
  obtain rfl : sl0 = fun i => (sl0' i : EReal) := funext e1
  obtain rfl : sl1 = fun i => (sl1' i : EReal) := funext e2
  obtain rfl : sc0 = fun i => (sc0' i : EReal) := funext e3
  obtain rfl : sc1 = fun i => (sc1' i : EReal) := funext e4
  obtain rfl : vl = fun i => (vl' i : EReal) := funext e5
  obtain rfl : vc = fun i => (vc' i : EReal) := funext e6
  have app : ∀ (X : Fin (b + a) → EReal) (xc : Fin b → ℝ) (xl : Fin a → ℝ)
      (_ : ∀ i : Fin b, X ⟨i, by omega⟩ = xc i) (_ : ∀ i : Fin a, X ⟨b + i, by omega⟩ = xl i) (k : Fin (b + a)),
      X k = ((Fin.append xc xl k : ℝ) : EReal) := by
    intro X xc xl h1 h2 k
    refine Fin.addCases (fun i => ?_) (fun i => ?_) k
    · rw [Fin.append_left]; exact h1 i
    · rw [Fin.append_right]; exact h2 i
  have hS0 := app S0 sc0' sl0' hS0c hS0l
  have hS1 := app S1 sc1' sl1' hS1c hS1l
  have hV := app V vc' vl' hVc hVl
  rw [mean_coe ha, mean_coe ha]
  simp only [weight_coe S0 _ hS0, weight_coe S1 _ hS1, hV]
  simp only [← EReal.coe_mul, ← EReal.coe_sub, ← coe_sum]
  congr 1
  simp only [Fin.sum_univ_add, Fin.append_left, Fin.append_right]
  have d : ∀ x y : ℝ, x / y = x * y⁻¹ := fun x y => div_eq_mul_inv x y
  rw [add_comm (∑ i, Real.exp (sl0' i)), add_comm (∑ i, Real.exp (sl1' i))]
  generalize (∑ i, Real.exp (sc0' i) + ∑ i, Real.exp (sl0' i)) = L0
  generalize (∑ i, Real.exp (sc1' i) + ∑ i, Real.exp (sl1' i)) = L1
  have t : ∀ {q : ℕ} (v x y : Fin q → ℝ), ∑ i, v i * (Real.exp (x i) / L0 - lam * (Real.exp (y i) / L1))
      = (∑ i, Real.exp (x i) * v i) / L0 - lam * ((∑ i, Real.exp (y i) * v i) / L1) := by
    intro q v x y
    rw [Finset.sum_div, Finset.sum_div, Finset.mul_sum, ← Finset.sum_sub_distrib]
    exact Finset.sum_congr rfl fun _ _ => by ring
  rw [t, t]
  ring

/-- Scaling the queries before the product or the product after it, at reals. -/
theorem scale_sum {n : ℕ} (q k : Fin n → EReal) (c : EReal) (hq : ∀ i, IsReal (q i)) (hk : ∀ i, IsReal (k i))
    (hc : IsReal c) : (∑ i, q i * k i) * c = ∑ i, q i * c * k i := by
  choose q' e1 using hq; choose k' e2 using hk; obtain ⟨c', rfl⟩ := hc
  simp only [e1, e2, ← EReal.coe_mul, ← coe_sum]
  congr 1
  rw [Finset.sum_mul]
  exact Finset.sum_congr rfl fun _ _ => by ring

end Attn

end
-- ==== Proof.Spec.lean ====
module

public import Idealize.ShloMosaic.Lib.Pipeline.ValueKit
public import proofs.«01_k».proof.Proof.Soft

@[expose] public section

noncomputable section

open Idealize.ShloMosaic

/-! # Arrays read at natural numbers, and the rotary embedding

Both programs are brought to arithmetic on natural-number coordinates: an array is read at numbers,
zero outside it, and the rotary embedding of a row is stated once, lane by lane. -/

namespace Attn

/-- A maximum over one axis of real entries, begun below the upper infinity, is real. -/
theorem isReal_reduce_max {s t u : Shape} {a : Fin s.rank} (x : s.Idx → EReal) (init : u.Idx → EReal) (h' : s.ReducesTo [a] t)
    (h : s.Reduces [a] t) (hu : 0 < u.numel) (hn : 0 < s.size a) (hi : init (Shape.Idx.first hu) ≠ ⊤)
    (hx : ∀ i, IsReal (x i)) (j : t.Idx) :
    IsReal (Host.reduce (α := EReal) (FloatOps.maximumf (F := Ideal) (φ := .f32)) x init h' hu j) := by
  rw [Host.reduce_eq_fold_single _ _ _ _ h]
  exact isReal_fold_max hn _ hi _ fun i => hx _

/-- A matrix read at natural numbers, zero outside. -/
def rd2 {A B : ℕ} (z : (⟨2, ![A, B]⟩ : Shape).Idx → EReal) (i j : ℕ) : EReal :=
  if h : i < A ∧ j < B then z (ix2 ⟨i, h.1⟩ ⟨j, h.2⟩) else 0

/-- Reading a matrix at an index is reading it at the index's numbers. -/
theorem rd2_fin {A B : ℕ} (z : (⟨2, ![A, B]⟩ : Shape).Idx → EReal) (a : Fin A) (b : Fin B) :
    z (ix2 a b) = rd2 z a b := by
  rw [rd2, dif_pos ⟨a.isLt, b.isLt⟩]

/-- A matrix of reals reads as reals. -/
theorem isReal_rd2 {A B : ℕ} (z : (⟨2, ![A, B]⟩ : Shape).Idx → EReal) (h : ∀ i, IsReal (z i)) (i j : ℕ) :
    IsReal (rd2 z i j) := by
  unfold rd2; split
  · exact h _
  · exact isReal_zero

/-- One lane of the rotary embedding of a 128-lane row `X` made of two heads of 64: the first 32 lanes of a
    head are turned by the row's angles (cosines `cR`, sines `sR`), the last 32 by the column's (`cC`, `sC`);
    each half is a pair of 16 lanes. -/
def rope (X : ℕ → EReal) (cR sR cC sC : ℕ → EReal) (l : ℕ) : EReal :=
  if l % 64 < 16 then X l * cR (l % 16) - X (l + 16) * sR (l % 16)
  else if l % 64 < 32 then X l * cR (l % 16) + X (l - 16) * sR (l % 16)
  else if l % 64 < 48 then X l * cC (l % 16) - X (l + 16) * sC (l % 16)
  else X l * cC (l % 16) + X (l - 16) * sC (l % 16)

/-- A row of reals turned by real angles is real. -/
theorem isReal_rope {X cR sR cC sC : ℕ → EReal} (hX : ∀ i, IsReal (X i)) (h1 : ∀ i, IsReal (cR i)) (h2 : ∀ i, IsReal (sR i))
    (h3 : ∀ i, IsReal (cC i)) (h4 : ∀ i, IsReal (sC i)) (l : ℕ) : IsReal (rope X cR sR cC sC l) := by
  unfold rope
  split
  · exact ((hX _).mul (h1 _)).sub ((hX _).mul (h2 _))
  split
  · exact ((hX _).mul (h1 _)).add ((hX _).mul (h2 _))
  split
  · exact ((hX _).mul (h3 _)).sub ((hX _).mul (h4 _))
  · exact ((hX _).mul (h3 _)).add ((hX _).mul (h4 _))

/-- The kernel's form of a lane: the row times its cosine, plus the lane 16 away (before or after, by the parity
    of the lane's group of 16) times a sine whose sign is in the table. -/
theorem rope_rotate (X cR sR cC sC : ℕ → EReal) (l : ℕ) (hl : l < 128) :
    X l * (if l % 64 < 32 then cR (l % 16) else cC (l % 16))
      + (if l / 16 % 2 = 1 then X ((l + 112) % 128) else X ((l + 16) % 128))
        * (if l % 64 < 16 then -sR (l % 16) else if l % 64 < 32 then sR (l % 16)
            else if l % 64 < 48 then -sC (l % 16) else sC (l % 16))
      = rope X cR sR cC sC l := by
  unfold rope
  by_cases h1 : l % 64 < 16
  · rw [if_pos (by omega), if_neg (by omega), if_pos h1, if_pos h1, show (l + 16) % 128 = l + 16 by omega,
      mul_neg, sub_eq_add_neg]
  rw [if_neg h1, if_neg h1]
  by_cases h2 : l % 64 < 32
  · rw [if_pos h2, if_pos (by omega), if_pos h2, if_pos h2, show (l + 112) % 128 = l - 16 by omega]
  rw [if_neg h2, if_neg h2, if_neg h2]
  by_cases h3 : l % 64 < 48
  · rw [if_neg (by omega), if_pos h3, if_pos h3, show (l + 16) % 128 = l + 16 by omega,
      mul_neg, sub_eq_add_neg]
  · rw [if_pos (by omega), if_neg h3, if_neg h3, show (l + 112) % 128 = l - 16 by omega]

end Attn

end
-- ==== Proof.KRead.lean ====
module

public import proofs.«01_k».proof.Proof.Gen.KernelIdeal.Value
public import proofs.«01_k».proof.Proof.Spec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Attn
open Cert.KernelIdeal Cert.KernelIdeal.Gen
open _root_.Attn (IsReal rd2 rope)

/-- The blocks of a grid point: its batch and its head. -/
theorem idx : ∀ t : Fin cfg0.N, win0_0.index t = ![4 + t.val / 4, 12 + t.val % 4] ∧ win0_1.index t = ![4 + t.val / 4, 16 + t.val % 4] ∧ win0_2.index t = ![4 + t.val / 4, 20 + t.val % 4]
    ∧ win0_3.index t = ![t.val / 4, 0, t.val % 4] ∧ win0_4.index t = ![t.val / 4, 0, t.val % 4] ∧ win0_5.index t = ![0, 0] ∧ win0_6.index t = ![0, 0] ∧ win0_7.index t = ![0, 0] ∧ win0_8.index t = ![0, 0]
    ∧ win0_9.index t = ![t.val / 4, t.val % 4] ∧ k0_off1 (grid0.coords t) = ![0, 0] :=
  (by decide +kernel : ∀ t : Fin grid0.N, _)

variable (m : (ℓ : Loc nD τ sig) → Buf (Elt Ideal) ℓ)

/-- The queries' block in the projected tokens. -/
theorem b0 (c : Dev nD) (t : Fin cfg0.N) (r : Fin 1024) (l : Fin 128) (h1 h2) :
    iblk m c 0 t (ix2 r l) = m (c.tc.loc main_arg0) (ix2 ⟨4096 + (t.val / 4 * 1024 + r.val), h1⟩ ⟨1536 + (t.val % 4 * 128 + l.val), h2⟩) := by
  blk_ext [iblk, V, idx t]

/-- The keys' block in the projected tokens. -/
theorem b1 (c : Dev nD) (t : Fin cfg0.N) (r : Fin 1024) (l : Fin 128) (h1 h2) :
    iblk m c 1 t (ix2 r l) = m (c.tc.loc main_arg0) (ix2 ⟨4096 + (t.val / 4 * 1024 + r.val), h1⟩ ⟨2048 + (t.val % 4 * 128 + l.val), h2⟩) := by
  blk_ext [iblk, V, idx t]

/-- The values' block in the projected tokens. -/
theorem b2 (c : Dev nD) (t : Fin cfg0.N) (r : Fin 1024) (l : Fin 128) (h1 h2) :
    iblk m c 2 t (ix2 r l) = m (c.tc.loc main_arg0) (ix2 ⟨4096 + (t.val / 4 * 1024 + r.val), h1⟩ ⟨2560 + (t.val % 4 * 128 + l.val), h2⟩) := by
  blk_ext [iblk, V, idx t]

/-- The block of cached keys. -/
theorem b3 (c : Dev nD) (t : Fin cfg0.N) (k : Fin 256) (l : Fin 128) (h1 h2) :
    iblk m c 3 t (ix3 0 k l) = V m c main_v1 (ix3 ⟨t.val / 4, h1⟩ k ⟨t.val % 4 * 128 + l.val, h2⟩) := by
  blk_ext [iblk, idx t]

/-- The block of cached values. -/
theorem b4 (c : Dev nD) (t : Fin cfg0.N) (k : Fin 256) (l : Fin 128) (h1 h2) :
    iblk m c 4 t (ix3 0 k l) = V m c main_v3 (ix3 ⟨t.val / 4, h1⟩ k ⟨t.val % 4 * 128 + l.val, h2⟩) := by
  blk_ext [iblk, idx t]

/-- The block of cosines is the table. -/
theorem b5 (c : Dev nD) (t : Fin cfg0.N) (r : Fin 1024) (l : Fin 128) : iblk m c 5 t (ix2 r l) = V m c main_v39 (ix2 r l) := by
  blk_ext [iblk, idx t]

/-- The block of sines is the table. -/
theorem b6 (c : Dev nD) (t : Fin cfg0.N) (r : Fin 1024) (l : Fin 128) : iblk m c 6 t (ix2 r l) = V m c main_v42 (ix2 r l) := by
  blk_ext [iblk, idx t]

/-- The block of factors is the whole of them. -/
theorem b7 (c : Dev nD) (t : Fin cfg0.N) (a : Fin 4) (d : Fin 64) : iblk m c 7 t (ix2 a d) = V m c main_v4 (ix2 a d) := by
  blk_ext [iblk, idx t]

/-- The block of norm weights is the whole of them. -/
theorem b8 (c : Dev nD) (t : Fin cfg0.N) (d : Fin 128) : iblk m c 8 t (ix2 0 d) = V m c main_v43 (ix2 0 d) := by
  blk_ext [iblk, idx t]

end Cert.KernelIdeal.Attn

end
-- ==== Proof.KTab.lean ====
module

public import proofs.«01_k».proof.Proof.Gen.KernelIdeal.Value
public import proofs.«01_k».proof.Proof.Gen.ReferenceIdeal.Read
public import proofs.«01_k».proof.Proof.Spec
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.KernelIdeal.Attn
open Cert.KernelIdeal Cert.KernelIdeal.Gen
open _root_.Attn (IsReal rd2 rd2_fin rope)

open Cert.ReferenceIdeal.Read
variable (m : (ℓ : Loc nD τ sig) → Buf (Elt Ideal) ℓ)

set_option maxHeartbeats 2000000 in
/-- The kernel's cosine table, as the host line makes it. -/
theorem e39 (c : Dev nD) : V m c main_v39 = shapeCast S1024x128 (broadcastInDim S1x1024x2x64 ![0, 1, 2, 3] bcast_S1x1024x1x64_S1x1024x2x64_0_1_2_3 (shapeCast S1x1024x1x64 (concatenate S1024x64 1 [⟨S1024x16, val_main_v29 (F := Ideal)⟩, ⟨S1024x16, val_main_v29 (F := Ideal)⟩, ⟨S1024x16, val_main_v33 (F := Ideal)⟩, ⟨S1024x16, val_main_v33 (F := Ideal)⟩] concatenates_S1024x16_S1024x16_S1024x16_S1024x16_S1024x64_d1) shapeCasts_S1024x64_S1x1024x1x64)) shapeCasts_S1x1024x2x64_S1024x128 := by
  simp only [V, hostOps0, hostOps0_1, hostOps0_2, hostOps0_3, hostOps0_4, List.flatten_cons, List.flatten_nil, List.append_nil, List.cons_append, List.nil_append]
  after_reads_simp
  rfl

set_option maxHeartbeats 2000000 in
/-- The kernel's sine table, as the host line makes it. -/
theorem e42 (c : Dev nD) : V m c main_v42 = shapeCast S1024x128 (broadcastInDim S1x1024x2x64 ![0, 1, 2, 3] bcast_S1x1024x1x64_S1x1024x2x64_0_1_2_3 (shapeCast S1x1024x1x64 (concatenate S1024x64 1 [⟨S1024x16, (Host.negf (F := Ideal) (s := S1024x16) (φ := .f32) (val_main_v31 (F := Ideal)))⟩, ⟨S1024x16, val_main_v31 (F := Ideal)⟩, ⟨S1024x16, (Host.negf (F := Ideal) (s := S1024x16) (φ := .f32) (val_main_v35 (F := Ideal)))⟩, ⟨S1024x16, val_main_v35 (F := Ideal)⟩] concatenates_S1024x16_S1024x16_S1024x16_S1024x16_S1024x64_d1) shapeCasts_S1024x64_S1x1024x1x64)) shapeCasts_S1x1024x2x64_S1024x128 := by
  simp only [V, hostOps0, hostOps0_1, hostOps0_2, hostOps0_3, hostOps0_4, List.flatten_cons, List.flatten_nil, List.append_nil, List.cons_append, List.nil_append]
  after_reads_simp
  rfl

set_option maxHeartbeats 2000000 in
/-- The factors' operand is the argument, reshaped. -/
theorem e4 (c : Dev nD) : V m c main_v4 = shapeCast S4x64 (m (c.tc.loc main_arg3)) shapeCasts_S1x4x64_S4x64 := by
  simp only [V, hostOps0, hostOps0_1, hostOps0_2, hostOps0_3, hostOps0_4, List.flatten_cons, List.flatten_nil, List.append_nil, List.cons_append, List.nil_append]
  after_reads_simp
  rfl

set_option maxHeartbeats 2000000 in
/-- The norm's operand is the argument, reshaped. -/
theorem e43 (c : Dev nD) : V m c main_v43 = shapeCast S1x128 (shapeCast S128 (m (c.tc.loc main_arg4)) shapeCasts_S1x128_S128) shapeCasts_S128_S1x128 := by
  simp only [V, hostOps0, hostOps0_1, hostOps0_2, hostOps0_3, hostOps0_4, List.flatten_cons, List.flatten_nil, List.append_nil, List.cons_append, List.nil_append]
  after_reads_simp
  rfl

set_option maxHeartbeats 2000000 in
/-- The cached keys' operand is the argument, reshaped. -/
theorem e1 (c : Dev nD) : V m c main_v1 = shapeCast S8x256x512 (shapeCast S8x256x4x2x64 (m (c.tc.loc main_arg1)) shapeCasts_S8x1x256x4x2x64_S8x256x4x2x64) shapeCasts_S8x256x4x2x64_S8x256x512 := by
  simp only [V, hostOps0, hostOps0_1, hostOps0_2, hostOps0_3, hostOps0_4, List.flatten_cons, List.flatten_nil, List.append_nil, List.cons_append, List.nil_append]
  after_reads_simp
  rfl

set_option maxHeartbeats 2000000 in
/-- The cached values' operand is the argument, reshaped. -/
theorem e3 (c : Dev nD) : V m c main_v3 = shapeCast S8x256x512 (shapeCast S8x256x4x128 (m (c.tc.loc main_arg2)) shapeCasts_S8x1x256x4x128_S8x256x4x128) shapeCasts_S8x256x4x128_S8x256x512 := by
  simp only [V, hostOps0, hostOps0_1, hostOps0_2, hostOps0_3, hostOps0_4, List.flatten_cons, List.flatten_nil, List.append_nil, List.cons_append, List.nil_append]
  after_reads_simp
  rfl

/-- Dropping a leading axis of one. -/
theorem sh4 (x : FVec Ideal S1x4x64 .f32) (a : Fin 4) (d : Fin 64) : shapeCast S4x64 x shapeCasts_S1x4x64_S4x64 (ix2 a d) = x (ix3 0 a d) := by
  pointwise

/-- A row made flat and a row again. -/
theorem sh43 (x : FVec Ideal S1x128 .f32) (d : Fin 128) :
    shapeCast S1x128 (shapeCast S128 x shapeCasts_S1x128_S128) shapeCasts_S128_S1x128 (ix2 0 d) = x (ix2 0 d) := by
  pointwise

/-- The heads, halves and widths of the cached keys on one axis. -/
theorem sh1 (x : FVec Ideal S8x1x256x4x2x64 .f32) (b : Fin 8) (k : Fin 256) (h : Fin 4) (j : Fin 2) (d : Fin 64) :
    shapeCast S8x256x512 (shapeCast S8x256x4x2x64 x shapeCasts_S8x1x256x4x2x64_S8x256x4x2x64) shapeCasts_S8x256x4x2x64_S8x256x512
      (ix3 b k ⟨h.val * 128 + (j.val * 64 + d.val), by omega⟩) = x (ix6 b 0 k h j d) := by
  pointwise

/-- The heads and widths of the cached values on one axis. -/
theorem sh3 (x : FVec Ideal S8x1x256x4x128 .f32) (b : Fin 8) (k : Fin 256) (h : Fin 4) (e : Fin 128) :
    shapeCast S8x256x512 (shapeCast S8x256x4x128 x shapeCasts_S8x1x256x4x128_S8x256x4x128) shapeCasts_S8x256x4x128_S8x256x512
      (ix3 b k ⟨h.val * 128 + e.val, by omega⟩) = x (ix5 b 0 k h e) := by
  pointwise

/-- The factors at an index. -/
theorem at4 (c : Dev nD) (a : Fin 4) (d : Fin 64) : V m c main_v4 (ix2 a d) = m (c.tc.loc main_arg3) (ix3 0 a d) :=
  (congrFun (e4 m c) _).trans (sh4 _ a d)

/-- The norm's weight at an index. -/
theorem at43 (c : Dev nD) (d : Fin 128) : V m c main_v43 (ix2 0 d) = m (c.tc.loc main_arg4) (ix2 0 d) :=
  (congrFun (e43 m c) _).trans (sh43 _ d)

/-- The cached keys at an index. -/
theorem at1 (c : Dev nD) (b : Fin 8) (k : Fin 256) (h : Fin 4) (j : Fin 2) (d : Fin 64) :
    V m c main_v1 (ix3 b k ⟨h.val * 128 + (j.val * 64 + d.val), by omega⟩) = m (c.tc.loc main_arg1) (ix6 b 0 k h j d) :=
  (congrFun (e1 m c) _).trans (sh1 _ b k h j d)

/-- The cached values at an index. -/
theorem at3 (c : Dev nD) (b : Fin 8) (k : Fin 256) (h : Fin 4) (e : Fin 128) :
    V m c main_v3 (ix3 b k ⟨h.val * 128 + e.val, by omega⟩) = m (c.tc.loc main_arg2) (ix5 b 0 k h e) :=
  (congrFun (e3 m c) _).trans (sh3 _ b k h e)

/-- A row of sixteen, the remainder taken two ways. -/
theorem rd16 (y : FVec Ideal S1024x16 .f32) (n : Fin 1024) (a : Fin 16) (k : ℕ) (h : a.val = k) : y (ix2 n a) = rd2 y n k := by
  subst h; exact rd2_fin y n a

/-- The four sixteens of a table, twice, read at an index. -/
theorem tile4 (y1 y2 y3 y4 : FVec Ideal S1024x16 .f32) (n : Fin 1024) (l : Fin 128) :
    shapeCast S1024x128 (broadcastInDim S1x1024x2x64 ![0, 1, 2, 3] bcast_S1x1024x1x64_S1x1024x2x64_0_1_2_3 (shapeCast S1x1024x1x64 (concatenate S1024x64 1 [⟨S1024x16, y1⟩, ⟨S1024x16, y2⟩, ⟨S1024x16, y3⟩, ⟨S1024x16, y4⟩] concatenates_S1024x16_S1024x16_S1024x16_S1024x16_S1024x64_d1) shapeCasts_S1024x64_S1x1024x1x64)) shapeCasts_S1x1024x2x64_S1024x128 (ix2 n l)
      = if l.val % 64 < 16 then rd2 y1 n (l.val % 16) else if l.val % 64 < 32 then rd2 y2 n (l.val % 16)
        else if l.val % 64 < 48 then rd2 y3 n (l.val % 16) else rd2 y4 n (l.val % 16) := by
  pointwise
  have hl := l.isLt
  repeat' split
  all_goals first | omega | exact rd16 _ _ _ _ (by dsimp only <;> omega)

/-- The cosine table at an index. -/
theorem at39 (c : Dev nD) (n : Fin 1024) (l : Fin 128) :
    V m c main_v39 (ix2 n l) = if l.val % 64 < 32 then rd2 (val_main_v29 (F := Ideal)) n (l.val % 16) else rd2 (val_main_v33 (F := Ideal)) n (l.val % 16) := by
  refine (congrFun (e39 m c) _).trans ((tile4 _ _ _ _ n l).trans ?_)
  split_ifs <;> first | omega | rfl

/-- A negated table, read in a row. -/
theorem rd_neg (y : FVec Ideal S1024x16 .f32) (n : Fin 1024) (k : ℕ) (h : k < 16) :
    rd2 (Host.negf (F := Ideal) (s := S1024x16) (φ := .f32) y) n k = -rd2 y n k :=
  (rd2_fin _ n ⟨k, h⟩).symm.trans (congrArg (fun a : EReal => -a) (rd2_fin y n ⟨k, h⟩))

/-- The sine table at an index. -/
theorem at42 (c : Dev nD) (n : Fin 1024) (l : Fin 128) :
    V m c main_v42 (ix2 n l) = if l.val % 64 < 16 then -rd2 (val_main_v31 (F := Ideal)) n (l.val % 16)
      else if l.val % 64 < 32 then rd2 (val_main_v31 (F := Ideal)) n (l.val % 16)
      else if l.val % 64 < 48 then -rd2 (val_main_v35 (F := Ideal)) n (l.val % 16) else rd2 (val_main_v35 (F := Ideal)) n (l.val % 16) := by
  refine (congrFun (e42 m c) _).trans ((tile4 _ _ _ _ n l).trans ?_)
  rw [rd_neg _ n _ (by omega), rd_neg _ n _ (by omega)]

end Cert.KernelIdeal.Attn

end
-- ==== Proof.KRope.lean ====
module

public import proofs.«01_k».proof.Proof.Gen.KernelIdeal.Value
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Attn
open Cert.KernelIdeal Cert.KernelIdeal.Gen
open _root_.Attn (IsReal rd2 rope)

/-- A select by a word is a choice by the proposition the word stands for. -/
theorem select_of {α : Type} (C : BitVec 1) (p : Prop) [Decidable p] (h : C = 1#1 ↔ p) (A B : α) :
    Scalar.select C A B = if p then A else B := by
  unfold Scalar.select; split <;> split <;> simp_all

/-- The turned and scaled queries of a block. -/
theorem p13 (x c s) (r : Fin 1024) (l : Fin 128) : k0_pay13 (F := Ideal) x (k0_pay9 c) (k0_pay10 s)
      (iota Kind.tc S1024x128 32 [1] iota_S1024x128_d1_w32) (16#32) k0_pay11 k0_pay12 1#1 (ix2 r l)
    = (x (ix2 r l) * c (ix2 r l) + (if l.val / 16 % 2 = 1 then x (ix2 r ⟨(l.val + 112) % 128, by omega⟩) else x (ix2 r ⟨(l.val + 16) % 128, by omega⟩)) * s (ix2 r l)) * Ideal.ofBits .f32 0x3E000000#32 := by
  pointwise [k0_pay13, k0_pay9, k0_pay10, k0_pay11, k0_pay12]
  refine congrArg₂ (· * ·) (congrArg₂ (· + ·) rfl (congrArg₂ (· * ·) ((select_of _ (l.val / 16 % 2 = 1) ?_ _ _).trans ?_) rfl)) rfl
  · revert l; decide +kernel
  · exact if_congr Iff.rfl (congrArg x (congrArg (ix2 r) (Fin.ext (by show (l.val + 128 - 16) % 128 = (l.val + 112) % 128; omega))))
      (congrArg x (congrArg (ix2 r) (Fin.ext (by show (l.val + 128 - 112) % 128 = (l.val + 16) % 128; omega))))

/-- The turned latent keys of a block. -/
theorem p7 (x c s) (r : Fin 1024) (l : Fin 128) : k0_pay7 (F := Ideal) x (k0_pay1 c) (k0_pay2 s)
      (2#32) k0_pay3 k0_pay4 k0_pay5 k0_pay6 (ix2 r l)
    = (x (ix2 r l) * c (ix2 r l) + (if l.val / 16 % 2 = 1 then x (ix2 r ⟨(l.val + 112) % 128, by omega⟩) else x (ix2 r ⟨(l.val + 16) % 128, by omega⟩)) * s (ix2 r l)) := by
  pointwise [k0_pay7, k0_pay1, k0_pay2, k0_pay3, k0_pay4, k0_pay5, k0_pay6]
  refine congrArg₂ (· + ·) rfl (congrArg₂ (· * ·) ((select_of _ (l.val / 16 % 2 = 1) ?_ _ _).trans ?_) rfl)
  · revert l; decide +kernel
  · exact if_congr Iff.rfl (congrArg x (congrArg (ix2 r) (Fin.ext (by show (l.val + 128 - 16) % 128 = (l.val + 112) % 128; omega))))
      (congrArg x (congrArg (ix2 r) (Fin.ext (by show (l.val + 128 - 112) % 128 = (l.val + 16) % 128; omega))))

end Cert.KernelIdeal.Attn

end
-- ==== Proof.KBlock.lean ====
module

public import proofs.«01_k».proof.Proof.Gen.KernelIdeal.Value
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Attn
open Cert.KernelIdeal Cert.KernelIdeal.Gen
open _root_.Attn (IsReal rd2 rope)

/-- The first cached scores of a block. -/
theorem p18 (q kc) (r : Fin 1024) (k : Fin 256) : k0_pay18 (F := Ideal) q kc (ix2 r k)
    = ∑ d : Fin 64, q (ix2 r ⟨d.val, by omega⟩) * kc (ix3 0 k d) := by
  pointwise [k0_pay18]

/-- The first latent scores of a block. -/
theorem p19 (q kl) (r k : Fin 1024) : k0_pay19 (F := Ideal) q kl (ix2 r k)
    = ∑ d : Fin 64, q (ix2 r ⟨d.val, by omega⟩) * kl (ix2 k d) := by
  pointwise [k0_pay19]

/-- The second cached scores of a block. -/
theorem p20 (q kc) (r : Fin 1024) (k : Fin 256) : k0_pay20 (F := Ideal) q kc (ix2 r k)
    = ∑ d : Fin 64, q (ix2 r ⟨64 + d.val, by omega⟩) * kc (ix3 0 k d) := by
  pointwise [k0_pay20]

/-- The second latent scores of a block. -/
theorem p21 (q kl) (r k : Fin 1024) : k0_pay21 (F := Ideal) q kl (ix2 r k)
    = ∑ d : Fin 64, q (ix2 r ⟨64 + d.val, by omega⟩) * kl (ix2 k d) := by
  pointwise [k0_pay21]

/-- Minus infinity is not plus infinity. -/
theorem hneg : Ideal.ofBits .f32 0xFF800000#32 ≠ ⊤ := by simp [Ideal.ofBits, Ideal.ieee]

/-- The first scores' maximum is real where the scores are. -/
theorem isReal_p22 (q kc kl) (r : Fin 1024) (h1 : ∀ k, IsReal (k0_pay18 (F := Ideal) q kc (ix2 r k)))
    (h2 : ∀ k, IsReal (k0_pay19 (F := Ideal) q kl (ix2 r k))) : IsReal (k0_pay22 (F := Ideal) q kc kl (ix2 r 0)) := by
  have e : k0_pay22 (F := Ideal) q kc kl (ix2 r 0)
      = max (Finset.univ.fold max (Ideal.ofBits .f32 0xFF800000#32) fun k => k0_pay19 (F := Ideal) q kl (ix2 r k))
        (Finset.univ.fold max (Ideal.ofBits .f32 0xFF800000#32) fun k => k0_pay18 (F := Ideal) q kc (ix2 r k)) := by
    pointwise [k0_pay22]
  rw [e]
  exact IsReal.max_left (_root_.Attn.isReal_fold_max (by decide) _ hneg _ h2).ne_top
    (_root_.Attn.isReal_fold_max (by decide) _ hneg _ h1)

/-- The second scores' maximum is real where the scores are. -/
theorem isReal_p23 (q kc kl) (r : Fin 1024) (h1 : ∀ k, IsReal (k0_pay20 (F := Ideal) q kc (ix2 r k)))
    (h2 : ∀ k, IsReal (k0_pay21 (F := Ideal) q kl (ix2 r k))) : IsReal (k0_pay23 (F := Ideal) q kc kl (ix2 r 0)) := by
  have e : k0_pay23 (F := Ideal) q kc kl (ix2 r 0)
      = max (Finset.univ.fold max (Ideal.ofBits .f32 0xFF800000#32) fun k => k0_pay21 (F := Ideal) q kl (ix2 r k))
        (Finset.univ.fold max (Ideal.ofBits .f32 0xFF800000#32) fun k => k0_pay20 (F := Ideal) q kc (ix2 r k)) := by
    pointwise [k0_pay23]
  rw [e]
  exact IsReal.max_left (_root_.Attn.isReal_fold_max (by decide) _ hneg _ h2).ne_top
    (_root_.Attn.isReal_fold_max (by decide) _ hneg _ h1)

/-- The first latent exponentials. -/
theorem p24 (q kc kl) (r k : Fin 1024) : k0_pay24 (F := Ideal) q kc kl (ix2 r k)
    = Ideal.exp (k0_pay19 (F := Ideal) q kl (ix2 r k) - k0_pay22 (F := Ideal) q kc kl (ix2 r 0)) := by
  pointwise [k0_pay24]

/-- The first cached exponentials. -/
theorem p25 (q kc kl) (r : Fin 1024) (k : Fin 256) : k0_pay25 (F := Ideal) q kc kl (ix2 r k)
    = Ideal.exp (k0_pay18 (F := Ideal) q kc (ix2 r k) - k0_pay22 (F := Ideal) q kc kl (ix2 r 0)) := by
  pointwise [k0_pay25]

/-- The latent values, with columns of ones beside them. -/
theorem p16 (x) (k : Fin 1024) (e : Fin 256) : k0_pay16 (F := Ideal) (k0_pay14 x) k0_pay15 (ix2 k e)
    = if h : e.val < 128 then x (ix2 k ⟨e.val, h⟩) else 1 := by
  pointwise [k0_pay16, k0_pay14, k0_pay15]

/-- The cached values, with columns of ones beside them. -/
theorem p17 (x) (k : Fin 256) (e : Fin 256) : k0_pay17 (F := Ideal) x (ix2 k e)
    = if h : e.val < 128 then x (ix3 0 k ⟨e.val, h⟩) else 1 := by
  pointwise [k0_pay17]

/-- The learned factor of the second softmax. -/
theorem p8 (x) : k0_pay8 (F := Ideal) x (ix2 0 0)
    = Ideal.exp (∑ d : Fin 64, x (ix2 0 d) * x (ix2 1 d)) - Ideal.exp (∑ d : Fin 64, x (ix2 2 d) * x (ix2 3 d)) + Ideal.ofBits .f32 0x3E4CCCCD#32 := by
  pointwise [k0_pay8]

/-- A block's result from its attention output `O`. -/
theorem p26 (a1 a2 a3 a4 a5 a6 a7 a8 a9) (r : Fin 1024) (e : Fin 128) (O : Fin 128 → EReal)
    (hO : ∀ e : Fin 128, Ideal.div (∑ x : Fin 1024, a7 (ix2 r x) * a2 (ix2 x ⟨e.val, by omega⟩) + ∑ x : Fin 256, a8 (ix2 r x) * a3 (ix2 x ⟨e.val, by omega⟩))
        (∑ x : Fin 1024, a7 (ix2 r x) * a2 (ix2 x 128) + ∑ x : Fin 256, a8 (ix2 r x) * a3 (ix2 x 128))
      - a1 (ix2 0 0) * Ideal.div (∑ x : Fin 1024, Ideal.exp (a5 (ix2 r x) - a6 (ix2 r 0)) * a2 (ix2 x ⟨e.val, by omega⟩) + ∑ x : Fin 256, Ideal.exp (a4 (ix2 r x) - a6 (ix2 r 0)) * a3 (ix2 x ⟨e.val, by omega⟩))
        (∑ x : Fin 1024, Ideal.exp (a5 (ix2 r x) - a6 (ix2 r 0)) * a2 (ix2 x 128) + ∑ x : Fin 256, Ideal.exp (a4 (ix2 r x) - a6 (ix2 r 0)) * a3 (ix2 x 128)) = O e) :
    k0_pay26 (F := Ideal) a1 a2 a3 a4 a5 a6 a7 a8 a9 (ix2 r e)
      = O e * Ideal.rsqrt (Ideal.div (∑ x, O x * O x) (Ideal.ofBits .f32 0x43000000#32) + Ideal.ofBits .f32 0x3727C5AC#32)
          * a9 (ix2 0 e) * Ideal.ofBits .f32 0x3F4CCCCD#32 := by
  simp only [← hO]
  pointwise [k0_pay26]

end Cert.KernelIdeal.Attn

end
-- ==== Proof.RefA.lean ====
module

public import proofs.«01_k».proof.Proof.Gen.ReferenceIdeal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.ReferenceIdeal.Read
open _root_.Attn (IsReal rd2 rope)

/-- A score: the product of a turned query with a key. -/
theorem r155 (z x1) (b : Fin 8) (h : Fin 4) (j : Fin 2) (r : Fin 1024) (k : Fin 1280) :
    val_main_v155 (F := Ideal) z x1 (ix5 b h j r k)
      = (∑ d, val_main_v69 (F := Ideal) z (ix5 b r h j d) * val_main_v133 (F := Ideal) z x1 (ix5 b k h j d)) * Ideal.ofBits .f32 0x3E000000#32 := by
  have e : val_main_v153 (F := Ideal) z x1 (ix5 b h j r k)
      = ∑ d, val_main_v69 (F := Ideal) z (ix5 b r h j d) * val_main_v133 (F := Ideal) z x1 (ix5 b k h j d) := by
    pointwise [val_main_v153]
  rw [← e]
  pointwise [val_main_v155, val_main_v154, val_main_cst_9]

/-- The keys: the cached ones, then the turned latent ones. -/
theorem r133 (z x1) (b : Fin 8) (h : Fin 4) (j : Fin 2) (k : Fin 1280) (d : Fin 64) :
    val_main_v133 (F := Ideal) z x1 (ix5 b k h j d) = if hk : k.val < 256 then x1 (ix6 b 0 ⟨k.val, hk⟩ h j d)
      else val_main_v131 (F := Ideal) z (ix5 b ⟨k.val - 256, by omega⟩ h j d) := by
  pointwise [val_main_v133, val_main_v132]

/-- The values: the cached ones, then the latent ones. -/
theorem r135 (z x2) (b : Fin 8) (h : Fin 4) (k : Fin 1280) (e : Fin 128) :
    val_main_v135 (F := Ideal) z x2 (ix4 b k h e) = if hk : k.val < 256 then x2 (ix5 b 0 ⟨k.val, hk⟩ h e)
      else rd2 z (4096 + (b.val * 1024 + (k.val - 256))) (2560 + (h.val * 128 + e.val)) := by
  pointwise [val_main_v135, val_main_v134, val_main_v7, val_main_v6, val_main_v1, val_main_v0]
  simp only [_root_.Attn.rd2_fin z]

/-- A softmax weight. -/
theorem r166 (z x1) (b : Fin 8) (h : Fin 4) (j : Fin 2) (r : Fin 1024) (k : Fin 1280) :
    val_main_v166 (F := Ideal) z x1 (ix5 b h j r k)
      = Ideal.div (Ideal.exp (val_main_v155 (F := Ideal) z x1 (ix5 b h j r k) - val_main_v158 (F := Ideal) z x1 (ix4 b h j r)))
          (∑ x : Fin 1280, Ideal.exp (val_main_v155 (F := Ideal) z x1 (ix5 b h j r x) - val_main_v158 (F := Ideal) z x1 (ix4 b h j r))) := by
  pointwise [val_main_v166, val_main_v165, val_main_v164, val_main_v163, val_main_cst_12, val_main_v162, val_main_v161, val_main_v160, val_main_v159]

/-- The learned factor of the second softmax. -/
theorem r152 (x3) : val_main_v152 (F := Ideal) x3 ix0
      = Ideal.exp (∑ x : Fin 64, x3 (ix3 0 0 x) * x3 (ix3 0 1 x)) - Ideal.exp (∑ x : Fin 64, x3 (ix3 0 2 x) * x3 (ix3 0 3 x)) + Ideal.ofBits .f32 0x3E4CCCCD#32 := by
  pointwise [val_main_v152, val_main_v151, val_main_v150, val_main_v149, val_main_v148, val_main_v147, val_main_v146, val_main_v145, val_main_v144, val_main_v143, val_main_v142, val_main_v141, val_main_v140, val_main_v139, val_main_v138, val_main_v137, val_main_v136, val_main_cst_6, val_main_cst_7, val_main_cst_8]

/-- The difference of the two softmax weights. -/
theorem r173 (z x1 x3) (b : Fin 8) (h : Fin 4) (r : Fin 1024) (k : Fin 1280) :
    val_main_v173 (F := Ideal) z x1 x3 (ix4 b h r k)
      = val_main_v166 (F := Ideal) z x1 (ix5 b h 0 r k) - val_main_v152 (F := Ideal) x3 ix0 * val_main_v166 (F := Ideal) z x1 (ix5 b h 1 r k) := by
  have e0 : idx_main_v167 (idx_main_v168 (ix4 b h r k)) = ix5 b h 0 r k := by
    funext a; fin_cases a <;> apply Fin.ext <;> simp [idx_main_v167, idx_main_v168, ix4, ix5] <;> omega
  have e1 : idx_main_v169 (idx_main_v170 (ix4 b h r k)) = ix5 b h 1 r k := by
    funext a; fin_cases a <;> apply Fin.ext <;> simp [idx_main_v169, idx_main_v170, ix4, ix5] <;> omega
  rw [val_main_v173_apply, val_main_v168_apply, val_main_v167_apply, val_main_v172_apply, val_main_v171_apply,
    val_main_v170_apply, val_main_v169_apply, e0, e1]
  rfl

/-- The attention's output before its norm. -/
theorem r175 (z x1 x2 x3) (b : Fin 8) (h : Fin 4) (r : Fin 1024) (e : Fin 128) :
    val_main_v175 (F := Ideal) z x1 x2 x3 (ix4 b r h e)
      = ∑ k : Fin 1280, val_main_v135 (F := Ideal) z x2 (ix4 b k h e) * val_main_v173 (F := Ideal) z x1 x3 (ix4 b h r k) := by
  have e1 : val_main_v175 (F := Ideal) z x1 x2 x3 (ix4 b r h e) = val_main_v174 (F := Ideal) z x1 x2 x3 (ix4 b h e r) := by
    generalize hy : val_main_v174 (F := Ideal) z x1 x2 x3 = y
    have : val_main_v175 (F := Ideal) z x1 x2 x3 = transpose S8x1024x4x128 [0, 3, 1, 2] y transposes_S8x4x128x1024_S8x1024x4x128_0_3_1_2 := by rw [← hy]; rfl
    rw [this]
    pointwise
  rw [e1, val_main_v174_apply]
  refine Finset.sum_congr rfl fun k _ => ?_
  congr 2 <;> (funext a; fin_cases a <;> rfl)

/-- The scores' maximum is real where the scores are. -/
theorem isReal_r158 (z x1) (b : Fin 8) (h : Fin 4) (j : Fin 2) (r : Fin 1024)
    (hs : ∀ i, IsReal (val_main_v155 (F := Ideal) z x1 i)) :
    IsReal (val_main_v158 (F := Ideal) z x1 (ix4 b h j r)) := by
  generalize hy : val_main_v155 (F := Ideal) z x1 = y at hs
  have hb : Ideal.ofBits .f32 0xFF800000#32 ≠ ⊤ := by simp [Ideal.ofBits, Ideal.ieee]
  have hR : S8x4x2x1024x1280.Reduces [4] S8x4x2x1024 := by decide
  rw [val_main_v158_apply, val_main_v157_apply, val_main_cst_11_apply]
  unfold val_main_v156
  rw [hy]
  exact IsReal.max_left hb (_root_.Attn.isReal_reduce_max y _ _ hR _ (by decide) hb hs _)

/-- A result: the attention's output divided by its root mean square, times its weight and the constant. -/
theorem r193 (z x1 x2 x3 x4) (n : Fin 8192) (l : Fin 512) (O : Fin 128 → EReal)
    (hO : ∀ e, val_main_v175 (F := Ideal) z x1 x2 x3 (ix4 ⟨n.val / 1024, by omega⟩ ⟨n.val % 1024, by omega⟩ ⟨l.val / 128, by omega⟩ e) = O e) :
    val_main_v193 (F := Ideal) z x1 x2 x3 x4 (ix2 n l)
      = O ⟨l.val % 128, by omega⟩ * Ideal.rsqrt (Ideal.div (∑ e, O e * O e) (Ideal.ofBits .f32 0x43000000#32) + Ideal.ofBits .f32 0x3727C5AC#32)
          * x4 (ix2 0 ⟨l.val % 128, by omega⟩) * Ideal.ofBits .f32 0x3F4CCCCD#32 := by
  simp only [← hO]
  pointwise [val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_cst_13, val_main_cst_14, val_main_cst_15, val_main_cst_16]

end Cert.ReferenceIdeal.Attn

end
-- ==== Proof.RefQ.lean ====
module

public import proofs.«01_k».proof.Proof.Gen.ReferenceIdeal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.ReferenceIdeal.Read
open _root_.Attn (IsReal rd2 rope)

/-- The queries' lanes 0 to 15 of a head, turned. -/
theorem r47 (z : FVec Ideal S12288x3072 .f32) (b : Fin 8) (r : Fin 1024) (h : Fin 4) (j : Fin 2) (f : Fin 16) :
    val_main_v47 (F := Ideal) z (ix5 b r h j f)
      = rd2 z (4096 + (b.val * 1024 + r.val)) (1536 + (h.val * 128 + (j.val * 64 + (0 + f.val)))) * val_main_v29 (F := Ideal) (ix2 r f)
        - rd2 z (4096 + (b.val * 1024 + r.val)) (1536 + (h.val * 128 + (j.val * 64 + (16 + f.val)))) * val_main_v31 (F := Ideal) (ix2 r f) := by
  pointwise [val_main_v47, val_main_v43, val_main_v46, val_main_v41, val_main_v42, val_main_v44, val_main_v45, val_main_v37, val_main_v38, val_main_v30, val_main_v32, val_main_v3, val_main_v2, val_main_v1, val_main_v0]
  simp only [_root_.Attn.rd2_fin z, Nat.zero_add, Nat.add_assoc]

/-- The queries' lanes 16 to 31 of a head, turned. -/
theorem r54 (z : FVec Ideal S12288x3072 .f32) (b : Fin 8) (r : Fin 1024) (h : Fin 4) (j : Fin 2) (f : Fin 16) :
    val_main_v54 (F := Ideal) z (ix5 b r h j f)
      = rd2 z (4096 + (b.val * 1024 + r.val)) (1536 + (h.val * 128 + (j.val * 64 + (16 + f.val)))) * val_main_v29 (F := Ideal) (ix2 r f)
        + rd2 z (4096 + (b.val * 1024 + r.val)) (1536 + (h.val * 128 + (j.val * 64 + (0 + f.val)))) * val_main_v31 (F := Ideal) (ix2 r f) := by
  pointwise [val_main_v54, val_main_v50, val_main_v53, val_main_v48, val_main_v49, val_main_v51, val_main_v52, val_main_v38, val_main_v37, val_main_v30, val_main_v32, val_main_v3, val_main_v2, val_main_v1, val_main_v0]
  simp only [_root_.Attn.rd2_fin z, Nat.zero_add, Nat.add_assoc]

/-- The queries' lanes 32 to 47 of a head, turned. -/
theorem r61 (z : FVec Ideal S12288x3072 .f32) (b : Fin 8) (r : Fin 1024) (h : Fin 4) (j : Fin 2) (f : Fin 16) :
    val_main_v61 (F := Ideal) z (ix5 b r h j f)
      = rd2 z (4096 + (b.val * 1024 + r.val)) (1536 + (h.val * 128 + (j.val * 64 + (32 + f.val)))) * val_main_v33 (F := Ideal) (ix2 r f)
        - rd2 z (4096 + (b.val * 1024 + r.val)) (1536 + (h.val * 128 + (j.val * 64 + (48 + f.val)))) * val_main_v35 (F := Ideal) (ix2 r f) := by
  pointwise [val_main_v61, val_main_v57, val_main_v60, val_main_v55, val_main_v56, val_main_v58, val_main_v59, val_main_v39, val_main_v40, val_main_v34, val_main_v36, val_main_v3, val_main_v2, val_main_v1, val_main_v0]
  simp only [_root_.Attn.rd2_fin z, Nat.zero_add, Nat.add_assoc]

/-- The queries' lanes 48 to 63 of a head, turned. -/
theorem r68 (z : FVec Ideal S12288x3072 .f32) (b : Fin 8) (r : Fin 1024) (h : Fin 4) (j : Fin 2) (f : Fin 16) :
    val_main_v68 (F := Ideal) z (ix5 b r h j f)
      = rd2 z (4096 + (b.val * 1024 + r.val)) (1536 + (h.val * 128 + (j.val * 64 + (48 + f.val)))) * val_main_v33 (F := Ideal) (ix2 r f)
        + rd2 z (4096 + (b.val * 1024 + r.val)) (1536 + (h.val * 128 + (j.val * 64 + (32 + f.val)))) * val_main_v35 (F := Ideal) (ix2 r f) := by
  pointwise [val_main_v68, val_main_v64, val_main_v67, val_main_v62, val_main_v63, val_main_v65, val_main_v66, val_main_v40, val_main_v39, val_main_v34, val_main_v36, val_main_v3, val_main_v2, val_main_v1, val_main_v0]
  simp only [_root_.Attn.rd2_fin z, Nat.zero_add, Nat.add_assoc]

/-- The reference's turned latent queries are the rotary embedding of the projected row. -/
theorem r69 (z : FVec Ideal S12288x3072 .f32) (b : Fin 8) (r : Fin 1024) (h : Fin 4) (j : Fin 2) (d : Fin 64) :
    val_main_v69 (F := Ideal) z (ix5 b r h j d)
      = rope (fun l => rd2 z (4096 + (b.val * 1024 + r.val)) (1536 + (h.val * 128 + l)))
          (rd2 (val_main_v29 (F := Ideal)) r) (rd2 (val_main_v31 (F := Ideal)) r)
          (rd2 (val_main_v33 (F := Ideal)) r) (rd2 (val_main_v35 (F := Ideal)) r) (j.val * 64 + d.val) := by
  have hj := j.isLt
  have hd := d.isLt
  pointwise [val_main_v69]
  simp only [r47, r54, r61, r68, _root_.Attn.rd2_fin (val_main_v29 (F := Ideal)), _root_.Attn.rd2_fin (val_main_v31 (F := Ideal)),
    _root_.Attn.rd2_fin (val_main_v33 (F := Ideal)), _root_.Attn.rd2_fin (val_main_v35 (F := Ideal))]
  unfold rope
  by_cases h1 : d.val < 16
  · rw [if_pos (by omega : (j.val * 64 + d.val) % 64 < 16)]
    simp only [h1, if_true, dif_pos, show (j.val * 64 + d.val) % 16 = d.val by omega]
    congr 2 <;> congr 1 <;> omega
  by_cases h2 : d.val < 32
  · rw [if_neg (by omega : ¬(j.val * 64 + d.val) % 64 < 16), if_pos (by omega : (j.val * 64 + d.val) % 64 < 32)]
    simp only [h1, show d.val - 16 < 16 by omega, if_true, if_false, dif_pos, dif_neg, not_false_eq_true, show (j.val * 64 + d.val) % 16 = d.val - 16 by omega]
    congr 2 <;> congr 1 <;> omega
  by_cases h3 : d.val < 48
  · rw [if_neg (by omega : ¬(j.val * 64 + d.val) % 64 < 16), if_neg (by omega : ¬(j.val * 64 + d.val) % 64 < 32), if_pos (by omega : (j.val * 64 + d.val) % 64 < 48)]
    simp only [h1, show ¬(d.val - 16 < 16) by omega, show d.val - 16 - 16 < 16 by omega, if_true, if_false, dif_pos, dif_neg, not_false_eq_true, show (j.val * 64 + d.val) % 16 = d.val - 16 - 16 by omega]
    congr 2 <;> congr 1 <;> omega
  · rw [if_neg (by omega : ¬(j.val * 64 + d.val) % 64 < 16), if_neg (by omega : ¬(j.val * 64 + d.val) % 64 < 32), if_neg (by omega : ¬(j.val * 64 + d.val) % 64 < 48)]
    simp only [h1, show ¬(d.val - 16 < 16) by omega, show ¬(d.val - 16 - 16 < 16) by omega, if_true, if_false, dif_pos, dif_neg, not_false_eq_true, show (j.val * 64 + d.val) % 16 = d.val - 16 - 16 - 16 by omega]
    congr 2 <;> congr 1 <;> omega

end Cert.ReferenceIdeal.Attn

end
-- ==== Proof.RefK.lean ====
module

public import proofs.«01_k».proof.Proof.Gen.ReferenceIdeal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.ReferenceIdeal.Read
open _root_.Attn (IsReal rd2 rope)

/-- The keys' lanes 0 to 15 of a head, turned. -/
theorem r109 (z : FVec Ideal S12288x3072 .f32) (b : Fin 8) (r : Fin 1024) (h : Fin 4) (j : Fin 2) (f : Fin 16) :
    val_main_v109 (F := Ideal) z (ix5 b r h j f)
      = rd2 z (4096 + (b.val * 1024 + r.val)) (2048 + (h.val * 128 + (j.val * 64 + (0 + f.val)))) * val_main_v91 (F := Ideal) (ix2 r f)
        - rd2 z (4096 + (b.val * 1024 + r.val)) (2048 + (h.val * 128 + (j.val * 64 + (16 + f.val)))) * val_main_v93 (F := Ideal) (ix2 r f) := by
  pointwise [val_main_v109, val_main_v105, val_main_v108, val_main_v103, val_main_v104, val_main_v106, val_main_v107, val_main_v99, val_main_v100, val_main_v92, val_main_v94, val_main_v5, val_main_v4, val_main_v1, val_main_v0]
  simp only [_root_.Attn.rd2_fin z, Nat.zero_add, Nat.add_assoc]

/-- The keys' lanes 16 to 31 of a head, turned. -/
theorem r116 (z : FVec Ideal S12288x3072 .f32) (b : Fin 8) (r : Fin 1024) (h : Fin 4) (j : Fin 2) (f : Fin 16) :
    val_main_v116 (F := Ideal) z (ix5 b r h j f)
      = rd2 z (4096 + (b.val * 1024 + r.val)) (2048 + (h.val * 128 + (j.val * 64 + (16 + f.val)))) * val_main_v91 (F := Ideal) (ix2 r f)
        + rd2 z (4096 + (b.val * 1024 + r.val)) (2048 + (h.val * 128 + (j.val * 64 + (0 + f.val)))) * val_main_v93 (F := Ideal) (ix2 r f) := by
  pointwise [val_main_v116, val_main_v112, val_main_v115, val_main_v110, val_main_v111, val_main_v113, val_main_v114, val_main_v100, val_main_v99, val_main_v92, val_main_v94, val_main_v5, val_main_v4, val_main_v1, val_main_v0]
  simp only [_root_.Attn.rd2_fin z, Nat.zero_add, Nat.add_assoc]

/-- The keys' lanes 32 to 47 of a head, turned. -/
theorem r123 (z : FVec Ideal S12288x3072 .f32) (b : Fin 8) (r : Fin 1024) (h : Fin 4) (j : Fin 2) (f : Fin 16) :
    val_main_v123 (F := Ideal) z (ix5 b r h j f)
      = rd2 z (4096 + (b.val * 1024 + r.val)) (2048 + (h.val * 128 + (j.val * 64 + (32 + f.val)))) * val_main_v95 (F := Ideal) (ix2 r f)
        - rd2 z (4096 + (b.val * 1024 + r.val)) (2048 + (h.val * 128 + (j.val * 64 + (48 + f.val)))) * val_main_v97 (F := Ideal) (ix2 r f) := by
  pointwise [val_main_v123, val_main_v119, val_main_v122, val_main_v117, val_main_v118, val_main_v120, val_main_v121, val_main_v101, val_main_v102, val_main_v96, val_main_v98, val_main_v5, val_main_v4, val_main_v1, val_main_v0]
  simp only [_root_.Attn.rd2_fin z, Nat.zero_add, Nat.add_assoc]

/-- The keys' lanes 48 to 63 of a head, turned. -/
theorem r130 (z : FVec Ideal S12288x3072 .f32) (b : Fin 8) (r : Fin 1024) (h : Fin 4) (j : Fin 2) (f : Fin 16) :
    val_main_v130 (F := Ideal) z (ix5 b r h j f)
      = rd2 z (4096 + (b.val * 1024 + r.val)) (2048 + (h.val * 128 + (j.val * 64 + (48 + f.val)))) * val_main_v95 (F := Ideal) (ix2 r f)
        + rd2 z (4096 + (b.val * 1024 + r.val)) (2048 + (h.val * 128 + (j.val * 64 + (32 + f.val)))) * val_main_v97 (F := Ideal) (ix2 r f) := by
  pointwise [val_main_v130, val_main_v126, val_main_v129, val_main_v124, val_main_v125, val_main_v127, val_main_v128, val_main_v102, val_main_v101, val_main_v96, val_main_v98, val_main_v5, val_main_v4, val_main_v1, val_main_v0]
  simp only [_root_.Attn.rd2_fin z, Nat.zero_add, Nat.add_assoc]

/-- The reference's turned latent keys are the rotary embedding of the projected row. -/
theorem r131 (z : FVec Ideal S12288x3072 .f32) (b : Fin 8) (r : Fin 1024) (h : Fin 4) (j : Fin 2) (d : Fin 64) :
    val_main_v131 (F := Ideal) z (ix5 b r h j d)
      = rope (fun l => rd2 z (4096 + (b.val * 1024 + r.val)) (2048 + (h.val * 128 + l)))
          (rd2 (val_main_v91 (F := Ideal)) r) (rd2 (val_main_v93 (F := Ideal)) r)
          (rd2 (val_main_v95 (F := Ideal)) r) (rd2 (val_main_v97 (F := Ideal)) r) (j.val * 64 + d.val) := by
  have hj := j.isLt
  have hd := d.isLt
  pointwise [val_main_v131]
  simp only [r109, r116, r123, r130, _root_.Attn.rd2_fin (val_main_v91 (F := Ideal)), _root_.Attn.rd2_fin (val_main_v93 (F := Ideal)),
    _root_.Attn.rd2_fin (val_main_v95 (F := Ideal)), _root_.Attn.rd2_fin (val_main_v97 (F := Ideal))]
  unfold rope
  by_cases h1 : d.val < 16
  · rw [if_pos (by omega : (j.val * 64 + d.val) % 64 < 16)]
    simp only [h1, if_true, dif_pos, show (j.val * 64 + d.val) % 16 = d.val by omega]
    congr 2 <;> congr 1 <;> omega
  by_cases h2 : d.val < 32
  · rw [if_neg (by omega : ¬(j.val * 64 + d.val) % 64 < 16), if_pos (by omega : (j.val * 64 + d.val) % 64 < 32)]
    simp only [h1, show d.val - 16 < 16 by omega, if_true, if_false, dif_pos, dif_neg, not_false_eq_true, show (j.val * 64 + d.val) % 16 = d.val - 16 by omega]
    congr 2 <;> congr 1 <;> omega
  by_cases h3 : d.val < 48
  · rw [if_neg (by omega : ¬(j.val * 64 + d.val) % 64 < 16), if_neg (by omega : ¬(j.val * 64 + d.val) % 64 < 32), if_pos (by omega : (j.val * 64 + d.val) % 64 < 48)]
    simp only [h1, show ¬(d.val - 16 < 16) by omega, show d.val - 16 - 16 < 16 by omega, if_true, if_false, dif_pos, dif_neg, not_false_eq_true, show (j.val * 64 + d.val) % 16 = d.val - 16 - 16 by omega]
    congr 2 <;> congr 1 <;> omega
  · rw [if_neg (by omega : ¬(j.val * 64 + d.val) % 64 < 16), if_neg (by omega : ¬(j.val * 64 + d.val) % 64 < 32), if_neg (by omega : ¬(j.val * 64 + d.val) % 64 < 48)]
    simp only [h1, show ¬(d.val - 16 < 16) by omega, show ¬(d.val - 16 - 16 < 16) by omega, if_true, if_false, dif_pos, dif_neg, not_false_eq_true, show (j.val * 64 + d.val) % 16 = d.val - 16 - 16 - 16 by omega]
    congr 2 <;> congr 1 <;> omega

end Cert.ReferenceIdeal.Attn

end
-- ==== Proof.Tables.lean ====
module

public import proofs.«01_k».proof.Proof.Gen.ReferenceIdeal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.ReferenceIdeal.Read
open _root_.Attn (IsReal rd2 rope)

/-- The keys' tables of angles are the queries' again. -/
theorem t76 : val_main_v76 (F := Ideal) = val_main_v14 (F := Ideal) := rfl
/-- A value on the way to the keys' tables is the same value on the way to the queries' tables. -/
theorem t83 : val_main_v83 (F := Ideal) = val_main_v21 (F := Ideal) := rfl
/-- A value on the way to the keys' tables is the same value on the way to the queries' tables. -/
theorem t90 : val_main_v90 (F := Ideal) = val_main_v28 (F := Ideal) := rfl
/-- A value on the way to the keys' tables is the same value on the way to the queries' tables. -/
theorem t91 : val_main_v91 (F := Ideal) = val_main_v29 (F := Ideal) := rfl
/-- A value on the way to the keys' tables is the same value on the way to the queries' tables. -/
theorem t93 : val_main_v93 (F := Ideal) = val_main_v31 (F := Ideal) := rfl
/-- A value on the way to the keys' tables is the same value on the way to the queries' tables. -/
theorem t95 : val_main_v95 (F := Ideal) = val_main_v33 (F := Ideal) := rfl
/-- A value on the way to the keys' tables is the same value on the way to the queries' tables. -/
theorem t97 : val_main_v97 (F := Ideal) = val_main_v35 (F := Ideal) := rfl

/-- A number converted from an integer is real. -/
theorem real_sitofp (w : BitVec 32) : IsReal (FloatOps.sitofp (F := Ideal) .f32 w) := ⟨_, rfl⟩

/-- The power table is real. -/
theorem real14 (i : Fin 16) : IsReal (val_main_v14 (F := Ideal) (ix1 i)) := by
  pointwise [val_main_v14, val_main_v13, val_main_v12, val_main_v11, val_main_v10, val_main_v9, val_main_cst, val_main_cst_0]
  obtain ⟨a, ha⟩ := (real_sitofp (BitVec.ofNat 32 i.val)).neg
  obtain ⟨b, hb⟩ : IsReal (Ideal.ofBits .f32 1176256512#32) := by
    simp only [Ideal.ofBits, Ideal.ieee]; exact ⟨_, rfl⟩
  have h16 : Ideal.ofBits .f32 1098907648#32 = ((16 : ℝ) : EReal) := by
    simp [Ideal.ofBits, Ideal.ieee]; rw [← EReal.coe_mul]; norm_num
  rw [ha, hb, h16, _root_.Attn.div_coe_coe _ _ (by norm_num), Ideal.pow_coe_coe]
  exact ⟨_, rfl⟩

/-- The row angles are real. -/
theorem real21 (i : Fin 1024) (f : Fin 16) : IsReal (val_main_v21 (F := Ideal) (ix2 i f)) := by
  pointwise [val_main_v21, val_main_v20, val_main_v19, val_main_v18, val_main_v17, val_main_v16]
  exact (real_sitofp _).mul (real14 _)

/-- The column angles are real. -/
theorem real28 (i : Fin 1024) (f : Fin 16) : IsReal (val_main_v28 (F := Ideal) (ix2 i f)) := by
  pointwise [val_main_v28, val_main_v27, val_main_v26, val_main_v25, val_main_v24, val_main_v23]
  exact (real_sitofp _).mul (real14 _)

/-- The rows' cosines are real. -/
theorem real29 (i : S1024x16.Idx) : IsReal (val_main_v29 (F := Ideal) i) := by
  obtain ⟨a, b, rfl⟩ : ∃ a b, i = ix2 a b := ⟨i 0, i 1, eq_ix2 i⟩
  pointwise [val_main_v29]
  obtain ⟨x, hx⟩ := real21 a b
  rw [hx, Ideal.cos_coe]; exact ⟨_, rfl⟩

/-- The rows' sines are real. -/
theorem real31 (i : S1024x16.Idx) : IsReal (val_main_v31 (F := Ideal) i) := by
  obtain ⟨a, b, rfl⟩ : ∃ a b, i = ix2 a b := ⟨i 0, i 1, eq_ix2 i⟩
  pointwise [val_main_v31]
  obtain ⟨x, hx⟩ := real21 a b
  rw [hx, Ideal.sin_coe]; exact ⟨_, rfl⟩

/-- The columns' cosines are real. -/
theorem real33 (i : S1024x16.Idx) : IsReal (val_main_v33 (F := Ideal) i) := by
  obtain ⟨a, b, rfl⟩ : ∃ a b, i = ix2 a b := ⟨i 0, i 1, eq_ix2 i⟩
  pointwise [val_main_v33]
  obtain ⟨x, hx⟩ := real28 a b
  rw [hx, Ideal.cos_coe]; exact ⟨_, rfl⟩

/-- The columns' sines are real. -/
theorem real35 (i : S1024x16.Idx) : IsReal (val_main_v35 (F := Ideal) i) := by
  obtain ⟨a, b, rfl⟩ : ∃ a b, i = ix2 a b := ⟨i 0, i 1, eq_ix2 i⟩
  pointwise [val_main_v35]
  obtain ⟨x, hx⟩ := real28 a b
  rw [hx, Ideal.sin_coe]; exact ⟨_, rfl⟩

end Cert.ReferenceIdeal.Attn

end
-- ==== Proof.Eq.lean ====
module

public import proofs.«01_k».proof.Proof.Gen.KernelIdeal.Value
public import proofs.«01_k».proof.Proof.KBlock
public import proofs.«01_k».proof.Proof.RefA
public import proofs.«01_k».proof.Proof.RefQ
public import proofs.«01_k».proof.Proof.RefK
public import proofs.«01_k».proof.Proof.Tables
public import Idealize.ShloMosaic.Lib.Pipeline.ValueKit

@[expose] public section

set_option maxRecDepth 16384

noncomputable section

open Idealize.ShloMosaic Idealize.ShloMosaic.TcCoe Idealize.SL.Sem

namespace Cert.KernelIdeal.Attn
open Cert.KernelIdeal Cert.KernelIdeal.Gen
open _root_.Attn (IsReal rd2 rope)

open Cert.ReferenceIdeal.Attn Cert.ReferenceIdeal.Read

/-- One result of a block, from what its operands hold: the kernel's payload is the reference's value. -/
theorem block (z : FVec Ideal ⟨2, ![12288, 3072]⟩ .f32) (x1 : FVec Ideal ⟨6, ![8, 1, 256, 4, 2, 64]⟩ .f32)
    (x2 : FVec Ideal ⟨5, ![8, 1, 256, 4, 128]⟩ .f32) (x3 : FVec Ideal ⟨3, ![1, 4, 64]⟩ .f32) (x4 : FVec Ideal ⟨2, ![1, 128]⟩ .f32)
    (hz : ∀ i, IsReal (z i)) (h1 : ∀ i, IsReal (x1 i)) (h2 : ∀ i, IsReal (x2 i)) (h3 : ∀ i, IsReal (x3 i))
    (b : Fin 8) (h : Fin 4) (q kc0 kc1 kl0 kl1 vl vc w s)
    (hq0 : ∀ (r : Fin 1024) (d : Fin 64), q (ix2 r ⟨d.val, by omega⟩) = val_main_v69 (F := Ideal) z (ix5 b r h 0 d) * Ideal.ofBits .f32 0x3E000000#32)
    (hq1 : ∀ (r : Fin 1024) (d : Fin 64), q (ix2 r ⟨64 + d.val, by omega⟩) = val_main_v69 (F := Ideal) z (ix5 b r h 1 d) * Ideal.ofBits .f32 0x3E000000#32)
    (hl0 : ∀ (i : Fin 1024) (d : Fin 64), kl0 (ix2 i d) = val_main_v131 (F := Ideal) z (ix5 b i h 0 d))
    (hl1 : ∀ (i : Fin 1024) (d : Fin 64), kl1 (ix2 i d) = val_main_v131 (F := Ideal) z (ix5 b i h 1 d))
    (hc0 : ∀ (i : Fin 256) (d : Fin 64), kc0 (ix3 0 i d) = x1 (ix6 b 0 i h 0 d))
    (hc1 : ∀ (i : Fin 256) (d : Fin 64), kc1 (ix3 0 i d) = x1 (ix6 b 0 i h 1 d))
    (hvl : ∀ (i : Fin 1024) (e : Fin 128), vl (ix2 i e) = rd2 z (4096 + (b.val * 1024 + i.val)) (2560 + (h.val * 128 + e.val)))
    (hvc : ∀ (i : Fin 256) (e : Fin 128), vc (ix3 0 i e) = x2 (ix5 b 0 i h e))
    (hw : ∀ (i : Fin 4) (d : Fin 64), w (ix2 i d) = x3 (ix3 0 i d)) (hs : ∀ e : Fin 128, s (ix2 0 e) = x4 (ix2 0 e))
    (r : Fin 1024) (e : Fin 128) :
    k0_pay26 (F := Ideal) (k0_pay8 w) (k0_pay16 (k0_pay14 vl) k0_pay15) (k0_pay17 vc) (k0_pay20 q kc1) (k0_pay21 q kl1)
        (k0_pay23 q kc1 kl1) (k0_pay24 q kc0 kl0) (k0_pay25 q kc0 kl0) s (ix2 r e)
      = val_main_v193 (F := Ideal) z x1 x2 x3 x4 (ix2 ⟨b.val * 1024 + r.val, by omega⟩ ⟨h.val * 128 + e.val, by omega⟩) := by
  have hc8 : IsReal (Ideal.ofBits .f32 0x3E000000#32) := by
    simp only [Ideal.ofBits, Ideal.ieee]; exact ⟨_, rfl⟩
  have r69' : ∀ i, IsReal (val_main_v69 (F := Ideal) z i) := fun i => by
    obtain ⟨a1, a2, a3, a4, a5, rfl⟩ : ∃ a1 a2 a3 a4 a5, i = ix5 a1 a2 a3 a4 a5 := ⟨i 0, i 1, i 2, i 3, i 4, by idx_ext⟩
    rw [r69]
    exact _root_.Attn.isReal_rope (fun _ => _root_.Attn.isReal_rd2 z hz _ _) (fun _ => _root_.Attn.isReal_rd2 _ real29 _ _)
      (fun _ => _root_.Attn.isReal_rd2 _ real31 _ _) (fun _ => _root_.Attn.isReal_rd2 _ real33 _ _) (fun _ => _root_.Attn.isReal_rd2 _ real35 _ _) _
  have r131' : ∀ i, IsReal (val_main_v131 (F := Ideal) z i) := fun i => by
    obtain ⟨a1, a2, a3, a4, a5, rfl⟩ : ∃ a1 a2 a3 a4 a5, i = ix5 a1 a2 a3 a4 a5 := ⟨i 0, i 1, i 2, i 3, i 4, by idx_ext⟩
    rw [r131, t91, t93, t95, t97]
    exact _root_.Attn.isReal_rope (fun _ => _root_.Attn.isReal_rd2 z hz _ _) (fun _ => _root_.Attn.isReal_rd2 _ real29 _ _)
      (fun _ => _root_.Attn.isReal_rd2 _ real31 _ _) (fun _ => _root_.Attn.isReal_rd2 _ real33 _ _) (fun _ => _root_.Attn.isReal_rd2 _ real35 _ _) _
  have r133' : ∀ (k : Fin 1280) (j : Fin 2) (b : Fin 8) (h : Fin 4) (d : Fin 64), IsReal (val_main_v133 (F := Ideal) z x1 (ix5 b k h j d)) := fun k j b h d => by
    rw [r133]; split
    · exact h1 _
    · exact r131' _
  have r155' : ∀ i, IsReal (val_main_v155 (F := Ideal) z x1 i) := fun i => by
    obtain ⟨a1, a2, a3, a4, a5, rfl⟩ : ∃ a1 a2 a3 a4 a5, i = ix5 a1 a2 a3 a4 a5 := ⟨i 0, i 1, i 2, i 3, i 4, by idx_ext⟩
    rw [r155]
    exact (IsReal.sum _ _ fun d => (r69' _).mul (r133' _ _ _ _ _)).mul hc8
  -- the kernel's scores are the reference's
  have s18 : ∀ (r : Fin 1024) (i : Fin 256), val_main_v155 (F := Ideal) z x1 (ix5 b h 0 r ⟨i.val, by omega⟩) = k0_pay18 (F := Ideal) q kc0 (ix2 r i) := fun r i => by
    rw [r155, p18, _root_.Attn.scale_sum _ _ _ (fun _ => r69' _) (fun _ => r133' _ _ _ _ _) hc8]
    refine Finset.sum_congr rfl fun d _ => ?_
    rw [hq0, hc0, r133, dif_pos i.isLt]
  have s19 : ∀ (r : Fin 1024) (i : Fin 1024), val_main_v155 (F := Ideal) z x1 (ix5 b h 0 r ⟨256 + i.val, by omega⟩) = k0_pay19 (F := Ideal) q kl0 (ix2 r i) := fun r i => by
    rw [r155, p19, _root_.Attn.scale_sum _ _ _ (fun _ => r69' _) (fun _ => r133' _ _ _ _ _) hc8]
    refine Finset.sum_congr rfl fun d _ => ?_
    rw [hq0, hl0, r133, dif_neg (by show ¬ (256 + i.val < 256); omega)]
    simp only [Nat.add_sub_cancel_left, Fin.eta]
  have s20 : ∀ (r : Fin 1024) (i : Fin 256), val_main_v155 (F := Ideal) z x1 (ix5 b h 1 r ⟨i.val, by omega⟩) = k0_pay20 (F := Ideal) q kc1 (ix2 r i) := fun r i => by
    rw [r155, p20, _root_.Attn.scale_sum _ _ _ (fun _ => r69' _) (fun _ => r133' _ _ _ _ _) hc8]
    refine Finset.sum_congr rfl fun d _ => ?_
    rw [hq1, hc1, r133, dif_pos i.isLt]
  have s21 : ∀ (r : Fin 1024) (i : Fin 1024), val_main_v155 (F := Ideal) z x1 (ix5 b h 1 r ⟨256 + i.val, by omega⟩) = k0_pay21 (F := Ideal) q kl1 (ix2 r i) := fun r i => by
    rw [r155, p21, _root_.Attn.scale_sum _ _ _ (fun _ => r69' _) (fun _ => r133' _ _ _ _ _) hc8]
    refine Finset.sum_congr rfl fun d _ => ?_
    rw [hq1, hl1, r133, dif_neg (by show ¬ (256 + i.val < 256); omega)]
    simp only [Nat.add_sub_cancel_left, Fin.eta]
  have hlam : k0_pay8 (F := Ideal) w (ix2 0 0) = val_main_v152 (F := Ideal) x3 ix0 := by
    rw [p8, r152]; simp only [hw]
  obtain ⟨lam, hlam'⟩ : IsReal (val_main_v152 (F := Ideal) x3 ix0) := by
    have hx : ∀ x : EReal, IsReal x → IsReal (Ideal.exp x) := by
      rintro _ ⟨x, rfl⟩; rw [Ideal.exp_coe]; exact ⟨_, rfl⟩
    rw [r152]
    refine IsReal.add (IsReal.sub (hx _ (IsReal.sum _ _ fun _ => (h3 _).mul (h3 _))) (hx _ (IsReal.sum _ _ fun _ => (h3 _).mul (h3 _)))) ?_
    simp only [Ideal.ofBits, Ideal.ieee]; exact ⟨_, rfl⟩
  rw [r193 z x1 x2 x3 x4 _ _ (fun e => val_main_v175 (F := Ideal) z x1 x2 x3 (ix4 b r h e)) (fun e => by
    congr 1
    idx_ext <;> simp <;> omega)]
  rw [p26 _ _ _ _ _ _ _ _ _ r e (fun e => val_main_v175 (F := Ideal) z x1 x2 x3 (ix4 b r h e)) (fun e => ?_)]
  · rw [hs]
    have he : (⟨(h.val * 128 + e.val) % 128, by omega⟩ : Fin 128) = e := Fin.ext (by show (h.val * 128 + e.val) % 128 = e.val; omega)
    simp only [he]
  · have hones : ¬ ((128 : Fin 256).val < 128) := by decide
    simp only [p24, p25, p16, p17, dif_pos e.isLt, dif_neg hones, Fin.eta, hlam, hlam']
    rw [_root_.Attn.attend_eq (n := 1280) rfl (by norm_num) lam
      (fun k => val_main_v155 (F := Ideal) z x1 (ix5 b h 0 r k)) (fun k => val_main_v155 (F := Ideal) z x1 (ix5 b h 1 r k))
      (fun k => val_main_v135 (F := Ideal) z x2 (ix4 b k h e)) (val_main_v158 (F := Ideal) z x1 (ix4 b h 0 r)) (val_main_v158 (F := Ideal) z x1 (ix4 b h 1 r))
      _ _ _ _ _ _ _ _ (fun i => s18 r i) (fun i => s19 r i) (fun i => s20 r i) (fun i => s21 r i) ?_ ?_
      (fun i => s19 r i ▸ r155' _) (fun i => s21 r i ▸ r155' _) (fun i => s18 r i ▸ r155' _) (fun i => s20 r i ▸ r155' _)
      (fun i => by rw [hvl]; exact _root_.Attn.isReal_rd2 z hz _ _) (fun i => by rw [hvc]; exact h2 _)
      (isReal_r158 _ _ _ _ _ _ r155') (isReal_r158 _ _ _ _ _ _ r155')
      (isReal_p22 _ _ _ _ (fun i => s18 r i ▸ r155' _) (fun i => s19 r i ▸ r155' _))
      (isReal_p23 _ _ _ _ (fun i => s20 r i ▸ r155' _) (fun i => s21 r i ▸ r155' _))]
    · rw [r175]
      refine Finset.sum_congr rfl fun k _ => ?_
      rw [r173, r166, r166, hlam']
    · intro i
      show val_main_v135 (F := Ideal) z x2 (ix4 b ⟨i.val, _⟩ h e) = _
      rw [r135, dif_pos i.isLt, hvc]
    · intro i
      show val_main_v135 (F := Ideal) z x2 (ix4 b ⟨256 + i.val, _⟩ h e) = _
      rw [r135, dif_neg (by show ¬ (256 + i.val < 256); omega), hvl]
      simp only [Nat.add_sub_cancel_left]

end Cert.KernelIdeal.Attn

end
-- ==== Proof.KOpen.lean ====
module

public import proofs.«01_k».proof.Proof.KRead
public import proofs.«01_k».proof.Proof.KTab
public import proofs.«01_k».proof.Proof.KRope
public import proofs.«01_k».proof.Proof.Eq
public import proofs.«01_k».proof.Proof.Tables
public import Idealize.ShloMosaic.Lib.Pipeline.ReadBack

@[expose] public section

set_option maxRecDepth 16384

noncomputable section

open Idealize.ShloMosaic Idealize.ShloMosaic.TcCoe Idealize.SL.Sem

namespace Cert.KernelIdeal.Attn
open Cert.KernelIdeal Cert.KernelIdeal.Gen Cert.ReferenceIdeal.Read
open _root_.Attn (IsReal rd2 rd2_fin rope rope_rotate)
open Cert.ReferenceIdeal.Attn (r69 r131 t91 t93 t95 t97)

variable (m : (ℓ : Loc nD τ sig) → Buf (Elt Ideal) ℓ)

/-- A row of a block, turned by the kernel's tables, is the reference's turned row. -/
theorem row (c : Dev nD) (r : Fin 1024) (X : ℕ → EReal) (x : FVec Ideal S1024x128 .f32) (hx : ∀ l : Fin 128, x (ix2 r l) = X l.val)
    (l : Fin 128) (cc ss : EReal) (hc : cc = V m c main_v39 (ix2 r l)) (hs : ss = V m c main_v42 (ix2 r l)) :
    x (ix2 r l) * cc + (if l.val / 16 % 2 = 1 then x (ix2 r ⟨(l.val + 112) % 128, by omega⟩) else x (ix2 r ⟨(l.val + 16) % 128, by omega⟩)) * ss
      = rope X (rd2 (val_main_v29 (F := Ideal)) r) (rd2 (val_main_v31 (F := Ideal)) r)
          (rd2 (val_main_v33 (F := Ideal)) r) (rd2 (val_main_v35 (F := Ideal)) r) l.val := by
  rw [hc, hs, at39, at42, hx, hx, hx, ← rope_rotate _ _ _ _ _ _ l.isLt]

set_option maxHeartbeats 800000 in
/-- What a grid point leaves in its output block is the reference's attention there. -/
theorem point (c : Dev nD) (t : Fin cfg0.N)
    (hz : ∀ i, IsReal ((m (c.tc.loc main_arg0) : FVec Ideal S12288x3072 .f32) i)) (h1 : ∀ i, IsReal ((m (c.tc.loc main_arg1) : FVec Ideal S8x1x256x4x2x64 .f32) i))
    (h2 : ∀ i, IsReal ((m (c.tc.loc main_arg2) : FVec Ideal S8x1x256x4x128 .f32) i)) (h3 : ∀ i, IsReal ((m (c.tc.loc main_arg3) : FVec Ideal S1x4x64 .f32) i))
    (r : Fin 1024) (e : Fin 128) (hr he) :
    (dats m 0 c).after 9 t (ix2 r e) = val_main_v193 (F := Ideal) (m (c.tc.loc main_arg0)) (m (c.tc.loc main_arg1)) (m (c.tc.loc main_arg2)) (m (c.tc.loc main_arg3)) (m (c.tc.loc main_arg4))
      (ix2 ⟨t.val / 4 * 1024 + r.val, hr⟩ ⟨t.val % 4 * 128 + e.val, he⟩) := by
  have ht : t.val < 32 := t.isLt
  rw [after0_9]; unfold outsAt0; frame_out
  simp (disch := decide) only [View.readCov_fill]
  generalize hkr : k0_pay7 (F := Ideal) _ _ _ _ _ _ _ _ = kr
  generalize hq : k0_pay13 (F := Ideal) _ _ _ _ _ _ _ _ = q
  generalize hk1 : View.ld (iblk m c 3 t) (Rect.unit (s := S1x256x128) ![0,0,64] _ _) = kc1
  generalize hk0 : View.ld (iblk m c 3 t) (Rect.unit (s := S1x256x128) ![0,0,0] _ _) = kc0
  generalize hl1 : View.ld (Val := Elt Ideal) (e' := .bf16) kr (Rect.unit (s := S1024x128) ![0,64] _ _) = kl1
  generalize hl0 : View.ld (Val := Elt Ideal) (e' := .bf16) kr (Rect.unit (s := S1024x128) ![0,0] _ _) = kl0
  have ekr : ∀ (i : Fin 1024) (j : Fin 2) (d : Fin 64) (l : Fin 128) (hl : l.val = j.val * 64 + d.val),
      kr (ix2 i l) = val_main_v131 (F := Ideal) (m (c.tc.loc main_arg0)) (ix5 ⟨t.val / 4, by omega⟩ i ⟨t.val % 4, by omega⟩ j d) := by
    intro i j d l hl
    rw [r131, t91, t93, t95, t97, ← hl, ← hkr]
    refine (p7 _ _ _ i l).trans (row m c i _ _ (fun l' => ?_) l _ _ (b5 m c t i l) (b6 m c t i l))
    exact (b1 m c t i l' (by omega) (by omega)).trans (rd2_fin _ _ _)
  have eq : ∀ (i : Fin 1024) (j : Fin 2) (d : Fin 64) (l : Fin 128) (hl : l.val = j.val * 64 + d.val),
      q (ix2 i l) = val_main_v69 (F := Ideal) (m (c.tc.loc main_arg0)) (ix5 ⟨t.val / 4, by omega⟩ i ⟨t.val % 4, by omega⟩ j d) * Ideal.ofBits .f32 0x3E000000#32 := by
    intro i j d l hl
    have ho := (idx t).2.2.2.2.2.2.2.2.2.2
    have hoff : ∀ a, k0_off1 (grid0.coords t) a = 0 := by intro a; rw [ho]; fin_cases a <;> rfl
    rw [r69, ← hl, ← hq]
    refine (p13 _ _ _ i l).trans (congrArg (fun a : EReal => a * Ideal.ofBits .f32 0x3E000000#32) (row m c i _ _ (fun l' => ?_) l _ _ ?_ ?_))
    · exact (b0 m c t i l' (by omega) (by omega)).trans (rd2_fin _ _ _)
    · refine Eq.trans ?_ (b5 m c t i l)
      refine congrArg (iblk m c 5 t) (funext fun a => Fin.ext ?_)
      show k0_off1 (grid0.coords t) a + 1 * _ = _
      rw [hoff]; omega
    · refine Eq.trans ?_ (b6 m c t i l)
      refine congrArg (iblk m c 6 t) (funext fun a => Fin.ext ?_)
      show k0_off1 (grid0.coords t) a + 1 * _ = _
      rw [hoff]; omega
  refine block (m (c.tc.loc main_arg0)) (m (c.tc.loc main_arg1)) (m (c.tc.loc main_arg2)) (m (c.tc.loc main_arg3)) (m (c.tc.loc main_arg4)) hz h1 h2 h3
    ⟨t.val / 4, by omega⟩ ⟨t.val % 4, by omega⟩ q kc0 kc1 kl0 kl1 _ _ _ _ (fun i d => eq i 0 d _ (by show d.val = 0 * 64 + d.val; omega)) (fun i d => eq i 1 d _ (by show 64 + d.val = 1 * 64 + d.val; omega))
    (fun i d => ?_) (fun i d => ?_) (fun i d => ?_) (fun i d => ?_) (fun i e => ?_) (fun i e => ?_) (fun i d => ?_) (fun e => ?_) r e
  · rw [← ekr i 0 d ⟨d.val, by omega⟩ (by show d.val = 0 * 64 + d.val; omega), ← hl0]; pointwise
  · rw [← ekr i 1 d ⟨64 + d.val, by omega⟩ (by show 64 + d.val = 1 * 64 + d.val; omega), ← hl1]; pointwise
  · rw [← at1 m c _ i _ 0 d, ← hk0]; pointwise
    refine (b3 m c t i _ (by omega) (by dsimp only; omega)).trans ?_
    exact congrArg (fun l => V m c main_v1 (ix3 ⟨t.val / 4, by omega⟩ i l)) (Fin.ext (by dsimp only <;> omega))
  · rw [← at1 m c _ i _ 1 d, ← hk1]; pointwise
    refine (b3 m c t i _ (by omega) (by dsimp only; omega)).trans ?_
    exact congrArg (fun l => V m c main_v1 (ix3 ⟨t.val / 4, by omega⟩ i l)) (Fin.ext (by dsimp only <;> omega))
  · exact (b2 m c t i e (by omega) (by omega)).trans (rd2_fin _ _ _)
  · exact (b4 m c t i e (by omega) (by omega)).trans (at3 m c ⟨t.val / 4, by omega⟩ i ⟨t.val % 4, by omega⟩ e)
  · exact (b7 m c t i d).trans (at4 m c i d)
  · exact (b8 m c t e).trans (at43 m c e)

/-- What the kernel leaves in its result is the reference's attention. -/
theorem final (c : Dev nD)
    (hz : ∀ i, IsReal ((m (c.tc.loc main_arg0) : FVec Ideal S12288x3072 .f32) i)) (h1 : ∀ i, IsReal ((m (c.tc.loc main_arg1) : FVec Ideal S8x1x256x4x2x64 .f32) i))
    (h2 : ∀ i, IsReal ((m (c.tc.loc main_arg2) : FVec Ideal S8x1x256x4x128 .f32) i)) (h3 : ∀ i, IsReal ((m (c.tc.loc main_arg3) : FVec Ideal S1x4x64 .f32) i)) :
    (dats m 0 c).arrAt 9 cfg0.N = val_main_v193 (F := Ideal) (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t _ y => ?_
  have ht : t.val < 32 := t.isLt
  obtain ⟨r, e, rfl⟩ : ∃ (r : Fin 1024) (e : Fin 128), y = ix2 r e := ⟨y 0, y 1, eq_ix2 y⟩
  refine (point m c t hz h1 h2 h3 r e (by omega) (by omega)).trans ?_
  blk_ext [idx t]

end Cert.KernelIdeal.Attn

end
-- ==== Proof.Finite.lean ====
module

public import proofs.«01_k».proof.Pre_finite
public import proofs.«01_k».proof.Proof.Soft
public import Idealize.ShloMosaic.Lib.ReduceAll
public import Idealize.ShloMosaic.Lib.ValueIdx
public import Idealize.ShloMosaic.Lib.Pipeline.ValueKit

@[expose] public section

noncomputable section

open Idealize.ShloMosaic

namespace Cert.Pre_finite.Attn
open Cert.Pre_finite
open _root_.Attn (IsReal)

/-- The side conditions of the precondition's operations. -/
theorem facts : Facts where
  bcast_S_S12288x3072 := by decide
  bcast_S_S8x1x256x4x2x64 := by decide
  bcast_S_S8x1x256x4x128 := by decide
  bcast_S_S1x4x64 := by decide
  reducesTo_S12288x3072_S_d0_1 := by decide
  h_S_ := by decide
  reducesTo_S8x1x256x4x2x64_S_d0_1_2_3_4_5 := by decide
  reducesTo_S8x1x256x4x128_S_d0_1_2_3_4 := by decide
  reducesTo_S1x4x64_S_d0_1_2 := by decide

/-- A magnitude below plus infinity is of a real number. -/
theorem real_of_lt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) : IsReal (x i) := by
  have e' : Ideal.cmp .olt (max (x i) (-(x i))) (Ideal.ofBits .f32 0x7F800000#32) = 1#1 := e
  have hlt : max (x i) (-(x i)) < (⊤ : EReal) := by
    have h1 := (Ideal.cmp_olt_eq_one _ _).1 e'
    rwa [show Ideal.ofBits .f32 0x7F800000#32 = (⊤ : EReal) by simp [Ideal.ofBits, Ideal.ieee]] at h1
  revert hlt
  generalize x i = y
  intro hlt
  have h1 : y ≠ ⊤ := fun h => by simp [h] at hlt
  have h2 : y ≠ ⊥ := fun h => by simp [h] at hlt
  exact ⟨y.toReal, (EReal.coe_toReal h1 h2).symm⟩

/-- Under the precondition every number of the four arrays is real. -/
theorem real [Facts] (a0 : FVec Ideal S12288x3072 .f32) (a1 : FVec Ideal S8x1x256x4x2x64 .f32) (a2 : FVec Ideal S8x1x256x4x128 .f32) (a3 : FVec Ideal S1x4x64 .f32)
    (a4 : FVec Ideal S1x128 .f32) (h : fn (F := Ideal) a0 a1 a2 a3 a4 = fun _ => 1#1) :
    (∀ i, IsReal (a0 i)) ∧ (∀ i, IsReal (a1 i)) ∧ (∀ i, IsReal (a2 i)) ∧ (∀ i, IsReal (a3 i)) := by
  have h := congrFun h ix0
  dsimp only [fn, fn_part1] at h
  obtain ⟨h, k3⟩ := IntOp.andi_eq_one.1 h
  obtain ⟨h, k2⟩ := IntOp.andi_eq_one.1 h
  obtain ⟨k0, k1⟩ := IntOp.andi_eq_one.1 h
  haveI : Subsingleton S_.Idx := ⟨fun a b => funext fun i => i.elim0⟩
  exact ⟨fun i => real_of_lt a0 _ i (Host.reduce_andi_all _ _ _ _ ix0 k0 i), fun i => real_of_lt a1 _ i (Host.reduce_andi_all _ _ _ _ ix0 k1 i),
    fun i => real_of_lt a2 _ i (Host.reduce_andi_all _ _ _ _ ix0 k2 i), fun i => real_of_lt a3 _ i (Host.reduce_andi_all _ _ _ _ ix0 k3 i)⟩

end Cert.Pre_finite.Attn

end
-- ==== Proof.PRead.lean ====
module

public import proofs.«01_k».proof.Proof.Gen.ProjectReferenceIdeal.Read
public import Idealize.ShloMosaic.Lib.Pipeline.ValueKit

@[expose] public section

set_option maxRecDepth 16384

noncomputable section

open Idealize.ShloMosaic Idealize.ShloMosaic.TcCoe Idealize.SL.Sem

namespace Cert.ProjectReferenceIdeal.Proj
open Cert.ProjectReferenceIdeal Cert.ProjectReferenceIdeal.Gen Cert.ProjectReferenceIdeal.Read

/-- The reference's modulated prompt. -/
theorem r14 (x0 : FVec Ideal S16x256x1024 .f32) (x2 : FVec Ideal S16x6x1024 .f32) (a : Fin 16) (b : Fin 256) (k : Fin 1024) :
    val_main_v14 (F := Ideal) x0 x2 (ix3 a b k) = x0 (ix3 a b k) * (1 + x2 (ix3 0 1 k)) + x2 (ix3 0 0 k) := by
  pointwise [val_main_v14, val_main_v13, val_main_v12, val_main_v11, val_main_v10, val_main_v9, val_main_v8, val_main_v7, val_main_v6, val_main_v5, val_main_cst, val_main_v4, val_main_v3, val_main_v1, val_main_v0]

/-- The reference's modulated latents. -/
theorem r26 (x1 : FVec Ideal S8x1024x1024 .f32) (x2 : FVec Ideal S16x6x1024 .f32) (a : Fin 8) (b : Fin 1024) (k : Fin 1024) :
    val_main_v26 (F := Ideal) x1 x2 (ix3 a b k) = x1 (ix3 a b k) * (1 + x2 (ix3 ⟨1 + a.val, by omega⟩ 1 k)) + x2 (ix3 ⟨1 + a.val, by omega⟩ 0 k) := by
  pointwise [val_main_v26, val_main_v25, val_main_v24, val_main_v23, val_main_v22, val_main_v21, val_main_v20, val_main_v19, val_main_v18, val_main_cst_0, val_main_v17, val_main_v16, val_main_v15, val_main_v2]

/-- The upper rows of the joined result. -/
theorem catp (y1 : FVec Ideal S4096x3072 .f32) (y2 : FVec Ideal S8192x3072 .f32) (n : Fin 4096) (e : Fin 3072) :
    concatenate S12288x3072 0 [⟨S4096x3072, y1⟩, ⟨S8192x3072, y2⟩] concatenates_S4096x3072_S8192x3072_S12288x3072_d0 (ix2 ⟨n.val, by omega⟩ e) = y1 (ix2 n e) := by
  have h := n.isLt
  pointwise
  first | done | rw [dif_pos h]

/-- The lower rows of the joined result. -/
theorem cats (y1 : FVec Ideal S4096x3072 .f32) (y2 : FVec Ideal S8192x3072 .f32) (n : Fin 8192) (e : Fin 3072) (k : Fin 12288) (hk : k.val = 4096 + n.val) :
    concatenate S12288x3072 0 [⟨S4096x3072, y1⟩, ⟨S8192x3072, y2⟩] concatenates_S4096x3072_S8192x3072_S12288x3072_d0 (ix2 k e) = y2 (ix2 n e) := by
  pointwise
  rw [dif_neg (by omega)]
  exact congrArg (fun a => y2 (ix2 a e)) (Fin.ext (by dsimp only; omega))

/-- The prompt rows before they are joined. -/
theorem r31 (x0 : FVec Ideal S16x256x1024 .f32) (x2 : FVec Ideal S16x6x1024 .f32) (x3 : FVec Ideal S1x1024x3072 .f32)
    (a : Fin 16) (b : Fin 256) (e : Fin 3072) :
    val_main_v31 (F := Ideal) x0 x2 x3 (ix2 ⟨a.val * 256 + b.val, by omega⟩ e)
      = ∑ k : Fin 1024, (x0 (ix3 a b k) * (1 + x2 (ix3 0 1 k)) + x2 (ix3 0 0 k)) * x3 (ix3 0 k e) := by
  pointwise [val_main_v31, val_main_v28, val_main_v27]
  simp only [r14]

/-- The latent rows before they are joined. -/
theorem r32 (x1 : FVec Ideal S8x1024x1024 .f32) (x2 : FVec Ideal S16x6x1024 .f32) (x3 : FVec Ideal S1x1024x3072 .f32)
    (a : Fin 8) (b : Fin 1024) (e : Fin 3072) :
    val_main_v32 (F := Ideal) x1 x2 x3 (ix2 ⟨a.val * 1024 + b.val, by omega⟩ e)
      = ∑ k : Fin 1024, (x1 (ix3 a b k) * (1 + x2 (ix3 ⟨1 + a.val, by omega⟩ 1 k)) + x2 (ix3 ⟨1 + a.val, by omega⟩ 0 k)) * x3 (ix3 0 k e) := by
  pointwise [val_main_v32, val_main_v30, val_main_v29]
  simp only [r26]

end Cert.ProjectReferenceIdeal.Proj

end
-- ==== Proof.PKern.lean ====
module

public import proofs.«01_k».proof.Proof.Gen.ProjectIdeal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ProjectIdeal.Proj
open Cert.ProjectIdeal Cert.ProjectIdeal.Gen

/-- Whether a tile of rows is the prompt's. -/
theorem cond : ∀ t : Fin cfg0.N, Scalar.cmpi .slt (Scalar.muli (BitVec.ofNat 32 ((grid0.coords t) 0).val) 512#32) 4096#32 = if t.val < 8 then 1#1 else 0#1 :=
  (by decide +kernel : ∀ t : Fin grid0.N, _)

/-- The blocks of a grid point. -/
theorem idx : ∀ t : Fin cfg0.N, win0_0.index t = ![min t.val 7, 0] ∧ win0_1.index t = ![t.val - 8, 0]
    ∧ win0_2.index t = ![if t.val < 8 then 0 else 1 + (t.val - 8) / 2, 0, 0] ∧ win0_3.index t = ![0, 0] ∧ win0_4.index t = ![t.val, 0] :=
  (by decide +kernel : ∀ t : Fin grid0.N, _)

/-- What the body computes of its blocks, at an index. -/
theorem pay (t : Fin cfg0.N) (v0 : FVec Ideal S1x6x1024 .f32) (v2 v6 : FVec Ideal S512x1024 .f32) (v18 : FVec Ideal S1024x3072 .bf16) (r : Fin 512) (e : Fin 3072) :
    k0_pay1 (F := Ideal) (grid0.coords t) v0 v2 v6 v18 (ix2 r e)
      = ∑ k : Fin 1024, ((if t.val < 8 then v6 else v2) (ix2 r k) * (1 + v0 (ix3 0 1 k)) + v0 (ix3 0 0 k)) * v18 (ix2 k e) := by
  unfold k0_pay1
  rw [cond t]
  split
  · pointwise
  · pointwise

variable (m : (ℓ : Loc nD τ sig) → Buf (Elt Ideal) ℓ)

/-- The prompt's operand is the argument, reshaped. -/
theorem e0 (c : Dev nD) : V m c main_v0 = shapeCast S4096x1024 (m (c.tc.loc main_arg0)) shapeCasts_S16x256x1024_S4096x1024 := by
  simp only [V, hostOps0, List.flatten_cons, List.flatten_nil, List.append_nil, List.cons_append, List.nil_append]
  after_reads_simp
  rfl

/-- The latents' operand is the argument, reshaped. -/
theorem e1 (c : Dev nD) : V m c main_v1 = shapeCast S8192x1024 (m (c.tc.loc main_arg1)) shapeCasts_S8x1024x1024_S8192x1024 := by
  simp only [V, hostOps0, List.flatten_cons, List.flatten_nil, List.append_nil, List.cons_append, List.nil_append]
  after_reads_simp
  rfl

/-- The weight's operand is the argument, reshaped and rounded. -/
theorem e3 (c : Dev nD) : V m c main_v3 = truncf (F := Ideal) (φ := .f32) (s := S1024x3072) .bf16 (shapeCast S1024x3072 (m (c.tc.loc main_arg3)) shapeCasts_S1x1024x3072_S1024x3072) bitsLt_bf16_f32 := by
  simp only [V, hostOps0, List.flatten_cons, List.flatten_nil, List.append_nil, List.cons_append, List.nil_append]
  after_reads_simp
  rfl

/-- The prompt's batches on one axis. -/
theorem s0 (x : FVec Ideal S16x256x1024 .f32) (a : Fin 16) (b : Fin 256) (k : Fin 1024) :
    shapeCast S4096x1024 x shapeCasts_S16x256x1024_S4096x1024 (ix2 ⟨a.val * 256 + b.val, by omega⟩ k) = x (ix3 a b k) := by
  pointwise

/-- The latents' batches on one axis. -/
theorem s1 (x : FVec Ideal S8x1024x1024 .f32) (a : Fin 8) (b : Fin 1024) (k : Fin 1024) :
    shapeCast S8192x1024 x shapeCasts_S8x1024x1024_S8192x1024 (ix2 ⟨a.val * 1024 + b.val, by omega⟩ k) = x (ix3 a b k) := by
  pointwise

/-- The weight without its leading axis of one. -/
theorem s3 (x : FVec Ideal S1x1024x3072 .f32) (k : Fin 1024) (e : Fin 3072) :
    truncf (F := Ideal) .bf16 (shapeCast S1024x3072 x shapeCasts_S1x1024x3072_S1024x3072) bitsLt_bf16_f32 (ix2 k e) = x (ix3 0 k e) := by
  pointwise

/-- The prompt's block, for a tile of its rows. -/
theorem b0 (c : Dev nD) (t : Fin cfg0.N) (ht : t.val < 8) (r : Fin 512) (k : Fin 1024) (h1 h2) :
    iblk m c 0 t (ix2 r k) = m (c.tc.loc main_arg0) (ix3 ⟨(t.val * 512 + r.val) / 256, h1⟩ ⟨(t.val * 512 + r.val) % 256, h2⟩ k) := by
  refine Eq.trans (b := V m c main_v0 (ix2 ⟨(t.val * 512 + r.val) / 256 * 256 + (t.val * 512 + r.val) % 256, by omega⟩ k)) ?_
    ((congrFun (e0 m c) _).trans (s0 _ ⟨(t.val * 512 + r.val) / 256, h1⟩ ⟨(t.val * 512 + r.val) % 256, h2⟩ k))
  blk_ext [iblk, idx t]

/-- The latents' block, for a tile of their rows. -/
theorem b1 (c : Dev nD) (t : Fin cfg0.N) (ht : ¬t.val < 8) (r : Fin 512) (k : Fin 1024) (h1 h2) :
    iblk m c 1 t (ix2 r k) = m (c.tc.loc main_arg1) (ix3 ⟨((t.val - 8) * 512 + r.val) / 1024, h1⟩ ⟨((t.val - 8) * 512 + r.val) % 1024, h2⟩ k) := by
  have hN : t.val < 24 := t.isLt
  refine Eq.trans (b := V m c main_v1 (ix2 ⟨((t.val - 8) * 512 + r.val) / 1024 * 1024 + ((t.val - 8) * 512 + r.val) % 1024, by omega⟩ k)) ?_
    ((congrFun (e1 m c) _).trans (s1 _ ⟨((t.val - 8) * 512 + r.val) / 1024, h1⟩ ⟨((t.val - 8) * 512 + r.val) % 1024, h2⟩ k))
  blk_ext [iblk, idx t]

/-- The modulation's block. -/
theorem b2 (c : Dev nD) (t : Fin cfg0.N) (a : Fin 6) (k : Fin 1024) (h) :
    iblk m c 2 t (ix3 0 a k) = m (c.tc.loc main_arg2) (ix3 ⟨if t.val < 8 then 0 else 1 + (t.val - 8) / 2, h⟩ a k) := by
  blk_ext [iblk, V, idx t]

/-- The weight's block. -/
theorem b3 (c : Dev nD) (t : Fin cfg0.N) (k : Fin 1024) (e : Fin 3072) :
    iblk m c 3 t (ix2 k e) = m (c.tc.loc main_arg3) (ix3 0 k e) := by
  refine Eq.trans (b := V m c main_v3 (ix2 k e)) ?_ ((congrFun (e3 m c) _).trans (s3 _ k e))
  blk_ext [iblk, idx t]

end Cert.ProjectIdeal.Proj

end
-- ==== Proof.PFinal.lean ====
module

public import proofs.«01_k».proof.Proof.PRead
public import proofs.«01_k».proof.Proof.PKern
public import Idealize.ShloMosaic.Lib.Pipeline.ReadBack

@[expose] public section

set_option maxRecDepth 16384

noncomputable section

open Idealize.ShloMosaic Idealize.ShloMosaic.TcCoe Idealize.SL.Sem

namespace Cert.ProjectIdeal.Proj
open Cert.ProjectIdeal Cert.ProjectIdeal.Gen Cert.ProjectReferenceIdeal.Read
open Cert.ProjectReferenceIdeal.Proj (catp cats r31 r32)

variable (m : (ℓ : Loc nD τ sig) → Buf (Elt Ideal) ℓ)

/-- The reference's result at a prompt row. -/
theorem refp (x0 : FVec Ideal S16x256x1024 .f32) (x1 : FVec Ideal S8x1024x1024 .f32) (x2 : FVec Ideal S16x6x1024 .f32) (x3 : FVec Ideal S1x1024x3072 .f32)
    (n : ℕ) (hn : n < 4096) (e : Fin 3072) (h h1 h2) :
    val_main_v33 (F := Ideal) x0 x1 x2 x3 (ix2 ⟨n, h⟩ e)
      = ∑ k : Fin 1024, (x0 (ix3 ⟨n / 256, h1⟩ ⟨n % 256, h2⟩ k) * (1 + x2 (ix3 0 1 k)) + x2 (ix3 0 0 k)) * x3 (ix3 0 k e) := by
  refine (catp (val_main_v31 (F := Ideal) x0 x2 x3) (val_main_v32 (F := Ideal) x1 x2 x3) ⟨n, hn⟩ e).trans (Eq.trans ?_ (r31 x0 x2 x3 ⟨n / 256, h1⟩ ⟨n % 256, h2⟩ e))
  exact congrArg (fun a => val_main_v31 (F := Ideal) x0 x2 x3 (ix2 a e)) (Fin.ext (by dsimp only; omega))

/-- The reference's result at a latent row. -/
theorem refs (x0 : FVec Ideal S16x256x1024 .f32) (x1 : FVec Ideal S8x1024x1024 .f32) (x2 : FVec Ideal S16x6x1024 .f32) (x3 : FVec Ideal S1x1024x3072 .f32)
    (q n : ℕ) (hq : q = 4096 + n) (hn : n < 8192) (e : Fin 3072) (h h1 h2 h3) :
    val_main_v33 (F := Ideal) x0 x1 x2 x3 (ix2 ⟨q, h⟩ e)
      = ∑ k : Fin 1024, (x1 (ix3 ⟨n / 1024, h1⟩ ⟨n % 1024, h2⟩ k) * (1 + x2 (ix3 ⟨1 + n / 1024, h3⟩ 1 k)) + x2 (ix3 ⟨1 + n / 1024, h3⟩ 0 k)) * x3 (ix3 0 k e) := by
  refine (cats (val_main_v31 (F := Ideal) x0 x2 x3) (val_main_v32 (F := Ideal) x1 x2 x3) ⟨n, hn⟩ e _ hq).trans (Eq.trans ?_ (r32 x1 x2 x3 ⟨n / 1024, h1⟩ ⟨n % 1024, h2⟩ e))
  exact congrArg (fun a => val_main_v32 (F := Ideal) x1 x2 x3 (ix2 a e)) (Fin.ext (by dsimp only; omega))

/-- What a grid point leaves in its output block is the reference's projection there. -/
theorem point (c : Dev nD) (t : Fin cfg0.N) (r : Fin 512) (e : Fin 3072) (h) :
    (dats m 0 c).after 4 t (ix2 r e) = val_main_v33 (F := Ideal) (m (c.tc.loc main_arg0)) (m (c.tc.loc main_arg1)) (m (c.tc.loc main_arg2)) (m (c.tc.loc main_arg3))
      (ix2 ⟨t.val * 512 + r.val, h⟩ e) := by
  have hN : t.val < 24 := t.isLt
  rw [after0_4]; unfold out0_4; frame_out
  refine (pay t _ _ _ _ r e).trans ?_
  by_cases ht : t.val < 8
  · rw [refp _ _ _ _ (t.val * 512 + r.val) (by omega) e h (by omega) (by omega)]
    refine Finset.sum_congr rfl fun k _ => ?_
    rw [if_pos ht, b0 m c t ht r k (by omega) (by omega), b2 m c t 1 k (by split <;> omega), b2 m c t 0 k (by split <;> omega), b3 m c t k e]
    simp only [if_pos ht]
    rfl
  · rw [refs _ _ _ _ (t.val * 512 + r.val) ((t.val - 8) * 512 + r.val) (by omega) (by omega) e h (by omega) (by omega) (by omega)]
    refine Finset.sum_congr rfl fun k _ => ?_
    rw [if_neg ht, b1 m c t ht r k (by omega) (by omega), b2 m c t 1 k (by split <;> omega), b2 m c t 0 k (by split <;> omega), b3 m c t k e]
    have hd : (t.val - 8) / 2 = ((t.val - 8) * 512 + r.val) / 1024 := by omega
    simp only [if_neg ht, hd]

/-- What the kernel leaves in its result is the reference's projection. -/
theorem final (c : Dev nD) :
    (dats m 0 c).arrAt 4 cfg0.N = val_main_v33 (F := Ideal) (m (c.tc.loc main_arg0)) (m (c.tc.loc main_arg1)) (m (c.tc.loc main_arg2)) (m (c.tc.loc main_arg3)) := by
  refine (dats m 0 c).arrAt_eq_of_covers 4 _ (by decide +kernel) fun t _ y => ?_
  have ht : t.val < 24 := t.isLt
  obtain ⟨r, e, rfl⟩ : ∃ (r : Fin 512) (e : Fin 3072), y = ix2 r e := ⟨y 0, y 1, eq_ix2 y⟩
  refine (point m c t r e (by omega)).trans ?_
  blk_ext [idx t]

end Cert.ProjectIdeal.Proj

end
-- ==== Proof.ERoute.lean ====
module

public import proofs.«01_k».proof.Proof.ETab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The routed experts' call at any tables in range: the body at every point, the launch and its final memory. -/

@[expose] public section

set_option maxRecDepth 16384
set_option Elab.async false

noncomputable section

namespace Cert.Experts.Route

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tab)
variable (m : (ℓ : Loc nD τ sig) → Buf (Elt Bits) ℓ) (ρ : Dev nD → PrngReg)

/-- The closed form follows the recursion of one point. -/
theorem sfrTab0_0_step : ∀ (ch : Tab) (t : Fin (cfgA ch).N), sfrTab0_0 ch (t.val + 1) = (if P0_0 ch t then (if P0_1 ch t then false else sfrTab0_0 ch t.val) else sfrTab0_0 ch t.val) := fun ch t => (allFacts ch t).1
/-- Before a position of the grid the recursion agrees with its closed form. -/
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
/-- Before a position of the grid the recursion agrees with its closed form. -/
theorem sfreshF0_0 (t : Fin (cfgA ch).N) : sfresh0_0 ch t.val = sfrTab0_0 ch t.val := sfresh0_0_eq ch t.val (Nat.le_of_lt t.isLt)
/-- Before a position of the grid the recursion agrees with its closed form. -/
theorem sfreshS0_0 (t : Fin (cfgA ch).N) : sfresh0_0 ch (t.val + 1) = sfrTab0_0 ch (t.val + 1) := sfresh0_0_eq ch (t.val + 1) t.isLt

/-- The closed form follows the recursion of one point. -/
theorem sfrTab0_1_step : ∀ (ch : Tab) (t : Fin (cfgA ch).N), sfrTab0_1 ch (t.val + 1) = (if P0_0 ch t then (if P0_1 ch t then false else sfrTab0_1 ch t.val) else sfrTab0_1 ch t.val) := fun ch t => (allFacts ch t).2.1
/-- Before a position of the grid the recursion agrees with its closed form. -/
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
/-- Before a position of the grid the recursion agrees with its closed form. -/
theorem sfreshF0_1 (t : Fin (cfgA ch).N) : sfresh0_1 ch t.val = sfrTab0_1 ch t.val := sfresh0_1_eq ch t.val (Nat.le_of_lt t.isLt)
/-- Before a position of the grid the recursion agrees with its closed form. -/
theorem sfreshS0_1 (t : Fin (cfgA ch).N) : sfresh0_1 ch (t.val + 1) = sfrTab0_1 ch (t.val + 1) := sfresh0_1_eq ch (t.val + 1) t.isLt

/-- The closed form follows the recursion of one point. -/
theorem sfrTab0_2_step : ∀ (ch : Tab) (t : Fin (cfgA ch).N), sfrTab0_2 ch (t.val + 1) = (if P0_0 ch t then (if P0_1 ch t then false else sfrTab0_2 ch t.val) else sfrTab0_2 ch t.val) := fun ch t => (allFacts ch t).2.2.1
/-- Before a position of the grid the recursion agrees with its closed form. -/
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
/-- Before a position of the grid the recursion agrees with its closed form. -/
theorem sfreshF0_2 (t : Fin (cfgA ch).N) : sfresh0_2 ch t.val = sfrTab0_2 ch t.val := sfresh0_2_eq ch t.val (Nat.le_of_lt t.isLt)
/-- Before a position of the grid the recursion agrees with its closed form. -/
theorem sfreshS0_2 (t : Fin (cfgA ch).N) : sfresh0_2 ch (t.val + 1) = sfrTab0_2 ch (t.val + 1) := sfresh0_2_eq ch (t.val + 1) t.isLt

/-- The output buffer is fresh before every point. -/
theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.1
/-- The output buffer is fresh before every point. -/
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

/-- The body takes its path under these conditions. -/
theorem hypsR0_A : ∀ (ch : Tab) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_A

/-- What the schedule says of a point on this path. -/
theorem sched0_A : ∀ (ch : Tab) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false := by
  intro ch t; rw [freshF0_4 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.1

/-- The body takes its path under these conditions. -/
theorem hypsR0_B : ∀ (ch : Tab) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_B

/-- What the schedule says of a point on this path. -/
theorem sched0_B : ∀ (ch : Tab) (t : Fin (cfgA ch).N), P0_0 ch t → ¬P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.2.2.1

/-- The body takes its path under these conditions. -/
theorem hypsR0_C : ∀ (ch : Tab) (t : Fin (cfgA ch).N), ¬P0_0 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := hyps0_C

/-- What the schedule says of a point on this path. -/
theorem sched0_C : ∀ (ch : Tab) (t : Fin (cfgA ch).N), ¬P0_0 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.2.2) ch t

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1)
    else
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
  else
    (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1)

/-- THE TRAJECTORY: after position `n`. -/
def traj0 (c : Dev nD) : (n : ℕ) → n < (cfgA ch).N → (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

/-- What the output and the scratches hold after each point. -/
theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1) := by
  unfold step0; simp only [dif_pos q0, dif_pos q1]

/-- `step0` at a point of path B. -/
theorem step0_B (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : ¬P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_pos q0, dif_neg q1]

/-- `step0` at a point of path C. -/
theorem step0_C (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1) := by
  unfold step0; simp only [dif_neg q0]

/-- What the tracked buffers held before position `t` of `Fin (N+1)` (the invariant's index). -/
def prev0T (c : Dev nD) (t : Fin ((cfgA ch).N + 1)) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

/-- What they held before a point. -/
theorem prev0T_castSucc (c : Dev nD) (t : Fin (cfgA ch).N) : prev0T ch m ρ c t.castSucc = prev0 ch m ρ c t := by
  unfold prev0T prev0; simp only [Fin.val_castSucc]
/-- What they held before a point. -/
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp (MT nD τ sig Unit (Elt Bits) ℕ (UR sig nD τ) ℕ) :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

/-- A part of the launch's frame at these tables. -/
theorem after0_0 (c : Dev nD) (t : Fin (cfgA ch).N) : (dats ch m ρ 0 c).after (0 : Fin 5) t = iblk ch m ρ c (0 : Fin 5) t := rfl
/-- A part of the launch's frame at these tables. -/
theorem after0_1 (c : Dev nD) (t : Fin (cfgA ch).N) : (dats ch m ρ 0 c).after (1 : Fin 5) t = iblk ch m ρ c (1 : Fin 5) t := rfl
/-- A part of the launch's frame at these tables. -/
theorem after0_2 (c : Dev nD) (t : Fin (cfgA ch).N) : (dats ch m ρ 0 c).after (2 : Fin 5) t = iblk ch m ρ c (2 : Fin 5) t := rfl
/-- A part of the launch's frame at these tables. -/
theorem after0_3 (c : Dev nD) (t : Fin (cfgA ch).N) : (dats ch m ρ 0 c).after (3 : Fin 5) t = iblk ch m ρ c (3 : Fin 5) t := rfl
/-- A part of the launch's frame at these tables. -/
theorem after0_4 (c : Dev nD) (t : Fin (cfgA ch).N) : (dats ch m ρ 0 c).after (4 : Fin 5) t = (traj0 ch m ρ c t.val t.isLt).1 := rfl

/-- What a window holds before the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- What a window holds before the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- What a window holds before the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- What a window holds before the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -⟩ := sched0_A ch t q0 q1
      rw [i4] at hi; exact absurd hi (by decide)
    · obtain ⟨i4, -, -, -, -, -, -, -, -⟩ := sched0_B ch t q0 q1
      rw [i4] at hi; exact absurd hi (by decide)
  · obtain ⟨i4, -, -, -, -, -, -, -, -⟩ := sched0_C ch t q0
    rw [i4] at hi; exact absurd hi (by decide)

/-- What a window holds before the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- A part of the launch's frame at these tables. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2⟩ := sched0_A ch t q0 q1
      have F0 := hypsR0_A ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1, sf2, sfn2⟩ := sched0_B ch t q0 q1
      have F0 := hypsR0_B ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
  · obtain ⟨i4, f4, fr4, sf0, sfn0, sf1, sfn1, sf2, sfn2⟩ := sched0_C ch t q0
    have F0 := hypsR0_C ch t q0
    have k0_h1 := F0.1; have F1 := F0.2
    have k0_h3 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_C ch m ρ c t _ q0]
    unfold Phi; simp only [prev0T_castSucc, prev0T_succ, traj0_eq, step0_C ch m ρ c t _ q0, Fin.val_castSucc, Fin.val_succ]
    simp only [exists_held sf0, exists_held sf1, exists_held sf2]
    iintro ⟨⟨HS0, HS1, HS2, HT0, HT1⟩, Ho, ⟨%d0, H0⟩, ⟨%d1, H1⟩, ⟨%d2, H2⟩, ⟨%d3, H3⟩, ⟨%d4, H4⟩⟩
    iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

/-- A part of the launch's frame at these tables. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp (MT nD τ sig Unit (Elt Bits) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- A part of the launch's frame at these tables. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Under these tables every array ends at what the launch computes. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Under these tables the kernel runs, its arguments end as they were and every counter ends at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Route

end
-- ==== Proof.EPre.lean ====
module

public import proofs.«01_k».proof.Pre_tables
public import Idealize.ShloMosaic.Lib.ReduceAll
public import Idealize.ShloMosaic.Lib.ValueIdx
public import Idealize.ShloMosaic.Lib.Pipeline.ValueKit

@[expose] public section

noncomputable section

open Idealize.ShloMosaic

namespace Cert.Pre_tables.Range
open Cert.Pre_tables

/-- The side conditions of the precondition's operations. -/
theorem facts : Facts where
  bcast_S_S112 := by decide
  reducesTo_S112_S_d0 := by decide
  h_S_ := by decide
  bcast_S_S1 := by decide
  reducesTo_S1_S_d0 := by decide

/-- A word that is not negative and below a small bound, read as a natural number. -/
theorem below (a b : BitVec 32) (hb : b.toNat < 2 ^ 31) (h0 : BitVec.ofBool ((0#32).sle a) = 1#1) (h1 : BitVec.ofBool (a.slt b) = 1#1) : a.toNat < b.toNat := by
  have k0 : (0#32).sle a = true := by revert h0; cases (0#32).sle a <;> decide
  have k1 : a.slt b = true := by revert h1; cases a.slt b <;> decide
  rw [BitVec.sle_eq_decide, decide_eq_true_iff] at k0
  rw [BitVec.slt_eq_decide, decide_eq_true_iff] at k1
  rw [BitVec.toInt_eq_toNat_of_lt (x := b) (by omega)] at k1
  have z : (0#32).toInt = 0 := by decide
  rw [z] at k0
  have hc := BitVec.toInt_eq_toNat_cond a
  split at hc <;> omega

/-- A word from one to a small bound, read as a natural number. -/
theorem within (a b : BitVec 32) (hb : b.toNat < 2 ^ 31) (h0 : BitVec.ofBool ((1#32).sle a) = 1#1) (h1 : BitVec.ofBool (a.sle b) = 1#1) : 1 ≤ a.toNat ∧ a.toNat ≤ b.toNat := by
  have k0 : (1#32).sle a = true := by revert h0; cases (1#32).sle a <;> decide
  have k1 : a.sle b = true := by revert h1; cases a.sle b <;> decide
  rw [BitVec.sle_eq_decide, decide_eq_true_iff] at k0
  rw [BitVec.sle_eq_decide, decide_eq_true_iff] at k1
  rw [BitVec.toInt_eq_toNat_of_lt (x := b) (by omega)] at k1
  have z : (1#32).toInt = 1 := by decide
  rw [z] at k0
  have hc := BitVec.toInt_eq_toNat_cond a
  split at hc <;> omega

/-- Under the precondition every tile's expert is among the sixteen, and from one to all of the tiles are in use. -/
theorem range {F : FTy → Type} [FloatOps F] [Facts] (a0 : IVec S112 32) (a1 : IVec S1 32) (a2 : FVec F S28672x8x128 .f32) (a3 a4 : FVec F S2x16x1024x512 .f32)
    (a5 : FVec F S2x16x512x1024 .f32) (h : fn (F := F) a0 a1 a2 a3 a4 a5 = fun _ => 1#1) :
    (∀ x, (a0 x).toNat < 16) ∧ (∀ x, 1 ≤ (a1 x).toNat ∧ (a1 x).toNat ≤ 112) := by
  have h := congrFun h ix0
  dsimp only [fn] at h
  obtain ⟨h, k3⟩ := IntOp.andi_eq_one.1 h
  obtain ⟨h, k2⟩ := IntOp.andi_eq_one.1 h
  obtain ⟨k0, k1⟩ := IntOp.andi_eq_one.1 h
  haveI : Subsingleton S_.Idx := ⟨fun a b => funext fun i => i.elim0⟩
  exact ⟨fun i => below (a0 i) 16#32 (by decide) (Host.reduce_andi_all _ _ _ _ ix0 k0 i) (Host.reduce_andi_all _ _ _ _ ix0 k1 i),
    fun i => within (a1 i) 112#32 (by decide) (Host.reduce_andi_all _ _ _ _ ix0 k2 i) (Host.reduce_andi_all _ _ _ _ ix0 k3 i)⟩

end Cert.Pre_tables.Range

end
-- ==== Proof.ETabI.lean ====
module

public import proofs.«01_k».proof.Proof.Gen.ExpertsIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The routed experts' call run at any tables the precondition allows: the tables' words are variables, every fact
    about a grid point is proved from their ranges, and the launch's frame and final memory follow. -/

@[expose] public section

set_option maxRecDepth 16384
set_option Elab.async false

noncomputable section

namespace Cert.ExpertsIdeal.Route

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables a launch reads: an expert for every tile, and the number of tiles in use, in their ranges. -/
structure Tab where
  te : S112.Idx → BitVec 32
  nt : S1.Idx → BitVec 32
  hte : ∀ x, (te x).toNat < 16
  hnt : ∀ x, 1 ≤ (nt x).toNat ∧ (nt x).toNat ≤ 112

variable (ch : Tab)

/-- The table of experts. -/
def pinT_0 (ch : Tab) : S112.Idx → BitVec 32 := ch.te

/-- The number of tiles. -/
def pinT_1 (ch : Tab) : S1.Idx → BitVec 32 := ch.nt

set_option backward.proofsInPublic true in
/-- The two tables as the launch's prefetched contents. -/
def pfN : pre0.Contents (Elt Ideal) := fun | ⟨0, _⟩ => pinT_0 ch | ⟨1, _⟩ => pinT_1 ch | ⟨_ + 2, h⟩ => absurd h (by simp)

/-- The launch memory holds these tables on every device. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

variable (ch : Tab)

/-- The word of the first table an index map reads is below 16. -/
theorem at_0 (ch : Tab) (r : Rect S112) (h : r.shape.numel = 1) : ((pfN ch).at 0 r h : BitVec 32).toNat < 16 := ch.hte _

/-- The word of the second table an index map reads is between 1 and 112. -/
theorem at_1 (ch : Tab) (r : Rect S1) (h : r.shape.numel = 1) :
    1 ≤ ((pfN ch).at 1 r h : BitVec 32).toNat ∧ ((pfN ch).at 1 r h : BitVec 32).toNat ≤ 112 := ch.hnt _

/-- The smaller of a grid point and one less than the number of tiles is a block of the tokens. -/
theorem min_lt (w : BitVec 32) (h : 1 ≤ w.toNat ∧ w.toNat ≤ 112) (k : ℕ) (hk : k < 112) :
    (Scalar.minsi (BitVec.ofNat 32 k) (Scalar.subi w 1#32)).toNat < 112 := by
  have e : (w - 1#32).toNat < 112 := by bv_omega
  have e' : (BitVec.ofNat 32 k).toNat < 112 := by rw [BitVec.toNat_ofNat]; omega
  show (IntOp.minsi (BitVec.ofNat 32 k) (w - 1#32)).toNat < 112
  unfold IntOp.minsi
  split
  · exact e'
  · exact e

/-- The tokens' blocks lie in their array. -/
theorem inb_0 (ch : Tab) : ∀ i : grid0.Coords, ∀ a, (cc0_transform_0 inb_S1_S1_0 numel1_S1 (pfN ch) i a + 1) * S256x8x128.size a ≤ S28672x8x128.size a := by
  intro i
  have h := min_lt _ (at_1 ch (Rect.unit (s := S1) ![0] S1.size inb_S1_S1_0) numel1_S1) (i 0).val (i 0).isLt
  unfold cc0_transform_0
  refine okcons ?_ (okcons (by decide) (okcons (by decide) (fun a => a.elim0)))
  omega

/-- The gate weights' blocks lie in their array. -/
theorem inb_1 (ch : Tab) : ∀ i : grid0.Coords, ∀ a, (cc0_transform_1 k0_off1_inb numel1_S1 (pfN ch) i a + 1) * S1x1x1024x512.size a ≤ S2x16x1024x512.size a := by
  intro i
  unfold cc0_transform_1
  refine okcons (by decide) (okcons ?_ (okcons (by decide) (okcons (by decide) (fun a => a.elim0))))
  exact (Nat.mul_one _).le.trans (Nat.succ_le_of_lt (at_0 ch _ _))

/-- The up weights' blocks lie in their array. -/
theorem inb_2 (ch : Tab) : ∀ i : grid0.Coords, ∀ a, (cc0_transform_2 k0_off1_inb numel1_S1 (pfN ch) i a + 1) * S1x1x1024x512.size a ≤ S2x16x1024x512.size a := inb_1 ch

/-- The down weights' blocks lie in their array. -/
theorem inb_3 (ch : Tab) : ∀ i : grid0.Coords, ∀ a, (cc0_transform_3 k0_off1_inb numel1_S1 (pfN ch) i a + 1) * S1x1x512x1024.size a ≤ S2x16x512x1024.size a := by
  intro i
  unfold cc0_transform_3
  refine okcons (by decide) (okcons ?_ (okcons (by decide) (okcons (by decide) (fun a => a.elim0))))
  exact (Nat.mul_one _).le.trans (Nat.succ_le_of_lt (at_0 ch _ _))

/-- The launch accepts every such pair of tables. -/
theorem ok_pfN (ch : Tab) : ok0 (F := Ideal) (pfN ch) :=
  ⟨fun i => ⟨inb_0 ch i, .inl rfl⟩, fun i => ⟨inb_1 ch i, .inl rfl⟩, fun i => ⟨inb_2 ch i, .inl rfl⟩, fun i => ⟨inb_3 ch i, .inl rfl⟩⟩

/-- The pipeline at these tables. -/
def adm : (pcfg0 (F := Ideal)).Adm := ⟨pfN ch, ok_pfN ch⟩
/-- The pipeline at these tables. -/
abbrev cfgA : Pipeline.Cfg sig Λ₀ := cfg0 (F := Ideal) (adm ch)
/-- The pipeline at these tables. -/
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x8x128 .f32 := spec0_0.stage ((cfgA ch).slots t (0 : Fin 5))
/-- The buffer this window uses at a point. -/
abbrev hs0_0 (t : Fin (cfgA ch).N) : (ms0_0 ch t).IsWhole := hstage0_0 (((cfgA ch).slots t (0 : Fin 5)).cast nbuf0_0)
/-- The buffer this window uses at a point. -/
abbrev ms0_1 (t : Fin (cfgA ch).N) : Memref sig .tc .vmem S1x1x1024x512 .f32 := spec0_1.stage ((cfgA ch).slots t (1 : Fin 5))
/-- The buffer this window uses at a point. -/
abbrev hs0_1 (t : Fin (cfgA ch).N) : (ms0_1 ch t).IsWhole := hstage0_1 (((cfgA ch).slots t (1 : Fin 5)).cast nbuf0_1)
/-- The buffer this window uses at a point. -/
abbrev ms0_2 (t : Fin (cfgA ch).N) : Memref sig .tc .vmem S1x1x1024x512 .f32 := spec0_2.stage ((cfgA ch).slots t (2 : Fin 5))
/-- The buffer this window uses at a point. -/
abbrev hs0_2 (t : Fin (cfgA ch).N) : (ms0_2 ch t).IsWhole := hstage0_2 (((cfgA ch).slots t (2 : Fin 5)).cast nbuf0_2)
/-- The buffer this window uses at a point. -/
abbrev ms0_3 (t : Fin (cfgA ch).N) : Memref sig .tc .vmem S1x1x512x1024 .f32 := spec0_3.stage ((cfgA ch).slots t (3 : Fin 5))
/-- The buffer this window uses at a point. -/
abbrev hs0_3 (t : Fin (cfgA ch).N) : (ms0_3 ch t).IsWhole := hstage0_3 (((cfgA ch).slots t (3 : Fin 5)).cast nbuf0_3)
/-- The buffer this window uses at a point. -/
abbrev ms0_4 (t : Fin (cfgA ch).N) : Memref sig .tc .vmem S256x8x128 .f32 := spec0_4.stage ((cfgA ch).slots t (4 : Fin 5))
/-- The buffer this window uses at a point. -/
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- What the body decides at a point. -/
abbrev P0_0 (t : Fin (cfgA ch).N) : Prop := k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1
/-- What the body decides at a point. -/
abbrev P0_1 (t : Fin (cfgA ch).N) : Prop := (Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then (if P0_1 ch ⟨n, h⟩ then false else sfresh0_0 n) else sfresh0_0 n) else true

/-- The first point that stores this scratch. -/
def sfirst0_0 (ch : Tab) : ℕ := 0
/-- The same, in closed form: undetermined before the first position only. -/
def sfrTab0_0 : ℕ → Bool := fun n => decide (n ≤ sfirst0_0 ch)

/-- Whether scratch 1 (`cc0_scratch1`) holds nothing a point has determined, before position `n`: until a path that stores it
    whole first (A) has run. -/
def sfresh0_1 : ℕ → Bool
  | 0 => true
  | n + 1 => if h : n < (cfgA ch).N then (if P0_0 ch ⟨n, h⟩ then (if P0_1 ch ⟨n, h⟩ then false else sfresh0_1 n) else sfresh0_1 n) else true

/-- The first point that stores this scratch. -/
def sfirst0_1 (ch : Tab) : ℕ := 0
/-- The same, in closed form: undetermined before the first position only. -/
def sfrTab0_1 : ℕ → Bool := fun n => decide (n ≤ sfirst0_1 ch)

/-- Whether scratch 2 (`cc0_scratch2`) holds nothing a point has determined, before position `n`: until a path that stores it
    whole first (A) has run. -/
def sfresh0_2 : ℕ → Bool
  | 0 => true
  | n + 1 => if h : n < (cfgA ch).N then (if P0_0 ch ⟨n, h⟩ then (if P0_1 ch ⟨n, h⟩ then false else sfresh0_2 n) else sfresh0_2 n) else true

/-- The first point that stores this scratch. -/
def sfirst0_2 (ch : Tab) : ℕ := 0
/-- The same, in closed form: undetermined before the first position only. -/
def sfrTab0_2 : ℕ → Bool := fun n => decide (n ≤ sfirst0_2 ch)

/-- The output window's buffer holds nothing kept before any point: every point writes its block back. -/
def frTab0_4 (ch : Tab) : ℕ → Bool := fun _ => true

/-- Everything the frame needs of a point. -/
abbrev FactsAt (ch : Tab) (t : Fin (cfgA ch).N) : Prop :=
  (sfrTab0_0 ch (t.val + 1) = (if P0_0 ch t then (if P0_1 ch t then false else sfrTab0_0 ch t.val) else sfrTab0_0 ch t.val))
  ∧ (sfrTab0_1 ch (t.val + 1) = (if P0_0 ch t then (if P0_1 ch t then false else sfrTab0_1 ch t.val) else sfrTab0_1 ch t.val))
  ∧ (sfrTab0_2 ch (t.val + 1) = (if P0_0 ch t then (if P0_1 ch t then false else sfrTab0_2 ch t.val) else sfrTab0_2 ch t.val))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false ∧ sfrTab0_2 ch (t.val + 1) = false)
  ∧ (P0_0 ch t → ¬P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → ¬P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))
  ∧ (¬P0_0 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

/-- The proof's resource algebra: the rounds library's, for the pipeline's staging cells, embedded whole. -/
abbrev EP : Emb (UR sig nD τ) (MT nD τ sig Unit (Elt Ideal) ℕ (UR sig nD τ) ℕ) := emb₁

/-- A point's coordinate is its position. -/
theorem crd_val (ch : Tab) (t : Fin (cfgA ch).N) : (crd ch t 0).val = t.val :=
  (by decide +kernel : ∀ t : Fin grid0.N, (grid0.coords t 0).val = t.val) t

/-- A grid point is past the tiles in use exactly when it is not among them. -/
theorem cond3_iff (i : grid0.Coords) (w : BitVec 32) : k0_cond3 i w = 1#1 ↔ ¬ k0_cond1 i w = 1#1 := by
  have key : ∀ a b : BitVec 32,
      (Scalar.cmpi .ne (Scalar.extui (Scalar.cmpi .sge a b) : BitVec 32) 0#32 = 1#1)
        ↔ ¬ (Scalar.cmpi .ne (Scalar.extui (Scalar.cmpi .slt a b) : BitVec 32) 0#32 = 1#1) := by
    intro a b
    have e : ∀ p : Bool, (Scalar.cmpi .ne (Scalar.extui (BitVec.ofBool p) : BitVec 32) 0#32 = 1#1) ↔ p = true := by decide
    have e1 : Scalar.cmpi .sge a b = BitVec.ofBool (b.sle a) := rfl
    have e2 : Scalar.cmpi .slt a b = BitVec.ofBool (a.slt b) := rfl
    rw [e1, e2, e, e, BitVec.sle_eq_not_slt]
    cases a.slt b <;> simp
  exact key _ _

/-- A grid point is among the tiles in use exactly when it is below their number. -/
theorem cond1_iff (i : grid0.Coords) (w : BitVec 32) (h : w.toNat ≤ 112) : k0_cond1 i w = 1#1 ↔ (i 0).val < w.toNat := by
  have e : ∀ p : Bool, (Scalar.cmpi .ne (Scalar.extui (BitVec.ofBool p) : BitVec 32) 0#32 = 1#1) ↔ p = true := by decide
  have hi : (i 0).val < 112 := (i 0).isLt
  refine (e ((BitVec.ofNat 32 (i 0).val).slt w)).trans ?_
  rw [BitVec.slt_eq_decide, decide_eq_true_iff, BitVec.toInt_eq_toNat_of_lt, BitVec.toInt_eq_toNat_of_lt, BitVec.toNat_ofNat]
  · omega
  · omega
  · rw [BitVec.toNat_ofNat]; omega

/-- The one index of the second table. -/
abbrev one₀ : S1.Idx := Shape.Idx.first (numel1_S1.symm ▸ Nat.one_pos)

/-- The second table has one index. -/
theorem one_idx (x y : S1.Idx) : x = y := funext fun a => Fin.ext (by
  have e : ∀ a, S1.size a = 1 := by decide
  have h := (x a).isLt.trans_eq (e a)
  have h' := (y a).isLt.trans_eq (e a)
  omega)

/-- Whether a point is among the tiles in use. -/
theorem P0_0_iff (ch : Tab) (t : Fin (cfgA ch).N) : P0_0 ch t ↔ t.val < (ch.nt one₀).toNat := by
  have h := cond1_iff (crd ch t) (ch.nt one₀) (ch.hnt _).2
  rw [crd_val] at h
  refine Iff.trans (iff_of_eq ?_) h
  exact congrArg (fun x => k0_cond1 (crd ch t) (ch.nt x) = 1#1) (one_idx _ _)

/-- The first point is among the tiles in use. -/
theorem P0_0_zero (ch : Tab) (t : Fin (cfgA ch).N) (h : t.val = 0) : P0_0 ch t :=
  (P0_0_iff ch t).2 (by have := (ch.hnt one₀).1; omega)

/-- The first point loads the weights. -/
theorem P0_1_zero (ch : Tab) (t : Fin (cfgA ch).N) (h : t.val = 0) : P0_1 ch t := by
  have e : ∀ x : BitVec 1, (Scalar.cmpi .ne (Scalar.extui (Scalar.ori (Scalar.cmpi .eq (BitVec.ofNat 32 0) 0#32) x) : BitVec 32) 0#32) = 1#1 := by decide
  show (Scalar.cmpi .ne (Scalar.extui (Scalar.ori (Scalar.cmpi .eq (BitVec.ofNat 32 (crd ch t 0).val) 0#32) _) : BitVec 32) 0#32) = 1#1
  rw [crd_val, h]
  exact e _

/-- One pair of tables in range. -/
def tab₀ : Tab := ⟨fun _ => 0#32, fun _ => 1#32, fun _ => by decide, fun _ => by decide⟩

/-- At it, every point writes the output's block back. -/
theorem flush₀ : ∀ t : Fin (cfgA tab₀).N, ((cfgA tab₀).win (4 : Fin 5)).flush t = true := by decide +kernel

/-- Every point writes the output's block back: the output's blocks do not depend on the tables. -/
theorem flush_4 (ch : Tab) (t : Fin (cfgA ch).N) : ((cfgA ch).win (4 : Fin 5)).flush t = true := flush₀ t

/-- No point leaves the output alone: each is among the tiles in use or past them. -/
theorem idle_4 (ch : Tab) (t : Fin (cfgA ch).N) : (cfgA ch).idle (4 : Fin 5) ((cfgA ch).grid.coords t) = false := by
  show (!(k0_cond1 (crd ch t) ((pfN ch).atD 1 ![0]) == 1#1) && !(k0_cond3 (crd ch t) ((pfN ch).atD 1 ![0]) == 1#1)) = false
  have h := cond3_iff (crd ch t) ((pfN ch).atD 1 ![0])
  generalize k0_cond1 (crd ch t) ((pfN ch).atD 1 ![0]) = a at *
  generalize k0_cond3 (crd ch t) ((pfN ch).atD 1 ![0]) = b at *
  revert a b
  decide

/-- A scratch is undetermined before the first point only. -/
theorem sfr_step (ch : Tab) (t : Fin (cfgA ch).N) :
    decide (t.val + 1 ≤ 0) = (if P0_0 ch t then (if P0_1 ch t then false else decide (t.val ≤ 0)) else decide (t.val ≤ 0)) := by
  by_cases h : t.val = 0
  · rw [if_pos (P0_0_zero ch t h), if_pos (P0_1_zero ch t h)]; simp
  · have e : decide (t.val ≤ 0) = false := by simp; omega
    rw [e]; simp

/-- Past the first point a scratch is determined. -/
theorem sfr_pos (n : ℕ) (h : n ≠ 0) : decide (n ≤ 0) = false := by simp; omega

/-- The facts at every point, for all tables. -/
theorem allFacts (ch : Tab) (t : Fin (cfgA ch).N) : FactsAt ch t := by
  have f := flush_4 ch t
  have i := idle_4 ch t
  have s : decide (t.val + 1 ≤ 0) = false := sfr_pos _ (by omega)
  refine ⟨sfr_step ch t, sfr_step ch t, sfr_step ch t, ?_, fun h0 h1 => ⟨h0, h1, fun h3 => (cond3_iff _ _).1 h3 h0, trivial⟩,
    fun h0 h1 => ⟨i, f, rfl, s, s, s⟩, fun h0 h1 => ⟨h0, h1, fun h3 => (cond3_iff _ _).1 h3 h0, trivial⟩, fun h0 h1 => ?_,
    fun h0 => ⟨h0, (cond3_iff _ _).2 h0, trivial⟩, fun h0 => ?_⟩
  · rw [f]; rfl
  · have z : decide (t.val ≤ 0) = false := sfr_pos _ fun h => h1 (P0_1_zero ch t h)
    exact ⟨i, f, rfl, z, s, z, s, z, s⟩
  · have z : decide (t.val ≤ 0) = false := sfr_pos _ fun h => h0 (P0_0_zero ch t h)
    exact ⟨i, f, rfl, z, s, z, s, z, s⟩

end Cert.ExpertsIdeal.Route

end
-- ==== Proof.ERouteI.lean ====
module

public import proofs.«01_k».proof.Proof.ETabI
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The routed experts' call at any tables in range: the body at every point, the launch and its final memory. -/

@[expose] public section

set_option maxRecDepth 16384
set_option Elab.async false

noncomputable section

namespace Cert.ExpertsIdeal.Route

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tab)
variable (m : (ℓ : Loc nD τ sig) → Buf (Elt Ideal) ℓ) (ρ : Dev nD → PrngReg)

/-- The closed form follows the recursion of one point. -/
theorem sfrTab0_0_step : ∀ (ch : Tab) (t : Fin (cfgA ch).N), sfrTab0_0 ch (t.val + 1) = (if P0_0 ch t then (if P0_1 ch t then false else sfrTab0_0 ch t.val) else sfrTab0_0 ch t.val) := fun ch t => (allFacts ch t).1
/-- Before a position of the grid the recursion agrees with its closed form. -/
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
/-- Before a position of the grid the recursion agrees with its closed form. -/
theorem sfreshF0_0 (t : Fin (cfgA ch).N) : sfresh0_0 ch t.val = sfrTab0_0 ch t.val := sfresh0_0_eq ch t.val (Nat.le_of_lt t.isLt)
/-- Before a position of the grid the recursion agrees with its closed form. -/
theorem sfreshS0_0 (t : Fin (cfgA ch).N) : sfresh0_0 ch (t.val + 1) = sfrTab0_0 ch (t.val + 1) := sfresh0_0_eq ch (t.val + 1) t.isLt

/-- The closed form follows the recursion of one point. -/
theorem sfrTab0_1_step : ∀ (ch : Tab) (t : Fin (cfgA ch).N), sfrTab0_1 ch (t.val + 1) = (if P0_0 ch t then (if P0_1 ch t then false else sfrTab0_1 ch t.val) else sfrTab0_1 ch t.val) := fun ch t => (allFacts ch t).2.1
/-- Before a position of the grid the recursion agrees with its closed form. -/
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
/-- Before a position of the grid the recursion agrees with its closed form. -/
theorem sfreshF0_1 (t : Fin (cfgA ch).N) : sfresh0_1 ch t.val = sfrTab0_1 ch t.val := sfresh0_1_eq ch t.val (Nat.le_of_lt t.isLt)
/-- Before a position of the grid the recursion agrees with its closed form. -/
theorem sfreshS0_1 (t : Fin (cfgA ch).N) : sfresh0_1 ch (t.val + 1) = sfrTab0_1 ch (t.val + 1) := sfresh0_1_eq ch (t.val + 1) t.isLt

/-- The closed form follows the recursion of one point. -/
theorem sfrTab0_2_step : ∀ (ch : Tab) (t : Fin (cfgA ch).N), sfrTab0_2 ch (t.val + 1) = (if P0_0 ch t then (if P0_1 ch t then false else sfrTab0_2 ch t.val) else sfrTab0_2 ch t.val) := fun ch t => (allFacts ch t).2.2.1
/-- Before a position of the grid the recursion agrees with its closed form. -/
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
/-- Before a position of the grid the recursion agrees with its closed form. -/
theorem sfreshF0_2 (t : Fin (cfgA ch).N) : sfresh0_2 ch t.val = sfrTab0_2 ch t.val := sfresh0_2_eq ch t.val (Nat.le_of_lt t.isLt)
/-- Before a position of the grid the recursion agrees with its closed form. -/
theorem sfreshS0_2 (t : Fin (cfgA ch).N) : sfresh0_2 ch (t.val + 1) = sfrTab0_2 ch (t.val + 1) := sfresh0_2_eq ch (t.val + 1) t.isLt

/-- The output buffer is fresh before every point. -/
theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.1
/-- The output buffer is fresh before every point. -/
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

/-- The body takes its path under these conditions. -/
theorem hypsR0_A : ∀ (ch : Tab) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_A

/-- What the schedule says of a point on this path. -/
theorem sched0_A : ∀ (ch : Tab) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false := by
  intro ch t; rw [freshF0_4 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.1

/-- The body takes its path under these conditions. -/
theorem hypsR0_B : ∀ (ch : Tab) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_B

/-- What the schedule says of a point on this path. -/
theorem sched0_B : ∀ (ch : Tab) (t : Fin (cfgA ch).N), P0_0 ch t → ¬P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.2.2.1

/-- The body takes its path under these conditions. -/
theorem hypsR0_C : ∀ (ch : Tab) (t : Fin (cfgA ch).N), ¬P0_0 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := hyps0_C

/-- What the schedule says of a point on this path. -/
theorem sched0_C : ∀ (ch : Tab) (t : Fin (cfgA ch).N), ¬P0_0 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.2.2) ch t

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1)
    else
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
  else
    (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1)

/-- THE TRAJECTORY: after position `n`. -/
def traj0 (c : Dev nD) : (n : ℕ) → n < (cfgA ch).N → (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

/-- What the output and the scratches hold after each point. -/
theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1) := by
  unfold step0; simp only [dif_pos q0, dif_pos q1]

/-- `step0` at a point of path B. -/
theorem step0_B (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : ¬P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_pos q0, dif_neg q1]

/-- `step0` at a point of path C. -/
theorem step0_C (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1) := by
  unfold step0; simp only [dif_neg q0]

/-- What the tracked buffers held before position `t` of `Fin (N+1)` (the invariant's index). -/
def prev0T (c : Dev nD) (t : Fin ((cfgA ch).N + 1)) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

/-- What they held before a point. -/
theorem prev0T_castSucc (c : Dev nD) (t : Fin (cfgA ch).N) : prev0T ch m ρ c t.castSucc = prev0 ch m ρ c t := by
  unfold prev0T prev0; simp only [Fin.val_castSucc]
/-- What they held before a point. -/
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp (MT nD τ sig Unit (Elt Ideal) ℕ (UR sig nD τ) ℕ) :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

/-- A part of the launch's frame at these tables. -/
theorem after0_0 (c : Dev nD) (t : Fin (cfgA ch).N) : (dats ch m ρ 0 c).after (0 : Fin 5) t = iblk ch m ρ c (0 : Fin 5) t := rfl
/-- A part of the launch's frame at these tables. -/
theorem after0_1 (c : Dev nD) (t : Fin (cfgA ch).N) : (dats ch m ρ 0 c).after (1 : Fin 5) t = iblk ch m ρ c (1 : Fin 5) t := rfl
/-- A part of the launch's frame at these tables. -/
theorem after0_2 (c : Dev nD) (t : Fin (cfgA ch).N) : (dats ch m ρ 0 c).after (2 : Fin 5) t = iblk ch m ρ c (2 : Fin 5) t := rfl
/-- A part of the launch's frame at these tables. -/
theorem after0_3 (c : Dev nD) (t : Fin (cfgA ch).N) : (dats ch m ρ 0 c).after (3 : Fin 5) t = iblk ch m ρ c (3 : Fin 5) t := rfl
/-- A part of the launch's frame at these tables. -/
theorem after0_4 (c : Dev nD) (t : Fin (cfgA ch).N) : (dats ch m ρ 0 c).after (4 : Fin 5) t = (traj0 ch m ρ c t.val t.isLt).1 := rfl

/-- What a window holds before the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- What a window holds before the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- What a window holds before the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- What a window holds before the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -⟩ := sched0_A ch t q0 q1
      rw [i4] at hi; exact absurd hi (by decide)
    · obtain ⟨i4, -, -, -, -, -, -, -, -⟩ := sched0_B ch t q0 q1
      rw [i4] at hi; exact absurd hi (by decide)
  · obtain ⟨i4, -, -, -, -, -, -, -, -⟩ := sched0_C ch t q0
    rw [i4] at hi; exact absurd hi (by decide)

/-- What a window holds before the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- A part of the launch's frame at these tables. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2⟩ := sched0_A ch t q0 q1
      have F0 := hypsR0_A ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1, sf2, sfn2⟩ := sched0_B ch t q0 q1
      have F0 := hypsR0_B ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
  · obtain ⟨i4, f4, fr4, sf0, sfn0, sf1, sfn1, sf2, sfn2⟩ := sched0_C ch t q0
    have F0 := hypsR0_C ch t q0
    have k0_h1 := F0.1; have F1 := F0.2
    have k0_h3 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_C ch m ρ c t _ q0]
    unfold Phi; simp only [prev0T_castSucc, prev0T_succ, traj0_eq, step0_C ch m ρ c t _ q0, Fin.val_castSucc, Fin.val_succ]
    simp only [exists_held sf0, exists_held sf1, exists_held sf2]
    iintro ⟨⟨HS0, HS1, HS2, HT0, HT1⟩, Ho, ⟨%d0, H0⟩, ⟨%d1, H1⟩, ⟨%d2, H2⟩, ⟨%d3, H3⟩, ⟨%d4, H4⟩⟩
    iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

/-- A part of the launch's frame at these tables. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp (MT nD τ sig Unit (Elt Ideal) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- A part of the launch's frame at these tables. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Under these tables every array ends at what the launch computes. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Under these tables the kernel runs, its arguments end as they were and every counter ends at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Route

end
-- ==== Proof.EKern.lean ====
module

public import proofs.«01_k».proof.Proof.Gen.ExpertsIdeal.Skeleton
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ExpertsIdeal.Route
open Cert.ExpertsIdeal Cert.ExpertsIdeal.Gen

/-- A token's activation in an expert's hidden unit: the gate's product times its logistic, times the up product. -/
def act (a b : EReal) : EReal := a * FloatOps.logistic (F := Ideal) (φ := .f32) a * b

/-- The feed-forward network of one expert at a token's row, at one output feature. -/
def ffn (x : Fin 1024 → EReal) (g u : Fin 1024 → Fin 512 → EReal) (d : Fin 512 → EReal) : EReal :=
  ∑ f : Fin 512, act (∑ k, x k * g k f) (∑ k, x k * u k f) * d f

/-- A row's feature in the layout of tokens by tiles of 128 features. -/
abbrev tok (p : Fin 256) (k : Fin 1024) : S256x8x128.Idx := ix3 p ⟨k.val / 128, by omega⟩ ⟨k.val % 128, by omega⟩

set_option maxHeartbeats 4000000 in
/-- The tokens' block as rows. -/
theorem rows (v19 : FVec Ideal S256x8x128 .f32) (p : Fin 256) (k : Fin 1024) (v20 : FVec Ideal S32x8x8x128 .f32) (v21 : FVec Ideal S8x32x8x128 .f32)
    (v22 : FVec Ideal S8x256x128 .f32)
    (e20 : v20 = shapeCast S32x8x8x128 v19 shapeCasts_S256x8x128_S32x8x8x128)
    (e21 : v21 = transpose S8x32x8x128 [2, 0, 1, 3] v20 transposes_S32x8x8x128_p2_0_1_3_S8x32x8x128)
    (e22 : v22 = shapeCast S8x256x128 v21 shapeCasts_S8x32x8x128_S8x256x128) (c : Fin 8) (l : Fin 128) :
    v22 (ix3 c p l) = v19 (ix3 p c l) := by
  subst e22; subst e21; subst e20
  pointwise

/-- The result's rows laid out by tiles of 128 features. -/
theorem tiles (v67 : FVec Ideal S8x256x128 .f32) (p : Fin 256) (c : Fin 8) (l : Fin 128) :
    shapeCast S256x8x128 (transpose S32x8x8x128 [1, 2, 0, 3] (shapeCast S8x32x8x128 v67 shapeCasts_S8x256x128_S8x32x8x128)
      transposes_S8x32x8x128_p1_2_0_3_S32x8x8x128) shapeCasts_S32x8x8x128_S256x8x128 (ix3 p c l) = v67 (ix3 c p l) := by
  pointwise

/-- The products a tile's rows go through. -/
theorem prod (x : FVec Ideal S256x1024 .bf16) (g u : FVec Ideal S1024x512 .bf16) (d : FVec Ideal S512x1024 .bf16) (p : Fin 256) (n : Fin 1024) :
    matmul dot_S256x512_S512x1024_S256x1024_1_0_0_1_n_n none
      (truncf (F := Ideal) (φ := .f32) (s := S256x512) .bf16 (mulf (mulf (matmul dot_S256x1024_S1024x512_S256x512_1_0_0_1_n_n none x g (constant S256x512 .f32 0x00000000#32))
        (logistic (matmul dot_S256x1024_S1024x512_S256x512_1_0_0_1_n_n none x g (constant S256x512 .f32 0x00000000#32))))
        (matmul dot_S256x1024_S1024x512_S256x512_1_0_0_1_n_n none x u (constant S256x512 .f32 0x00000000#32))) bitsLt_bf16_f32) d
      (constant S256x1024 .f32 0x00000000#32) (ix2 p n)
      = ffn (fun k => x (ix2 p k)) (fun k f => g (ix2 k f)) (fun k f => u (ix2 k f)) (fun f => d (ix2 f n)) := by
  unfold ffn act
  pointwise

end Cert.ExpertsIdeal.Route

end
-- ==== Proof.EKern2.lean ====
module

public import proofs.«01_k».proof.Proof.EKern

@[expose] public section

set_option maxRecDepth 16384

noncomputable section

open Idealize.ShloMosaic Idealize.ShloMosaic.TcCoe Idealize.SL.Sem

namespace Cert.ExpertsIdeal.Route
open Cert.ExpertsIdeal Cert.ExpertsIdeal.Gen

/-- An array read at two indices that agree by value. -/
theorem nx (x : FVec Ideal S8x256x128 .f32) {a a' : Fin 8} {p : Fin 256} {l l' : Fin 128} (h : a.val = a'.val) (h' : l.val = l'.val) :
    x (ix3 a p l) = x (ix3 a' p l') := by rw [Fin.ext h, Fin.ext h']

set_option maxHeartbeats 4000000 in
/-- Eight blocks of 128 features side by side. -/
theorem cat8 (x : FVec Ideal S8x256x128 .f32) (p : Fin 256) (k : Fin 1024) :
    concatenate S256x1024 1 [⟨S256x128, shapeCast S256x128 (extractStridedSlice S1x256x128 ![0, 0, 0] x slices_S8x256x128_o0_0_0_S1x256x128) shapeCasts_S1x256x128_S256x128⟩,
      ⟨S256x128, shapeCast S256x128 (extractStridedSlice S1x256x128 ![1, 0, 0] x slices_S8x256x128_o1_0_0_S1x256x128) shapeCasts_S1x256x128_S256x128⟩,
      ⟨S256x128, shapeCast S256x128 (extractStridedSlice S1x256x128 ![2, 0, 0] x slices_S8x256x128_o2_0_0_S1x256x128) shapeCasts_S1x256x128_S256x128⟩,
      ⟨S256x128, shapeCast S256x128 (extractStridedSlice S1x256x128 ![3, 0, 0] x slices_S8x256x128_o3_0_0_S1x256x128) shapeCasts_S1x256x128_S256x128⟩,
      ⟨S256x128, shapeCast S256x128 (extractStridedSlice S1x256x128 ![4, 0, 0] x slices_S8x256x128_o4_0_0_S1x256x128) shapeCasts_S1x256x128_S256x128⟩,
      ⟨S256x128, shapeCast S256x128 (extractStridedSlice S1x256x128 ![5, 0, 0] x slices_S8x256x128_o5_0_0_S1x256x128) shapeCasts_S1x256x128_S256x128⟩,
      ⟨S256x128, shapeCast S256x128 (extractStridedSlice S1x256x128 ![6, 0, 0] x slices_S8x256x128_o6_0_0_S1x256x128) shapeCasts_S1x256x128_S256x128⟩,
      ⟨S256x128, shapeCast S256x128 (extractStridedSlice S1x256x128 ![7, 0, 0] x slices_S8x256x128_o7_0_0_S1x256x128) shapeCasts_S1x256x128_S256x128⟩]
      concatenates_S256x128_S256x128_S256x128_S256x128_S256x128_S256x128_S256x128_S256x128_S256x1024_d1 (ix2 p k)
      = x (ix3 ⟨k.val / 128, by omega⟩ p ⟨k.val % 128, by omega⟩) := by
  pointwise
  repeat' split
  all_goals first | rfl | (refine nx x ?_ ?_ <;> (dsimp only; omega)) | (exfalso; omega)

set_option maxHeartbeats 4000000 in
/-- The eight blocks of 128 features of a row, stacked. -/
theorem stack8 (x : FVec Ideal S256x1024 .f32) (c : Fin 8) (p : Fin 256) (l : Fin 128) (h) :
    concatenate S8x256x128 0 [⟨S1x256x128, shapeCast S1x256x128 (extractStridedSlice S256x128 ![0, 0] x slices_S256x1024_o0_0_S256x128) shapeCasts_S256x128_S1x256x128⟩, ⟨S1x256x128, shapeCast S1x256x128 (extractStridedSlice S256x128 ![0, 128] x slices_S256x1024_o0_128_S256x128) shapeCasts_S256x128_S1x256x128⟩, ⟨S1x256x128, shapeCast S1x256x128 (extractStridedSlice S256x128 ![0, 256] x slices_S256x1024_o0_256_S256x128) shapeCasts_S256x128_S1x256x128⟩, ⟨S1x256x128, shapeCast S1x256x128 (extractStridedSlice S256x128 ![0, 384] x slices_S256x1024_o0_384_S256x128) shapeCasts_S256x128_S1x256x128⟩, ⟨S1x256x128, shapeCast S1x256x128 (extractStridedSlice S256x128 ![0, 512] x slices_S256x1024_o0_512_S256x128) shapeCasts_S256x128_S1x256x128⟩, ⟨S1x256x128, shapeCast S1x256x128 (extractStridedSlice S256x128 ![0, 640] x slices_S256x1024_o0_640_S256x128) shapeCasts_S256x128_S1x256x128⟩, ⟨S1x256x128, shapeCast S1x256x128 (extractStridedSlice S256x128 ![0, 768] x slices_S256x1024_o0_768_S256x128) shapeCasts_S256x128_S1x256x128⟩, ⟨S1x256x128, shapeCast S1x256x128 (extractStridedSlice S256x128 ![0, 896] x slices_S256x1024_o0_896_S256x128) shapeCasts_S256x128_S1x256x128⟩]
      concatenates_S1x256x128_S1x256x128_S1x256x128_S1x256x128_S1x256x128_S1x256x128_S1x256x128_S1x256x128_S8x256x128_d0 (ix3 c p l)
      = x (ix2 p ⟨c.val * 128 + l.val, h⟩) := by
  fin_cases c <;> pointwise

/-- What the body computes of a tile's rows and its scratches, in the layout of the result. -/
theorem pay (v19 : FVec Ideal S256x8x128 .f32) (g u : FVec Ideal S1024x512 .bf16) (d : FVec Ideal S512x1024 .bf16) (p : Fin 256) (c : Fin 8) (l : Fin 128) (h) :
    k0_pay1 (F := Ideal) (k0_pay6 (F := Ideal) v19 g u d) (ix3 p c l)
      = ffn (fun k => v19 (tok p k)) (fun k f => g (ix2 k f)) (fun k f => u (ix2 k f)) (fun f => d (ix2 f ⟨c.val * 128 + l.val, h⟩)) := by
  unfold k0_pay1
  refine (tiles _ p c l).trans ?_
  refine (stack8 _ c p l h).trans ?_
  unfold k0_pay6
  refine (prod _ _ _ _ p _).trans ?_
  refine congrArg (fun x => ffn x _ _ _) (funext fun k => ?_)
  exact (cat8 _ p k).trans (rows v19 p k _ _ _ rfl rfl rfl _ _)

/-- The rounded gate weights of a block. -/
theorem pay3 (x : FVec Ideal S1x1x1024x512 .f32) (k : Fin 1024) (f : Fin 512) : k0_pay3 (F := Ideal) x (ix2 k f) = x (ix4 0 0 k f) := by
  unfold k0_pay3
  pointwise

/-- The rounded up weights of a block. -/
theorem pay4 (x : FVec Ideal S1x1x1024x512 .f32) (k : Fin 1024) (f : Fin 512) : k0_pay4 (F := Ideal) x (ix2 k f) = x (ix4 0 0 k f) := by
  unfold k0_pay4
  pointwise

/-- The rounded down weights of a block. -/
theorem pay5 (x : FVec Ideal S1x1x512x1024 .f32) (f : Fin 512) (n : Fin 1024) : k0_pay5 (F := Ideal) x (ix2 f n) = x (ix4 0 0 f n) := by
  unfold k0_pay5
  pointwise

/-- The zeros of a tile past those in use. -/
theorem pay2 (y : S256x8x128.Idx) : k0_pay2 (F := Ideal) y = 0 := by
  unfold k0_pay2
  pointwise

end Cert.ExpertsIdeal.Route

end
-- ==== Proof.EStep.lean ====
module

public import proofs.«01_k».proof.Proof.ERouteI
public import proofs.«01_k».proof.Proof.EKern2

@[expose] public section

set_option maxRecDepth 16384

noncomputable section

open Idealize.ShloMosaic Idealize.ShloMosaic.TcCoe Idealize.SL.Sem

namespace Cert.ExpertsIdeal.Route
open Cert.ExpertsIdeal Cert.ExpertsIdeal.Gen

variable (ch : Tab) (m : (ℓ : Loc nD τ sig) → Buf (Elt Ideal) ℓ) (ρ : Dev nD → PrngReg)

set_option maxHeartbeats 1000000 in
/-- A point that loads its weights: the scratches become the rounded weights, the output the network of the tile. -/
theorem stepA (c : Dev nD) (t : Fin (cfgA ch).N) (prev) (q0 : P0_0 ch t) (q1 : P0_1 ch t) :
    step0 ch m ρ c t prev
      = (k0_pay1 (F := Ideal) (k0_pay6 (F := Ideal) (iblk ch m ρ c (0 : Fin 5) t) (k0_pay3 (F := Ideal) (iblk ch m ρ c (1 : Fin 5) t))
          (k0_pay4 (F := Ideal) (iblk ch m ρ c (2 : Fin 5) t)) (k0_pay5 (F := Ideal) (iblk ch m ρ c (3 : Fin 5) t))),
        k0_pay3 (F := Ideal) (iblk ch m ρ c (1 : Fin 5) t), k0_pay4 (F := Ideal) (iblk ch m ρ c (2 : Fin 5) t), k0_pay5 (F := Ideal) (iblk ch m ρ c (3 : Fin 5) t)) := by
  rw [step0_A ch m ρ c t prev q0 q1]
  refine Prod.ext ?_ (Prod.ext ?_ (Prod.ext ?_ ?_))
  · dsimp only
    unfold out0_A_4
    frame_out
    rw [View.read_rep, View.read_rep, View.read_rep, View.read_rep]
  · dsimp only
    unfold kernelRun0_A
    dsimp only
    refine (View.read_whole cc0_scratch0 _).symm.trans ?_
    frame_out
    rw [View.read_rep]
    exact View.canon_cons_unit_lit (S := S1024x512) _ _ _ (by decide)
  · dsimp only
    unfold kernelRun0_A
    dsimp only
    refine (View.read_whole cc0_scratch1 _).symm.trans ?_
    frame_out
    rw [View.read_rep]
    exact View.canon_cons_unit_lit (S := S1024x512) _ _ _ (by decide)
  · dsimp only
    unfold kernelRun0_A
    dsimp only
    refine (View.read_whole cc0_scratch2 _).symm.trans ?_
    frame_out
    rw [View.read_rep]
    exact View.canon_cons_unit_lit (S := S512x1024) _ _ _ (by decide)

/-- A point that keeps its weights: the output is the network of the tile at the scratches' weights. -/
theorem stepB (c : Dev nD) (t : Fin (cfgA ch).N) (prev) (q0 : P0_0 ch t) (q1 : ¬P0_1 ch t) :
    step0 ch m ρ c t prev
      = (k0_pay1 (F := Ideal) (k0_pay6 (F := Ideal) (iblk ch m ρ c (0 : Fin 5) t) prev.2.1 prev.2.2.1 prev.2.2.2), prev.2.1, prev.2.2.1, prev.2.2.2) := by
  rw [step0_B ch m ρ c t prev q0 q1]
  refine Prod.ext ?_ (Prod.ext ?_ (Prod.ext ?_ ?_))
  · dsimp only
    unfold out0_B_4
    frame_out
    rw [View.read_rep]
    rfl
  · rfl
  · rfl
  · rfl

/-- A point past the tiles in use: the output is zero. -/
theorem stepC (c : Dev nD) (t : Fin (cfgA ch).N) (prev) (q0 : ¬P0_0 ch t) :
    (step0 ch m ρ c t prev).1 = k0_pay2 (F := Ideal) := by
  rw [step0_C ch m ρ c t prev q0]
  dsimp only
  unfold out0_C_4
  frame_out

end Cert.ExpertsIdeal.Route

end
-- ==== Proof.ETraj.lean ====
module

public import proofs.«01_k».proof.Proof.EStep

@[expose] public section

set_option maxRecDepth 16384

noncomputable section

open Idealize.ShloMosaic Idealize.ShloMosaic.TcCoe Idealize.SL.Sem

namespace Cert.ExpertsIdeal.Route
open Cert.ExpertsIdeal Cert.ExpertsIdeal.Gen

variable (ch : Tab) (m : (ℓ : Loc nD τ sig) → Buf (Elt Ideal) ℓ) (ρ : Dev nD → PrngReg)

/-- The places a point reads the first table at. -/
theorem offs : ∀ t : Fin grid0.N, k0_off1 (grid0.coords t) 0 = t.val ∧ k0_off2 (grid0.coords t) 0 = t.val ∧ k0_off3 (grid0.coords t) 0 = t.val - 1 := by decide +kernel

/-- The place a rectangle of one place lies at. -/
theorem place (off : Fin 1 → ℕ) (h) (i) (n : Fin 112) (e : off 0 = n.val) :
    (Rect.unit (s := S112) off S1.size h).emb i = ix1 n := by
  refine funext fun (a : Fin 1) => Fin.ext ?_
  obtain rfl : a = 0 := Subsingleton.elim _ _
  show off 0 + 1 * (i 0).val = n.val
  have hi : (i 0).val < 1 := (i 0).isLt
  omega

/-- The word of the first table a rectangle of one place reads. -/
theorem at_te (off : Fin 1 → ℕ) (h) (n : Fin 112) (e : off 0 = n.val) :
    ((pfN ch).at 0 (Rect.unit (s := S112) off S1.size h) numel1_S1 : BitVec 32) = ch.te (ix1 n) :=
  congrArg ch.te (place off h _ n e)

/-- The same word, as the body loads it. -/
theorem ld_te (off : Fin 1 → ℕ) (h) (n : Fin 112) (e : off 0 = n.val) :
    View.readAt (Elt Ideal) (tbM0_0).view (Rect.unit (s := S112) off S1.size h).toLoadRect (pinT_0 ch) (Shape.Idx.first (numel1_S1.symm ▸ Nat.one_pos)) = ch.te (ix1 n) :=
  congrArg ch.te (place off h _ n e)

/-- A point that keeps its weights has the expert of the point before. -/
theorem keep (t : Fin (cfgA ch).N) (h : ¬ P0_1 ch t) (h1) (h2) : ch.te (ix1 ⟨t.val, h1⟩) = ch.te (ix1 ⟨t.val - 1, h2⟩) := by
  have k : ∀ (a : BitVec 1) (b : Bool), ¬ (Scalar.cmpi .ne (Scalar.extui (Scalar.ori a (BitVec.ofBool b)) : BitVec 32) 0#32 = 1#1) → b = false := by decide
  have e2 := ld_te ch (k0_off2 (crd ch t)) (k0_off2_inb (crd ch t)) ⟨t.val, h1⟩ (offs t).2.1
  have e3 := ld_te ch (k0_off3 (crd ch t)) (k0_off3_inb (crd ch t)) ⟨t.val - 1, h2⟩ (offs t).2.2
  have h' := k _ (ch.te (ix1 ⟨t.val, h1⟩) != ch.te (ix1 ⟨t.val - 1, h2⟩)) (fun h'' => h (by
    unfold P0_1
    rw [e2, e3]
    exact h''))
  simpa using h'

/-- The tokens' block of a point in use. -/
theorem idx0 (t : Fin (cfgA ch).N) (h : t.val < (ch.nt one₀).toNat) : ((cfgA ch).win (0 : Fin 5)).index t = ![t.val, 0, 0] := by
  have e : ∀ w : BitVec 32, w.toNat ≤ 112 → t.val < w.toNat → (Scalar.minsi (BitVec.ofNat 32 t.val) (Scalar.subi w 1#32)).toNat = t.val := by
    intro w h1 h2
    have e1 : (w - 1#32).toNat = w.toNat - 1 := by bv_omega
    have e2 : (BitVec.ofNat 32 t.val).toNat = t.val := by rw [BitVec.toNat_ofNat]; omega
    show (IntOp.minsi (BitVec.ofNat 32 t.val) (w - 1#32)).toNat = t.val
    unfold IntOp.minsi
    rw [BitVec.slt_eq_decide, BitVec.toInt_eq_toNat_of_lt (by omega), BitVec.toInt_eq_toNat_of_lt (by omega), e1, e2]
    split
    · exact e2
    · rename_i h3
      rw [decide_eq_true_iff] at h3
      omega
  show cc0_transform_0 inb_S1_S1_0 numel1_S1 (pfN ch) (crd ch t) = _
  unfold cc0_transform_0
  have hw : ((pfN ch).at 1 (Rect.unit (s := S1) ![0] S1.size inb_S1_S1_0) numel1_S1 : BitVec 32) = ch.nt one₀ := congrArg ch.nt (one_idx _ _)
  rw [hw, crd_val]
  dsimp only
  rw [e _ (ch.hnt _).2 h]
  rfl

/-- The weights' blocks of a point. -/
theorem idx1 (t : Fin (cfgA ch).N) (h1) : ((cfgA ch).win (1 : Fin 5)).index t = ![0, (ch.te (ix1 ⟨t.val, h1⟩)).toNat, 0, 0] := by
  show cc0_transform_1 k0_off1_inb numel1_S1 (pfN ch) (crd ch t) = _
  unfold cc0_transform_1
  have e := at_te ch (k0_off1 (crd ch t)) (k0_off1_inb (crd ch t)) ⟨t.val, h1⟩ (offs t).1
  exact congrArg (fun w : BitVec 32 => ![0, w.toNat, 0, 0]) e

/-- The weights' blocks of a point. -/
theorem idx2 (t : Fin (cfgA ch).N) (h1) : ((cfgA ch).win (2 : Fin 5)).index t = ![0, (ch.te (ix1 ⟨t.val, h1⟩)).toNat, 0, 0] := idx1 ch t h1

/-- The weights' blocks of a point. -/
theorem idx3 (t : Fin (cfgA ch).N) (h1) : ((cfgA ch).win (3 : Fin 5)).index t = ![0, (ch.te (ix1 ⟨t.val, h1⟩)).toNat, 0, 0] := idx1 ch t h1

/-- The output's block of a point. -/
theorem idx4 (t : Fin (cfgA ch).N) : ((cfgA ch).win (4 : Fin 5)).index t = ![t.val, 0, 0] :=
  (by decide +kernel : ∀ t : Fin grid0.N, cc0_transform_4 (grid0.coords t) = ![t.val, 0, 0]) t

/-- The tokens of a tile in use. -/
theorem b0 (c : Dev nD) (t : Fin (cfgA ch).N) (h : t.val < (ch.nt one₀).toNat) (p : Fin 256) (k : Fin 8) (l : Fin 128) (hr) :
    iblk ch m ρ c (0 : Fin 5) t (ix3 p k l) = m (c.tc.loc main_arg2) (ix3 ⟨t.val * 256 + p.val, hr⟩ k l) := by
  blk_ext [iblk, idx0 ch t h]

/-- The gate weights of a tile's expert. -/
theorem b1 (c : Dev nD) (t : Fin (cfgA ch).N) (h1) (h2) (k : Fin 1024) (f : Fin 512) :
    iblk ch m ρ c (1 : Fin 5) t (ix4 0 0 k f) = m (c.tc.loc main_arg3) (ix4 0 ⟨(ch.te (ix1 ⟨t.val, h1⟩)).toNat, h2⟩ k f) := by
  blk_ext [iblk, idx1 ch t h1]

/-- The up weights of a tile's expert. -/
theorem b2 (c : Dev nD) (t : Fin (cfgA ch).N) (h1) (h2) (k : Fin 1024) (f : Fin 512) :
    iblk ch m ρ c (2 : Fin 5) t (ix4 0 0 k f) = m (c.tc.loc main_arg4) (ix4 0 ⟨(ch.te (ix1 ⟨t.val, h1⟩)).toNat, h2⟩ k f) := by
  blk_ext [iblk, idx2 ch t h1]

/-- The down weights of a tile's expert. -/
theorem b3 (c : Dev nD) (t : Fin (cfgA ch).N) (h1) (h2) (f : Fin 512) (n : Fin 1024) :
    iblk ch m ρ c (3 : Fin 5) t (ix4 0 0 f n) = m (c.tc.loc main_arg5) (ix4 0 ⟨(ch.te (ix1 ⟨t.val, h1⟩)).toNat, h2⟩ f n) := by
  blk_ext [iblk, idx3 ch t h1]

end Cert.ExpertsIdeal.Route

end
-- ==== Proof.ERef.lean ====
module

public import proofs.«01_k».proof.Proof.Gen.ExpertsReferenceIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ExpertsReferenceIdeal.Route
open Cert.ExpertsReferenceIdeal Cert.ExpertsReferenceIdeal.Gen Cert.ExpertsReferenceIdeal.Read

/-- A token's activation in an expert's hidden unit: the gate's product times its logistic, times the up product. -/
def act (a b : EReal) : EReal := a * FloatOps.logistic (F := Ideal) (φ := .f32) a * b

/-- The reference's product of a token's row with an expert's gate weights. -/
theorem r19 (x2 : FVec Ideal S28672x8x128 .f32) (x3 : FVec Ideal S2x16x1024x512 .f32) (e : Fin 16) (r : Fin 28672) (f : Fin 512) :
    val_main_v19 (F := Ideal) x2 x3 (ix3 e r f) = ∑ k : Fin 1024, x2 (ix3 r ⟨k.val / 128, by omega⟩ ⟨k.val % 128, by omega⟩) * x3 (ix4 0 e k f) := by
  pointwise [val_main_v19, val_main_v18, val_main_v6, val_main_v1, val_main_v0]
  exact Finset.sum_congr rfl fun k _ => mul_comm _ _

/-- The reference's product of a token's row with an expert's up weights. -/
theorem r22 (x2 : FVec Ideal S28672x8x128 .f32) (x4 : FVec Ideal S2x16x1024x512 .f32) (e : Fin 16) (r : Fin 28672) (f : Fin 512) :
    val_main_v22 (F := Ideal) x2 x4 (ix3 e r f) = ∑ k : Fin 1024, x2 (ix3 r ⟨k.val / 128, by omega⟩ ⟨k.val % 128, by omega⟩) * x4 (ix4 0 e k f) := by
  pointwise [val_main_v22, val_main_v21, val_main_v6, val_main_v3, val_main_v2]
  exact Finset.sum_congr rfl fun k _ => mul_comm _ _

/-- The reference's activation. -/
theorem r23 (x2 : FVec Ideal S28672x8x128 .f32) (x3 x4 : FVec Ideal S2x16x1024x512 .f32) (e : Fin 16) (r : Fin 28672) (f : Fin 512) :
    val_main_v23 (F := Ideal) x2 x3 x4 (ix3 e r f) = act (val_main_v19 (F := Ideal) x2 x3 (ix3 e r f)) (val_main_v22 (F := Ideal) x2 x4 (ix3 e r f)) := by
  unfold act
  generalize h1 : val_main_v19 (F := Ideal) x2 x3 = a
  generalize h2 : val_main_v22 (F := Ideal) x2 x4 = b
  pointwise [val_main_v23, val_main_v20, val_main_call2_v5, val_main_call2_v4, val_main_call2_cst_0, val_main_call2_v3, val_main_call2_v2, val_main_call2_cst, val_main_call2_v1, val_main_call2_v0, h1, h2]
  rfl

/-- The reference's network of every expert. -/
theorem r26 (x2 : FVec Ideal S28672x8x128 .f32) (x3 x4 : FVec Ideal S2x16x1024x512 .f32) (x5 : FVec Ideal S2x16x512x1024 .f32) (e : Fin 16) (r : Fin 28672) (n : Fin 1024) :
    val_main_v26 (F := Ideal) x2 x3 x4 x5 (ix3 e r n) = ∑ f : Fin 512, val_main_v23 (F := Ideal) x2 x3 x4 (ix3 e r f) * x5 (ix4 0 e f n) := by
  generalize h1 : val_main_v23 (F := Ideal) x2 x3 x4 = a
  pointwise [val_main_v26, val_main_v5, val_main_v4, h1]

/-- The reference's gates: one for the tile's expert in the tiles in use, zero elsewhere. -/
theorem r17 (x0 : IVec S112 32) (x1 : IVec S1 32) (t : Fin 112) (p : Fin 256) (e : Fin 16) (h) :
    val_main_v17 (F := Ideal) x0 x1 (ix2 ⟨t.val * 256 + p.val, h⟩ e)
      = if IntOp.cmpi .slt (BitVec.ofNat 32 (t.val * 256 + p.val)) (IntOp.muli (x1 (ix1 0)) 256#32) = 1#1
        then FloatOps.uitofp (F := Ideal) .f32 (IntOp.cmpi .eq (x0 (ix1 t)) (BitVec.ofNat 32 e.val)) else 0 := by
  pointwise [val_main_v17, val_main_call1_v2, val_main_call1_v1, val_main_call1_v0, val_main_cst, val_main_v16, val_main_call0_v4, val_main_call0_v3, val_main_call0_v2, val_main_call0_v1, val_main_call0_v0, val_main_v15, val_main_v14, val_main_v13, val_main_v12, val_main_c, val_main_v11, val_main_v10, val_main_v9, val_main_v8, val_main_v7]
  by_cases hc : IntOp.cmpi .slt (BitVec.ofNat 32 (t.val * 256 + p.val)) (IntOp.muli (x1 (ix1 0)) 256#32) = 1#1
  · rw [if_pos hc]
    exact if_pos hc
  · rw [if_neg hc]
    refine (if_neg hc).trans ?_
    show (constant (F := Ideal) S_ .f32 0x00000000#32) ix0 = 0
    pointwise

/-- The reference's result: every expert's network weighted by its gate. -/
theorem r30 (x0 : IVec S112 32) (x1 : IVec S1 32) (x2 : FVec Ideal S28672x8x128 .f32) (x3 x4 : FVec Ideal S2x16x1024x512 .f32) (x5 : FVec Ideal S2x16x512x1024 .f32)
    (r : Fin 28672) (c : Fin 8) (l : Fin 128) (h) :
    val_main_v30 (F := Ideal) x0 x1 x2 x3 x4 x5 (ix3 r c l)
      = ∑ e : Fin 16, val_main_v17 (F := Ideal) x0 x1 (ix2 r e) * val_main_v26 (F := Ideal) x2 x3 x4 x5 (ix3 e r ⟨c.val * 128 + l.val, h⟩) := by
  generalize h1 : val_main_v17 (F := Ideal) x0 x1 = a
  generalize h2 : val_main_v26 (F := Ideal) x2 x3 x4 x5 = b
  pointwise [val_main_v30, val_main_v29, val_main_cst_0, val_main_v28, val_main_v27, val_main_v25, val_main_v24, h1, h2]

/-- A row is in the tiles in use exactly when its tile is. -/
theorem live (w : BitVec 32) (hw : w.toNat ≤ 112) (t p : ℕ) (ht : t < 112) (hp : p < 256) :
    IntOp.cmpi .slt (BitVec.ofNat 32 (t * 256 + p)) (IntOp.muli w 256#32) = 1#1 ↔ t < w.toNat := by
  have e : ∀ q : Bool, BitVec.ofBool q = 1#1 ↔ q = true := by decide
  have hm : (w * 256#32).toNat = w.toNat * 256 := by
    rw [BitVec.toNat_mul, show (256#32 : BitVec 32).toNat = 256 from rfl]; omega
  have hr : (BitVec.ofNat 32 (t * 256 + p)).toNat = t * 256 + p := by rw [BitVec.toNat_ofNat]; omega
  refine (e ((BitVec.ofNat 32 (t * 256 + p)).slt (w * 256#32))).trans ?_
  rw [BitVec.slt_eq_decide, decide_eq_true_iff, BitVec.toInt_eq_toNat_of_lt (by omega), BitVec.toInt_eq_toNat_of_lt (by omega), hm, hr]
  omega

/-- The gate of an expert: one for the tile's own, zero for another. -/
theorem gate (w : BitVec 32) (hw : w.toNat < 16) (e : Fin 16) :
    (FloatOps.uitofp (F := Ideal) .f32 (IntOp.cmpi .eq w (BitVec.ofNat 32 e.val)) : EReal) = if e = ⟨w.toNat, hw⟩ then 1 else 0 := by
  have h1 : (FloatOps.uitofp (F := Ideal) .f32 (1#1 : BitVec 1) : EReal) = 1 := by
    show (((1#1 : BitVec 1).toNat : ℝ) : EReal) = 1
    simp
  have h0 : (FloatOps.uitofp (F := Ideal) .f32 (0#1 : BitVec 1) : EReal) = 0 := by
    show (((0#1 : BitVec 1).toNat : ℝ) : EReal) = 0
    simp
  have he := e.isLt
  by_cases h : e = ⟨w.toNat, hw⟩
  · rw [if_pos h, ← h1]
    have h' : e.val = w.toNat := congrArg Fin.val h
    have hv : w = BitVec.ofNat 32 e.val := BitVec.eq_of_toNat_eq (by rw [BitVec.toNat_ofNat]; omega)
    refine congrArg (FloatOps.uitofp (F := Ideal) .f32) ?_
    show BitVec.ofBool (w == BitVec.ofNat 32 e.val) = 1#1
    rw [← hv, beq_self_eq_true]; rfl
  · rw [if_neg h, ← h0]
    have hv : w ≠ BitVec.ofNat 32 e.val := fun hv => by
      have h' : w.toNat = e.val := by
        have := congrArg BitVec.toNat hv
        rw [BitVec.toNat_ofNat] at this; omega
      exact h (Fin.ext h'.symm)
    refine congrArg (FloatOps.uitofp (F := Ideal) .f32) ?_
    show BitVec.ofBool (w == BitVec.ofNat 32 e.val) = 0#1
    rw [beq_false_of_ne hv]; rfl

/-- The reference's result at a row of a tile: the network of the tile's expert in the tiles in use, zero past them. -/
theorem ref (x0 : IVec S112 32) (x1 : IVec S1 32) (x2 : FVec Ideal S28672x8x128 .f32) (x3 x4 : FVec Ideal S2x16x1024x512 .f32) (x5 : FVec Ideal S2x16x512x1024 .f32)
    (t : Fin 112) (p : Fin 256) (c : Fin 8) (l : Fin 128) (h0 : (x0 (ix1 t)).toNat < 16) (h1 : (x1 (ix1 0)).toNat ≤ 112) (hr) (hn) :
    val_main_v30 (F := Ideal) x0 x1 x2 x3 x4 x5 (ix3 ⟨t.val * 256 + p.val, hr⟩ c l)
      = if t.val < (x1 (ix1 0)).toNat then
          ∑ f : Fin 512, act (∑ k : Fin 1024, x2 (ix3 ⟨t.val * 256 + p.val, hr⟩ ⟨k.val / 128, by omega⟩ ⟨k.val % 128, by omega⟩) * x3 (ix4 0 ⟨(x0 (ix1 t)).toNat, h0⟩ k f))
            (∑ k : Fin 1024, x2 (ix3 ⟨t.val * 256 + p.val, hr⟩ ⟨k.val / 128, by omega⟩ ⟨k.val % 128, by omega⟩) * x4 (ix4 0 ⟨(x0 (ix1 t)).toNat, h0⟩ k f))
            * x5 (ix4 0 ⟨(x0 (ix1 t)).toNat, h0⟩ f ⟨c.val * 128 + l.val, hn⟩)
        else 0 := by
  refine (r30 x0 x1 x2 x3 x4 x5 _ c l hn).trans ?_
  simp only [r17, live _ h1 t.val p.val t.isLt p.isLt]
  split
  · rw [Finset.sum_eq_single (⟨(x0 (ix1 t)).toNat, h0⟩ : Fin 16)]
    · rw [gate _ h0, if_pos rfl, one_mul, r26]
      simp only [r23, r19, r22]
    · intro e _ he
      rw [gate _ h0, if_neg he, zero_mul]
    · exact fun h => absurd (Finset.mem_univ _) h
  · simp only [zero_mul, Finset.sum_const_zero]

end Cert.ExpertsReferenceIdeal.Route

end
-- ==== Proof.EFinal.lean ====
module

public import proofs.«01_k».proof.Proof.ETraj
public import proofs.«01_k».proof.Proof.ERef
public import Idealize.ShloMosaic.Lib.Pipeline.ReadBack

@[expose] public section

set_option maxRecDepth 16384

noncomputable section

open Idealize.ShloMosaic Idealize.ShloMosaic.TcCoe Idealize.SL.Sem

namespace Cert.ExpertsIdeal.Route
open Cert.ExpertsIdeal Cert.ExpertsIdeal.Gen Cert.ExpertsReferenceIdeal.Read

variable (ch : Tab) (m : (ℓ : Loc nD τ sig) → Buf (Elt Ideal) ℓ) (ρ : Dev nD → PrngReg)

/-- The scratches hold the three weights of an expert. -/
def Holds (c : Dev nD) (e : Fin 16) (s : FVec Ideal S1024x512 .bf16 × FVec Ideal S1024x512 .bf16 × FVec Ideal S512x1024 .bf16) : Prop :=
  (∀ k f, s.1 (ix2 k f) = m (c.tc.loc main_arg3) (ix4 0 e k f))
  ∧ (∀ k f, s.2.1 (ix2 k f) = m (c.tc.loc main_arg4) (ix4 0 e k f))
  ∧ (∀ f n, s.2.2 (ix2 f n) = m (c.tc.loc main_arg5) (ix4 0 e f n))

/-- A point that loads its weights leaves the weights of its tile's expert. -/
theorem holdsA (c : Dev nD) (t : Fin (cfgA ch).N) (prev) (q0 : P0_0 ch t) (q1 : P0_1 ch t) (h1) :
    Holds m c ⟨(ch.te (ix1 ⟨t.val, h1⟩)).toNat, ch.hte _⟩ (step0 ch m ρ c t prev).2 := by
  rw [stepA ch m ρ c t prev q0 q1]
  refine ⟨fun k f => ?_, fun k f => ?_, fun f n => ?_⟩
  · exact (pay3 (iblk ch m ρ c (1 : Fin 5) t) k f).trans (b1 ch m ρ c t h1 (ch.hte _) k f)
  · exact (pay4 (iblk ch m ρ c (2 : Fin 5) t) k f).trans (b2 ch m ρ c t h1 (ch.hte _) k f)
  · exact (pay5 (iblk ch m ρ c (3 : Fin 5) t) f n).trans (b3 ch m ρ c t h1 (ch.hte _) f n)

/-- After a point among the tiles in use the scratches hold the weights of its tile's expert. -/
theorem holds (c : Dev nD) : ∀ (n : ℕ) (h : n < (cfgA ch).N) (h1 : n < 112), n < (ch.nt one₀).toNat →
    Holds m c ⟨(ch.te (ix1 ⟨n, h1⟩)).toNat, ch.hte _⟩ (traj0 ch m ρ c n h).2 := by
  intro n
  induction n with
  | zero => exact fun h h1 _ => holdsA ch m ρ c ⟨0, h⟩ _ (P0_0_zero ch _ rfl) (P0_1_zero ch _ rfl) h1
  | succ n ih =>
    intro h h1 hl
    have q0 : P0_0 ch ⟨n + 1, h⟩ := (P0_0_iff ch _).2 hl
    by_cases q1 : P0_1 ch ⟨n + 1, h⟩
    · exact holdsA ch m ρ c ⟨n + 1, h⟩ _ q0 q1 h1
    · have e : (⟨(ch.te (ix1 ⟨n + 1, h1⟩)).toNat, ch.hte _⟩ : Fin 16) = ⟨(ch.te (ix1 ⟨n, by omega⟩)).toNat, ch.hte _⟩ :=
        Fin.ext (congrArg BitVec.toNat (keep ch ⟨n + 1, h⟩ q1 h1 (show n < 112 by omega)))
      show Holds m c _ (step0 ch m ρ c ⟨n + 1, h⟩ (traj0 ch m ρ c n _)).2
      rw [stepB ch m ρ c ⟨n + 1, h⟩ _ q0 q1, e]
      exact ih (Nat.lt_of_succ_lt h) _ (by omega)

/-- The output of a point among the tiles in use is the network of its tile at the weights the scratches end with. -/
theorem outAB (c : Dev nD) (t : Fin (cfgA ch).N) (prev) (q0 : P0_0 ch t) :
    (step0 ch m ρ c t prev).1 = k0_pay1 (F := Ideal) (k0_pay6 (F := Ideal) (iblk ch m ρ c (0 : Fin 5) t) (step0 ch m ρ c t prev).2.1 (step0 ch m ρ c t prev).2.2.1 (step0 ch m ρ c t prev).2.2.2) := by
  by_cases q1 : P0_1 ch t
  · rw [stepA ch m ρ c t prev q0 q1]
  · rw [stepB ch m ρ c t prev q0 q1]

/-- What a grid point leaves in its output block is the reference's result there. -/
theorem point (c : Dev nD) (t : Fin (cfgA ch).N) (p : Fin 256) (k : Fin 8) (l : Fin 128) (h) :
    (traj0 ch m ρ c t.val t.isLt).1 (ix3 p k l)
      = val_main_v30 (F := Ideal) ch.te ch.nt (m (c.tc.loc main_arg2)) (m (c.tc.loc main_arg3)) (m (c.tc.loc main_arg4)) (m (c.tc.loc main_arg5)) (ix3 ⟨t.val * 256 + p.val, h⟩ k l) := by
  have hN : t.val < 112 := t.isLt
  have ho : one₀ = (ix1 0 : S1.Idx) := one_idx _ _
  refine Eq.trans ?_ (Cert.ExpertsReferenceIdeal.Route.ref _ _ _ _ _ _ ⟨t.val, hN⟩ p k l (ch.hte _) (ch.hnt _).2 h (by omega)).symm
  by_cases ht : t.val < (ch.nt one₀).toNat
  · rw [if_pos (by rw [← ho]; exact ht)]
    have q0 := (P0_0_iff ch t).2 ht
    obtain ⟨w3, w4, w5⟩ := holds ch m ρ c t.val t.isLt hN ht
    have e := outAB ch m ρ c t (prev0 ch m ρ c t) q0
    rw [← traj0_eq ch m ρ c t] at e
    rw [e]
    refine (pay _ _ _ _ p k l (by omega)).trans ?_
    unfold ffn
    refine Finset.sum_congr rfl fun f _ => ?_
    refine congrArg₂ (fun a b : EReal => a * b) (congrArg₂ act (Finset.sum_congr rfl fun j _ => ?_) (Finset.sum_congr rfl fun j _ => ?_)) (w5 f _)
    · exact congrArg₂ (fun a b : EReal => a * b) (b0 ch m ρ c t ht p _ _ h) (w3 j f)
    · exact congrArg₂ (fun a b : EReal => a * b) (b0 ch m ρ c t ht p _ _ h) (w4 j f)
  · rw [if_neg (by rw [← ho]; exact ht), traj0_eq, stepC ch m ρ c t _ (fun q => ht ((P0_0_iff ch t).1 q))]
    exact pay2 _

/-- The output's blocks cover the result: they do not depend on the tables. -/
theorem covers₀ : ((cfgA tab₀).win (4 : Fin 5)).Covers := by decide +kernel

/-- Where a place of the output's block lies in the result. -/
theorem place4 (t : Fin (cfgA ch).N) (p : Fin 256) (k : Fin 8) (l : Fin 128) (h) (G : S28672x8x128.Idx → EReal) :
    G (ix3 ⟨t.val * 256 + p.val, h⟩ k l) = G ((((cfgA ch).win (4 : Fin 5)).blk t).view.emb (ix3 p k l)) := by
  blk_ext [idx4 ch t]

/-- What the kernel leaves in its result is the reference's result. -/
theorem final (c : Dev nD) :
    (dats ch m ρ 0 c).arrAt 4 (cfgA ch).N
      = val_main_v30 (F := Ideal) ch.te ch.nt (m (c.tc.loc main_arg2)) (m (c.tc.loc main_arg3)) (m (c.tc.loc main_arg4)) (m (c.tc.loc main_arg5)) := by
  refine (dats ch m ρ 0 c).arrAt_eq_of_covers 4 _ covers₀ fun t _ => ?_
  show ∀ y : S256x8x128.Idx, _
  intro y
  have ht : t.val < 112 := t.isLt
  obtain ⟨p, k, l, rfl⟩ : ∃ (p : Fin 256) (k : Fin 8) (l : Fin 128), y = ix3 p k l := ⟨y 0, y 1, y 2, eq_ix3 y⟩
  exact (point ch m ρ c t p k l (by omega)).trans (place4 ch t p k l _ _)

end Cert.ExpertsIdeal.Route

end
-- ==== Proof.ETop.lean ====
module

public import proofs.«01_k».proof.Proof.ERoute
public import proofs.«01_k».proof.Proof.EPre
public import proofs.«01_k».proof.Proof.EFinal

@[expose] public section

set_option maxRecDepth 16384

noncomputable section

open Idealize.ShloMosaic Idealize.ShloMosaic.TcCoe Idealize.SL.Sem

namespace Cert.Experts.Route
open Cert.Experts Cert.Experts.Gen

/-- Tables in their ranges on every device are the tables some launch is pinned to. -/
theorem pinned (m : (ℓ : Loc nD τ sig) → Buf (Elt Bits) ℓ)
    (h : ∀ c : Dev nD, (∀ x : S112.Idx, (m (c.tc.loc main_arg0) x : BitVec 32).toNat < 16)
      ∧ ∀ x : S1.Idx, 1 ≤ (m (c.tc.loc main_arg1) x : BitVec 32).toNat ∧ (m (c.tc.loc main_arg1) x : BitVec 32).toNat ≤ 112) :
    ∃ ch : Tab, Pinned ch m := by
  obtain ⟨c₀, one⟩ : ∃ c₀ : Dev nD, ∀ a : Dev nD, a = c₀ := ⟨⟨0, by decide⟩, by decide⟩
  refine ⟨⟨m (c₀.tc.loc main_arg0), m (c₀.tc.loc main_arg1), (h _).1, (h _).2⟩, fun c => ?_, fun c => ?_⟩
  · obtain rfl := one c
    rfl
  · obtain rfl := one c
    rfl

end Cert.Experts.Route

namespace Cert.ExpertsIdeal.Route
open Cert.ExpertsIdeal Cert.ExpertsIdeal.Gen Cert.ExpertsReferenceIdeal.Read

/-- Tables in their ranges on every device are the tables some launch is pinned to. -/
theorem pinned (m : (ℓ : Loc nD τ sig) → Buf (Elt Ideal) ℓ)
    (h : ∀ c : Dev nD, (∀ x : S112.Idx, (m (c.tc.loc main_arg0) x : BitVec 32).toNat < 16)
      ∧ ∀ x : S1.Idx, 1 ≤ (m (c.tc.loc main_arg1) x : BitVec 32).toNat ∧ (m (c.tc.loc main_arg1) x : BitVec 32).toNat ≤ 112) :
    ∃ ch : Tab, Pinned ch m := by
  obtain ⟨c₀, one⟩ : ∃ c₀ : Dev nD, ∀ a : Dev nD, a = c₀ := ⟨⟨0, by decide⟩, by decide⟩
  refine ⟨⟨m (c₀.tc.loc main_arg0), m (c₀.tc.loc main_arg1), (h _).1, (h _).2⟩, fun c => ?_, fun c => ?_⟩
  · obtain rfl := one c
    rfl
  · obtain rfl := one c
    rfl

/-- Equal arguments give equal results of the reference. -/
theorem ref_congr {a0 b0 : IVec S112 32} {a1 b1 : IVec S1 32} {a2 b2 : FVec Ideal S28672x8x128 .f32} {a3 b3 a4 b4 : FVec Ideal S2x16x1024x512 .f32}
    {a5 b5 : FVec Ideal S2x16x512x1024 .f32} (h0 : a0 = b0) (h1 : a1 = b1) (h2 : a2 = b2) (h3 : a3 = b3) (h4 : a4 = b4) (h5 : a5 = b5) :
    val_main_v30 (F := Ideal) a0 a1 a2 a3 a4 a5 = val_main_v30 (F := Ideal) b0 b1 b2 b3 b4 b5 := by
  rw [h0, h1, h2, h3, h4, h5]

/-- On tables in their ranges the kernel ends with the reference's result, and its arguments as they were. -/
theorem result (ch : Tab) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ (fun r => ∀ c : Dev nD,
      r.2.mem ((c.tc : Thread nD τ).loc main_v0) = val_main_v30 (F := Ideal) (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 (4 : Fin 5)).trans ((final ch m ρ c).trans (ref_congr (hp.1 c).symm (hp.2 c).symm rfl rfl rfl rfl)),
      ((h c).2 0).trans (hp.1 c).symm, ((h c).2 1).trans (hp.2 c).symm,
      ((h c).1 (0 : Fin 5)).trans ((dats ch m ρ 0 c).arrAt_in (0 : Fin 5) rfl _),
      ((h c).1 (1 : Fin 5)).trans ((dats ch m ρ 0 c).arrAt_in (1 : Fin 5) rfl _),
      ((h c).1 (2 : Fin 5)).trans ((dats ch m ρ 0 c).arrAt_in (2 : Fin 5) rfl _),
      ((h c).1 (3 : Fin 5)).trans ((dats ch m ρ 0 c).arrAt_in (3 : Fin 5) rfl _)⟩) (run_main ch m ρ hp)

end Cert.ExpertsIdeal.Route

end
-- ==== Proof.ORoute.lean ====
module

public import proofs.«01_k».proof.Proof.OTab
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! The routed experts' call at any tables in range: the body at every point, the launch and its final memory. -/

@[expose] public section

set_option maxRecDepth 16384
set_option Elab.async false

noncomputable section

namespace Cert.ExpertsOdd.Route

open Cert.ExpertsOdd Cert.ExpertsOdd.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tab)
variable (m : (ℓ : Loc nD τ sig) → Buf (Elt Bits) ℓ) (ρ : Dev nD → PrngReg)

/-- The closed form follows the recursion of one point. -/
theorem sfrTab0_0_step : ∀ (ch : Tab) (t : Fin (cfgA ch).N), sfrTab0_0 ch (t.val + 1) = (if P0_0 ch t then (if P0_1 ch t then false else sfrTab0_0 ch t.val) else sfrTab0_0 ch t.val) := fun ch t => (allFacts ch t).1
/-- Before a position of the grid the recursion agrees with its closed form. -/
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
/-- Before a position of the grid the recursion agrees with its closed form. -/
theorem sfreshF0_0 (t : Fin (cfgA ch).N) : sfresh0_0 ch t.val = sfrTab0_0 ch t.val := sfresh0_0_eq ch t.val (Nat.le_of_lt t.isLt)
/-- Before a position of the grid the recursion agrees with its closed form. -/
theorem sfreshS0_0 (t : Fin (cfgA ch).N) : sfresh0_0 ch (t.val + 1) = sfrTab0_0 ch (t.val + 1) := sfresh0_0_eq ch (t.val + 1) t.isLt

/-- The closed form follows the recursion of one point. -/
theorem sfrTab0_1_step : ∀ (ch : Tab) (t : Fin (cfgA ch).N), sfrTab0_1 ch (t.val + 1) = (if P0_0 ch t then (if P0_1 ch t then false else sfrTab0_1 ch t.val) else sfrTab0_1 ch t.val) := fun ch t => (allFacts ch t).2.1
/-- Before a position of the grid the recursion agrees with its closed form. -/
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
/-- Before a position of the grid the recursion agrees with its closed form. -/
theorem sfreshF0_1 (t : Fin (cfgA ch).N) : sfresh0_1 ch t.val = sfrTab0_1 ch t.val := sfresh0_1_eq ch t.val (Nat.le_of_lt t.isLt)
/-- Before a position of the grid the recursion agrees with its closed form. -/
theorem sfreshS0_1 (t : Fin (cfgA ch).N) : sfresh0_1 ch (t.val + 1) = sfrTab0_1 ch (t.val + 1) := sfresh0_1_eq ch (t.val + 1) t.isLt

/-- The closed form follows the recursion of one point. -/
theorem sfrTab0_2_step : ∀ (ch : Tab) (t : Fin (cfgA ch).N), sfrTab0_2 ch (t.val + 1) = (if P0_0 ch t then (if P0_1 ch t then false else sfrTab0_2 ch t.val) else sfrTab0_2 ch t.val) := fun ch t => (allFacts ch t).2.2.1
/-- Before a position of the grid the recursion agrees with its closed form. -/
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
/-- Before a position of the grid the recursion agrees with its closed form. -/
theorem sfreshF0_2 (t : Fin (cfgA ch).N) : sfresh0_2 ch t.val = sfrTab0_2 ch t.val := sfresh0_2_eq ch t.val (Nat.le_of_lt t.isLt)
/-- Before a position of the grid the recursion agrees with its closed form. -/
theorem sfreshS0_2 (t : Fin (cfgA ch).N) : sfresh0_2 ch (t.val + 1) = sfrTab0_2 ch (t.val + 1) := sfresh0_2_eq ch (t.val + 1) t.isLt

/-- The output buffer is fresh before every point. -/
theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.1
/-- The output buffer is fresh before every point. -/
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

/-- The body takes its path under these conditions. -/
theorem hypsR0_A : ∀ (ch : Tab) (t : Fin (cfgA ch).N), P0_0 ch t → P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_A

/-- What the schedule says of a point on this path. -/
theorem sched0_A : ∀ (ch : Tab) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false := by
  intro ch t; rw [freshF0_4 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.1

/-- The body takes its path under these conditions. -/
theorem hypsR0_B : ∀ (ch : Tab) (t : Fin (cfgA ch).N), P0_0 ch t → ¬P0_1 ch t →
    (k0_cond1 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Bits) (tbM0_0).view (Rect.unit (s := S112) (k0_off2 (crd ch t)) S1.size (k0_off2_inb (crd ch t))).toLoadRect (pinT_0 ch) (Shape.Idx.first (numel1_S1.symm ▸ Nat.one_pos))) (View.readAt (Elt Bits) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_B

/-- What the schedule says of a point on this path. -/
theorem sched0_B : ∀ (ch : Tab) (t : Fin (cfgA ch).N), P0_0 ch t → ¬P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.2.2.1

/-- The body takes its path under these conditions. -/
theorem hypsR0_C : ∀ (ch : Tab) (t : Fin (cfgA ch).N), ¬P0_0 ch t →
    (¬(k0_cond1 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)) := hyps0_C

/-- What the schedule says of a point on this path. -/
theorem sched0_C : ∀ (ch : Tab) (t : Fin (cfgA ch).N), ¬P0_0 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.2.2) ch t

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1)
    else
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
  else
    (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1)

/-- THE TRAJECTORY: after position `n`. -/
def traj0 (c : Dev nD) : (n : ℕ) → n < (cfgA ch).N → (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

/-- What the output and the scratches hold after each point. -/
theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1) := by
  unfold step0; simp only [dif_pos q0, dif_pos q1]

/-- `step0` at a point of path B. -/
theorem step0_B (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : P0_0 ch t) (q1 : ¬P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_pos q0, dif_neg q1]

/-- `step0` at a point of path C. -/
theorem step0_C (c : Dev nD) (t : Fin (cfgA ch).N) (prev : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2)) (q0 : ¬P0_0 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1) := by
  unfold step0; simp only [dif_neg q0]

/-- What the tracked buffers held before position `t` of `Fin (N+1)` (the invariant's index). -/
def prev0T (c : Dev nD) (t : Fin ((cfgA ch).N + 1)) : (S256x8x128.Idx → Elt Bits .f32) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 ch m ρ c (t.val - 1) (by omega)

/-- What they held before a point. -/
theorem prev0T_castSucc (c : Dev nD) (t : Fin (cfgA ch).N) : prev0T ch m ρ c t.castSucc = prev0 ch m ρ c t := by
  unfold prev0T prev0; simp only [Fin.val_castSucc]
/-- What they held before a point. -/
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp (MT nD τ sig Unit (Elt Bits) ℕ (UR sig nD τ) ℕ) :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

/-- A part of the launch's frame at these tables. -/
theorem after0_0 (c : Dev nD) (t : Fin (cfgA ch).N) : (dats ch m ρ 0 c).after (0 : Fin 5) t = iblk ch m ρ c (0 : Fin 5) t := rfl
/-- A part of the launch's frame at these tables. -/
theorem after0_1 (c : Dev nD) (t : Fin (cfgA ch).N) : (dats ch m ρ 0 c).after (1 : Fin 5) t = iblk ch m ρ c (1 : Fin 5) t := rfl
/-- A part of the launch's frame at these tables. -/
theorem after0_2 (c : Dev nD) (t : Fin (cfgA ch).N) : (dats ch m ρ 0 c).after (2 : Fin 5) t = iblk ch m ρ c (2 : Fin 5) t := rfl
/-- A part of the launch's frame at these tables. -/
theorem after0_3 (c : Dev nD) (t : Fin (cfgA ch).N) : (dats ch m ρ 0 c).after (3 : Fin 5) t = iblk ch m ρ c (3 : Fin 5) t := rfl
/-- A part of the launch's frame at these tables. -/
theorem after0_4 (c : Dev nD) (t : Fin (cfgA ch).N) : (dats ch m ρ 0 c).after (4 : Fin 5) t = (traj0 ch m ρ c t.val t.isLt).1 := rfl

/-- What a window holds before the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- What a window holds before the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- What a window holds before the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- What a window holds before the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -⟩ := sched0_A ch t q0 q1
      rw [i4] at hi; exact absurd hi (by decide)
    · obtain ⟨i4, -, -, -, -, -, -, -, -⟩ := sched0_B ch t q0 q1
      rw [i4] at hi; exact absurd hi (by decide)
  · obtain ⟨i4, -, -, -, -, -, -, -, -⟩ := sched0_C ch t q0
    rw [i4] at hi; exact absurd hi (by decide)

/-- What a window holds before the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- A part of the launch's frame at these tables. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2⟩ := sched0_A ch t q0 q1
      have F0 := hypsR0_A ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1, sf2, sfn2⟩ := sched0_B ch t q0 q1
      have F0 := hypsR0_B ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
  · obtain ⟨i4, f4, fr4, sf0, sfn0, sf1, sfn1, sf2, sfn2⟩ := sched0_C ch t q0
    have F0 := hypsR0_C ch t q0
    have k0_h1 := F0.1; have F1 := F0.2
    have k0_h3 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_C ch m ρ c t _ q0]
    unfold Phi; simp only [prev0T_castSucc, prev0T_succ, traj0_eq, step0_C ch m ρ c t _ q0, Fin.val_castSucc, Fin.val_succ]
    simp only [exists_held sf0, exists_held sf1, exists_held sf2]
    iintro ⟨⟨HS0, HS1, HS2, HT0, HT1⟩, Ho, ⟨%d0, H0⟩, ⟨%d1, H1⟩, ⟨%d2, H2⟩, ⟨%d3, H3⟩, ⟨%d4, H4⟩⟩
    iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _ _ _ _)

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

/-- A part of the launch's frame at these tables. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp (MT nD τ sig Unit (Elt Bits) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- A part of the launch's frame at these tables. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Under these tables every array ends at what the launch computes. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Under these tables the kernel runs, its arguments end as they were and every counter ends at zero. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsOdd.Route

end
-- ==== Proof.OTabI.lean ====
module

public import proofs.«01_k».proof.Proof.Gen.ExpertsOddIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The routed experts' call run at any tables the precondition allows: the tables' words are variables, every fact
    about a grid point is proved from their ranges, and the launch's frame and final memory follow. -/

@[expose] public section

set_option maxRecDepth 16384
set_option Elab.async false

noncomputable section

namespace Cert.ExpertsOddIdeal.Route

open Cert.ExpertsOddIdeal Cert.ExpertsOddIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables a launch reads: an expert for every tile, and the number of tiles in use, in their ranges. -/
structure Tab where
  te : S112.Idx → BitVec 32
  nt : S1.Idx → BitVec 32
  hte : ∀ x, (te x).toNat < 16
  hnt : ∀ x, 1 ≤ (nt x).toNat ∧ (nt x).toNat ≤ 112

variable (ch : Tab)

/-- The table of experts. -/
def pinT_0 (ch : Tab) : S112.Idx → BitVec 32 := ch.te

/-- The number of tiles. -/
def pinT_1 (ch : Tab) : S1.Idx → BitVec 32 := ch.nt

set_option backward.proofsInPublic true in
/-- The two tables as the launch's prefetched contents. -/
def pfN : pre0.Contents (Elt Ideal) := fun | ⟨0, _⟩ => pinT_0 ch | ⟨1, _⟩ => pinT_1 ch | ⟨_ + 2, h⟩ => absurd h (by simp)

/-- The launch memory holds these tables on every device. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

variable (ch : Tab)

/-- The word of the first table an index map reads is below 16. -/
theorem at_0 (ch : Tab) (r : Rect S112) (h : r.shape.numel = 1) : ((pfN ch).at 0 r h : BitVec 32).toNat < 16 := ch.hte _

/-- The word of the second table an index map reads is between 1 and 112. -/
theorem at_1 (ch : Tab) (r : Rect S1) (h : r.shape.numel = 1) :
    1 ≤ ((pfN ch).at 1 r h : BitVec 32).toNat ∧ ((pfN ch).at 1 r h : BitVec 32).toNat ≤ 112 := ch.hnt _

/-- The smaller of a grid point and one less than the number of tiles is a block of the tokens. -/
theorem min_lt (w : BitVec 32) (h : 1 ≤ w.toNat ∧ w.toNat ≤ 112) (k : ℕ) (hk : k < 112) :
    (Scalar.minsi (BitVec.ofNat 32 k) (Scalar.subi w 1#32)).toNat < 112 := by
  have e : (w - 1#32).toNat < 112 := by bv_omega
  have e' : (BitVec.ofNat 32 k).toNat < 112 := by rw [BitVec.toNat_ofNat]; omega
  show (IntOp.minsi (BitVec.ofNat 32 k) (w - 1#32)).toNat < 112
  unfold IntOp.minsi
  split
  · exact e'
  · exact e

/-- The tokens' blocks lie in their array. -/
theorem inb_0 (ch : Tab) : ∀ i : grid0.Coords, ∀ a, (cc0_transform_0 inb_S1_S1_0 numel1_S1 (pfN ch) i a + 1) * S256x8x128.size a ≤ S28672x8x128.size a := by
  intro i
  have h := min_lt _ (at_1 ch (Rect.unit (s := S1) ![0] S1.size inb_S1_S1_0) numel1_S1) (i 0).val (i 0).isLt
  unfold cc0_transform_0
  refine okcons ?_ (okcons (by decide) (okcons (by decide) (fun a => a.elim0)))
  omega

/-- The gate weights' blocks lie in their array. -/
theorem inb_1 (ch : Tab) : ∀ i : grid0.Coords, ∀ a, (cc0_transform_1 k0_off1_inb numel1_S1 (pfN ch) i a + 1) * S1x1x1024x512.size a ≤ S2x16x1024x512.size a := by
  intro i
  unfold cc0_transform_1
  refine okcons (by decide) (okcons ?_ (okcons (by decide) (okcons (by decide) (fun a => a.elim0))))
  exact (Nat.mul_one _).le.trans (Nat.succ_le_of_lt (at_0 ch _ _))

/-- The up weights' blocks lie in their array. -/
theorem inb_2 (ch : Tab) : ∀ i : grid0.Coords, ∀ a, (cc0_transform_2 k0_off1_inb numel1_S1 (pfN ch) i a + 1) * S1x1x1024x512.size a ≤ S2x16x1024x512.size a := inb_1 ch

/-- The down weights' blocks lie in their array. -/
theorem inb_3 (ch : Tab) : ∀ i : grid0.Coords, ∀ a, (cc0_transform_3 k0_off1_inb numel1_S1 (pfN ch) i a + 1) * S1x1x512x1024.size a ≤ S2x16x512x1024.size a := by
  intro i
  unfold cc0_transform_3
  refine okcons (by decide) (okcons ?_ (okcons (by decide) (okcons (by decide) (fun a => a.elim0))))
  exact (Nat.mul_one _).le.trans (Nat.succ_le_of_lt (at_0 ch _ _))

/-- The launch accepts every such pair of tables. -/
theorem ok_pfN (ch : Tab) : ok0 (F := Ideal) (pfN ch) :=
  ⟨fun i => ⟨inb_0 ch i, .inl rfl⟩, fun i => ⟨inb_1 ch i, .inl rfl⟩, fun i => ⟨inb_2 ch i, .inl rfl⟩, fun i => ⟨inb_3 ch i, .inl rfl⟩⟩

/-- The pipeline at these tables. -/
def adm : (pcfg0 (F := Ideal)).Adm := ⟨pfN ch, ok_pfN ch⟩
/-- The pipeline at these tables. -/
abbrev cfgA : Pipeline.Cfg sig Λ₀ := cfg0 (F := Ideal) (adm ch)
/-- The pipeline at these tables. -/
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x8x128 .f32 := spec0_0.stage ((cfgA ch).slots t (0 : Fin 5))
/-- The buffer this window uses at a point. -/
abbrev hs0_0 (t : Fin (cfgA ch).N) : (ms0_0 ch t).IsWhole := hstage0_0 (((cfgA ch).slots t (0 : Fin 5)).cast nbuf0_0)
/-- The buffer this window uses at a point. -/
abbrev ms0_1 (t : Fin (cfgA ch).N) : Memref sig .tc .vmem S1x1x1024x512 .f32 := spec0_1.stage ((cfgA ch).slots t (1 : Fin 5))
/-- The buffer this window uses at a point. -/
abbrev hs0_1 (t : Fin (cfgA ch).N) : (ms0_1 ch t).IsWhole := hstage0_1 (((cfgA ch).slots t (1 : Fin 5)).cast nbuf0_1)
/-- The buffer this window uses at a point. -/
abbrev ms0_2 (t : Fin (cfgA ch).N) : Memref sig .tc .vmem S1x1x1024x512 .f32 := spec0_2.stage ((cfgA ch).slots t (2 : Fin 5))
/-- The buffer this window uses at a point. -/
abbrev hs0_2 (t : Fin (cfgA ch).N) : (ms0_2 ch t).IsWhole := hstage0_2 (((cfgA ch).slots t (2 : Fin 5)).cast nbuf0_2)
/-- The buffer this window uses at a point. -/
abbrev ms0_3 (t : Fin (cfgA ch).N) : Memref sig .tc .vmem S1x1x512x1024 .f32 := spec0_3.stage ((cfgA ch).slots t (3 : Fin 5))
/-- The buffer this window uses at a point. -/
abbrev hs0_3 (t : Fin (cfgA ch).N) : (ms0_3 ch t).IsWhole := hstage0_3 (((cfgA ch).slots t (3 : Fin 5)).cast nbuf0_3)
/-- The buffer this window uses at a point. -/
abbrev ms0_4 (t : Fin (cfgA ch).N) : Memref sig .tc .vmem S256x8x128 .f32 := spec0_4.stage ((cfgA ch).slots t (4 : Fin 5))
/-- The buffer this window uses at a point. -/
abbrev hs0_4 (t : Fin (cfgA ch).N) : (ms0_4 ch t).IsWhole := hstage0_4 (((cfgA ch).slots t (4 : Fin 5)).cast nbuf0_4)

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- What the body decides at a point. -/
abbrev P0_0 (t : Fin (cfgA ch).N) : Prop := k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1
/-- What the body decides at a point. -/
abbrev P0_1 (t : Fin (cfgA ch).N) : Prop := (Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then (if P0_1 ch ⟨n, h⟩ then false else sfresh0_0 n) else sfresh0_0 n) else true

/-- The first point that stores this scratch. -/
def sfirst0_0 (ch : Tab) : ℕ := 0
/-- The same, in closed form: undetermined before the first position only. -/
def sfrTab0_0 : ℕ → Bool := fun n => decide (n ≤ sfirst0_0 ch)

/-- Whether scratch 1 (`cc0_scratch1`) holds nothing a point has determined, before position `n`: until a path that stores it
    whole first (A) has run. -/
def sfresh0_1 : ℕ → Bool
  | 0 => true
  | n + 1 => if h : n < (cfgA ch).N then (if P0_0 ch ⟨n, h⟩ then (if P0_1 ch ⟨n, h⟩ then false else sfresh0_1 n) else sfresh0_1 n) else true

/-- The first point that stores this scratch. -/
def sfirst0_1 (ch : Tab) : ℕ := 0
/-- The same, in closed form: undetermined before the first position only. -/
def sfrTab0_1 : ℕ → Bool := fun n => decide (n ≤ sfirst0_1 ch)

/-- Whether scratch 2 (`cc0_scratch2`) holds nothing a point has determined, before position `n`: until a path that stores it
    whole first (A) has run. -/
def sfresh0_2 : ℕ → Bool
  | 0 => true
  | n + 1 => if h : n < (cfgA ch).N then (if P0_0 ch ⟨n, h⟩ then (if P0_1 ch ⟨n, h⟩ then false else sfresh0_2 n) else sfresh0_2 n) else true

/-- The first point that stores this scratch. -/
def sfirst0_2 (ch : Tab) : ℕ := 0
/-- The same, in closed form: undetermined before the first position only. -/
def sfrTab0_2 : ℕ → Bool := fun n => decide (n ≤ sfirst0_2 ch)

/-- The output window's buffer holds nothing kept before any point: every point writes its block back. -/
def frTab0_4 (ch : Tab) : ℕ → Bool := fun _ => true

/-- Everything the frame needs of a point. -/
abbrev FactsAt (ch : Tab) (t : Fin (cfgA ch).N) : Prop :=
  (sfrTab0_0 ch (t.val + 1) = (if P0_0 ch t then (if P0_1 ch t then false else sfrTab0_0 ch t.val) else sfrTab0_0 ch t.val))
  ∧ (sfrTab0_1 ch (t.val + 1) = (if P0_0 ch t then (if P0_1 ch t then false else sfrTab0_1 ch t.val) else sfrTab0_1 ch t.val))
  ∧ (sfrTab0_2 ch (t.val + 1) = (if P0_0 ch t then (if P0_1 ch t then false else sfrTab0_2 ch t.val) else sfrTab0_2 ch t.val))
  ∧ (frTab0_4 ch (t.val + 1) = (((cfgA ch).win (4 : Fin 5)).flush t || ((cfgA ch).idle (4 : Fin 5) ((cfgA ch).grid.coords t) && frTab0_4 ch t.val)))
  ∧ (P0_0 ch t → P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → P0_1 ch t → (cfgA ch).idle (4 : Fin 5) ((cfgA ch).grid.coords t) = false ∧ ((cfgA ch).win (4 : Fin 5)).flush t = true ∧ frTab0_4 ch t.val = true ∧ sfrTab0_0 ch (t.val + 1) = false ∧ sfrTab0_1 ch (t.val + 1) = false ∧ sfrTab0_2 ch (t.val + 1) = false)
  ∧ (P0_0 ch t → ¬P0_1 ch t → (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (P0_0 ch t → ¬P0_1 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))
  ∧ (¬P0_0 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

/-- The proof's resource algebra: the rounds library's, for the pipeline's staging cells, embedded whole. -/
abbrev EP : Emb (UR sig nD τ) (MT nD τ sig Unit (Elt Ideal) ℕ (UR sig nD τ) ℕ) := emb₁

/-- A point's coordinate is its position. -/
theorem crd_val (ch : Tab) (t : Fin (cfgA ch).N) : (crd ch t 0).val = t.val :=
  (by decide +kernel : ∀ t : Fin grid0.N, (grid0.coords t 0).val = t.val) t

/-- A grid point is past the tiles in use exactly when it is not among them. -/
theorem cond3_iff (i : grid0.Coords) (w : BitVec 32) : k0_cond3 i w = 1#1 ↔ ¬ k0_cond1 i w = 1#1 := by
  have key : ∀ a b : BitVec 32,
      (Scalar.cmpi .ne (Scalar.extui (Scalar.cmpi .sge a b) : BitVec 32) 0#32 = 1#1)
        ↔ ¬ (Scalar.cmpi .ne (Scalar.extui (Scalar.cmpi .slt a b) : BitVec 32) 0#32 = 1#1) := by
    intro a b
    have e : ∀ p : Bool, (Scalar.cmpi .ne (Scalar.extui (BitVec.ofBool p) : BitVec 32) 0#32 = 1#1) ↔ p = true := by decide
    have e1 : Scalar.cmpi .sge a b = BitVec.ofBool (b.sle a) := rfl
    have e2 : Scalar.cmpi .slt a b = BitVec.ofBool (a.slt b) := rfl
    rw [e1, e2, e, e, BitVec.sle_eq_not_slt]
    cases a.slt b <;> simp
  exact key _ _

/-- A grid point is among the tiles in use exactly when it is below their number. -/
theorem cond1_iff (i : grid0.Coords) (w : BitVec 32) (h : w.toNat ≤ 112) : k0_cond1 i w = 1#1 ↔ (i 0).val < w.toNat := by
  have e : ∀ p : Bool, (Scalar.cmpi .ne (Scalar.extui (BitVec.ofBool p) : BitVec 32) 0#32 = 1#1) ↔ p = true := by decide
  have hi : (i 0).val < 112 := (i 0).isLt
  refine (e ((BitVec.ofNat 32 (i 0).val).slt w)).trans ?_
  rw [BitVec.slt_eq_decide, decide_eq_true_iff, BitVec.toInt_eq_toNat_of_lt, BitVec.toInt_eq_toNat_of_lt, BitVec.toNat_ofNat]
  · omega
  · omega
  · rw [BitVec.toNat_ofNat]; omega

/-- The one index of the second table. -/
abbrev one₀ : S1.Idx := Shape.Idx.first (numel1_S1.symm ▸ Nat.one_pos)

/-- The second table has one index. -/
theorem one_idx (x y : S1.Idx) : x = y := funext fun a => Fin.ext (by
  have e : ∀ a, S1.size a = 1 := by decide
  have h := (x a).isLt.trans_eq (e a)
  have h' := (y a).isLt.trans_eq (e a)
  omega)

/-- Whether a point is among the tiles in use. -/
theorem P0_0_iff (ch : Tab) (t : Fin (cfgA ch).N) : P0_0 ch t ↔ t.val < (ch.nt one₀).toNat := by
  have h := cond1_iff (crd ch t) (ch.nt one₀) (ch.hnt _).2
  rw [crd_val] at h
  refine Iff.trans (iff_of_eq ?_) h
  exact congrArg (fun x => k0_cond1 (crd ch t) (ch.nt x) = 1#1) (one_idx _ _)

/-- The first point is among the tiles in use. -/
theorem P0_0_zero (ch : Tab) (t : Fin (cfgA ch).N) (h : t.val = 0) : P0_0 ch t :=
  (P0_0_iff ch t).2 (by have := (ch.hnt one₀).1; omega)

/-- The first point loads the weights. -/
theorem P0_1_zero (ch : Tab) (t : Fin (cfgA ch).N) (h : t.val = 0) : P0_1 ch t := by
  have e : ∀ x : BitVec 1, (Scalar.cmpi .ne (Scalar.extui (Scalar.ori (Scalar.cmpi .eq (BitVec.ofNat 32 0) 0#32) x) : BitVec 32) 0#32) = 1#1 := by decide
  show (Scalar.cmpi .ne (Scalar.extui (Scalar.ori (Scalar.cmpi .eq (BitVec.ofNat 32 (crd ch t 0).val) 0#32) _) : BitVec 32) 0#32) = 1#1
  rw [crd_val, h]
  exact e _

/-- One pair of tables in range. -/
def tab₀ : Tab := ⟨fun _ => 0#32, fun _ => 1#32, fun _ => by decide, fun _ => by decide⟩

/-- At it, every point writes the output's block back. -/
theorem flush₀ : ∀ t : Fin (cfgA tab₀).N, ((cfgA tab₀).win (4 : Fin 5)).flush t = true := by decide +kernel

/-- Every point writes the output's block back: the output's blocks do not depend on the tables. -/
theorem flush_4 (ch : Tab) (t : Fin (cfgA ch).N) : ((cfgA ch).win (4 : Fin 5)).flush t = true := flush₀ t

/-- No point leaves the output alone: each is among the tiles in use or past them. -/
theorem idle_4 (ch : Tab) (t : Fin (cfgA ch).N) : (cfgA ch).idle (4 : Fin 5) ((cfgA ch).grid.coords t) = false := by
  show (!(k0_cond1 (crd ch t) ((pfN ch).atD 1 ![0]) == 1#1) && !(k0_cond3 (crd ch t) ((pfN ch).atD 1 ![0]) == 1#1)) = false
  have h := cond3_iff (crd ch t) ((pfN ch).atD 1 ![0])
  generalize k0_cond1 (crd ch t) ((pfN ch).atD 1 ![0]) = a at *
  generalize k0_cond3 (crd ch t) ((pfN ch).atD 1 ![0]) = b at *
  revert a b
  decide

/-- A scratch is undetermined before the first point only. -/
theorem sfr_step (ch : Tab) (t : Fin (cfgA ch).N) :
    decide (t.val + 1 ≤ 0) = (if P0_0 ch t then (if P0_1 ch t then false else decide (t.val ≤ 0)) else decide (t.val ≤ 0)) := by
  by_cases h : t.val = 0
  · rw [if_pos (P0_0_zero ch t h), if_pos (P0_1_zero ch t h)]; simp
  · have e : decide (t.val ≤ 0) = false := by simp; omega
    rw [e]; simp

/-- Past the first point a scratch is determined. -/
theorem sfr_pos (n : ℕ) (h : n ≠ 0) : decide (n ≤ 0) = false := by simp; omega

/-- The facts at every point, for all tables. -/
theorem allFacts (ch : Tab) (t : Fin (cfgA ch).N) : FactsAt ch t := by
  have f := flush_4 ch t
  have i := idle_4 ch t
  have s : decide (t.val + 1 ≤ 0) = false := sfr_pos _ (by omega)
  refine ⟨sfr_step ch t, sfr_step ch t, sfr_step ch t, ?_, fun h0 h1 => ⟨h0, h1, fun h3 => (cond3_iff _ _).1 h3 h0, trivial⟩,
    fun h0 h1 => ⟨i, f, rfl, s, s, s⟩, fun h0 h1 => ⟨h0, h1, fun h3 => (cond3_iff _ _).1 h3 h0, trivial⟩, fun h0 h1 => ?_,
    fun h0 => ⟨h0, (cond3_iff _ _).2 h0, trivial⟩, fun h0 => ?_⟩
  · rw [f]; rfl
  · have z : decide (t.val ≤ 0) = false := sfr_pos _ fun h => h1 (P0_1_zero ch t h)
    exact ⟨i, f, rfl, z, s, z, s, z, s⟩
  · have z : decide (t.val ≤ 0) = false := sfr_pos _ fun h => h0 (P0_0_zero ch t h)
    exact ⟨i, f, rfl, z, s, z, s, z, s⟩

end Cert.ExpertsOddIdeal.Route

end
-- ==== Proof.ORouteI.lean ====
module

public import proofs.«01_k».proof.Proof.OTabI
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The routed experts' call at any tables in range: the body at every point, the launch and its final memory. -/

@[expose] public section

set_option maxRecDepth 16384
set_option Elab.async false

noncomputable section

namespace Cert.ExpertsOddIdeal.Route

open Cert.ExpertsOddIdeal Cert.ExpertsOddIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tab)
variable (m : (ℓ : Loc nD τ sig) → Buf (Elt Ideal) ℓ) (ρ : Dev nD → PrngReg)

/-- The closed form follows the recursion of one point. -/
theorem sfrTab0_0_step : ∀ (ch : Tab) (t : Fin (cfgA ch).N), sfrTab0_0 ch (t.val + 1) = (if P0_0 ch t then (if P0_1 ch t then false else sfrTab0_0 ch t.val) else sfrTab0_0 ch t.val) := fun ch t => (allFacts ch t).1
/-- Before a position of the grid the recursion agrees with its closed form. -/
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
/-- Before a position of the grid the recursion agrees with its closed form. -/
theorem sfreshF0_0 (t : Fin (cfgA ch).N) : sfresh0_0 ch t.val = sfrTab0_0 ch t.val := sfresh0_0_eq ch t.val (Nat.le_of_lt t.isLt)
/-- Before a position of the grid the recursion agrees with its closed form. -/
theorem sfreshS0_0 (t : Fin (cfgA ch).N) : sfresh0_0 ch (t.val + 1) = sfrTab0_0 ch (t.val + 1) := sfresh0_0_eq ch (t.val + 1) t.isLt

/-- The closed form follows the recursion of one point. -/
theorem sfrTab0_1_step : ∀ (ch : Tab) (t : Fin (cfgA ch).N), sfrTab0_1 ch (t.val + 1) = (if P0_0 ch t then (if P0_1 ch t then false else sfrTab0_1 ch t.val) else sfrTab0_1 ch t.val) := fun ch t => (allFacts ch t).2.1
/-- Before a position of the grid the recursion agrees with its closed form. -/
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
/-- Before a position of the grid the recursion agrees with its closed form. -/
theorem sfreshF0_1 (t : Fin (cfgA ch).N) : sfresh0_1 ch t.val = sfrTab0_1 ch t.val := sfresh0_1_eq ch t.val (Nat.le_of_lt t.isLt)
/-- Before a position of the grid the recursion agrees with its closed form. -/
theorem sfreshS0_1 (t : Fin (cfgA ch).N) : sfresh0_1 ch (t.val + 1) = sfrTab0_1 ch (t.val + 1) := sfresh0_1_eq ch (t.val + 1) t.isLt

/-- The closed form follows the recursion of one point. -/
theorem sfrTab0_2_step : ∀ (ch : Tab) (t : Fin (cfgA ch).N), sfrTab0_2 ch (t.val + 1) = (if P0_0 ch t then (if P0_1 ch t then false else sfrTab0_2 ch t.val) else sfrTab0_2 ch t.val) := fun ch t => (allFacts ch t).2.2.1
/-- Before a position of the grid the recursion agrees with its closed form. -/
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
/-- Before a position of the grid the recursion agrees with its closed form. -/
theorem sfreshF0_2 (t : Fin (cfgA ch).N) : sfresh0_2 ch t.val = sfrTab0_2 ch t.val := sfresh0_2_eq ch t.val (Nat.le_of_lt t.isLt)
/-- Before a position of the grid the recursion agrees with its closed form. -/
theorem sfreshS0_2 (t : Fin (cfgA ch).N) : sfresh0_2 ch (t.val + 1) = sfrTab0_2 ch (t.val + 1) := sfresh0_2_eq ch (t.val + 1) t.isLt

/-- The output buffer is fresh before every point. -/
theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.2.1
/-- The output buffer is fresh before every point. -/
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.1

/-- The body takes its path under these conditions. -/
theorem hypsR0_A : ∀ (ch : Tab) (t : Fin (cfgA ch).N), P0_0 ch t → P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_A

/-- What the schedule says of a point on this path. -/
theorem sched0_A : ∀ (ch : Tab) (t : Fin (cfgA ch).N), P0_0 ch t → P0_1 ch t →
    (cfgA ch).idle (4 : Fin 5) ((cfgA ch).grid.coords t) = false ∧ ((cfgA ch).win (4 : Fin 5)).flush t = true ∧ (cfgA ch).fresh (4 : Fin 5) t.val = true ∧ sfresh0_0 ch (t.val + 1) = false ∧ sfresh0_1 ch (t.val + 1) = false ∧ sfresh0_2 ch (t.val + 1) = false := by
  intro ch t; rw [freshF0_4 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.1

/-- The body takes its path under these conditions. -/
theorem hypsR0_B : ∀ (ch : Tab) (t : Fin (cfgA ch).N), P0_0 ch t → ¬P0_1 ch t →
    (k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬((Scalar.cmpi .ne (Scalar.extui (Scalar.ori (Scalar.cmpi .eq (BitVec.ofNat 32 ((crd ch t) 0).val) 0#32) (Scalar.cmpi .ne (View.readAt (Elt Ideal) (tbM0_0).view (Rect.unit (s := S112) (k0_off2 (crd ch t)) S1.size (k0_off2_inb (crd ch t))).toLoadRect (pinT_0 ch) (Shape.Idx.first (numel1_S1.symm ▸ Nat.one_pos))) (View.readAt (Elt Ideal) (tbM0_0).view (Rect.unit (s := S112) (k0_off3 (crd ch t)) S1.size (k0_off3_inb (crd ch t))).toLoadRect (pinT_0 ch) (Shape.Idx.first (numel1_S1.symm ▸ Nat.one_pos)))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_B

/-- What the schedule says of a point on this path. -/
theorem sched0_B : ∀ (ch : Tab) (t : Fin (cfgA ch).N), P0_0 ch t → ¬P0_1 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := fun ch t => (allFacts ch t).2.2.2.2.2.2.2.2.1

/-- The body takes its path under these conditions. -/
theorem hypsR0_C : ∀ (ch : Tab) (t : Fin (cfgA ch).N), ¬P0_0 ch t →
    (¬(k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)) := hyps0_C

/-- What the schedule says of a point on this path. -/
theorem sched0_C : ∀ (ch : Tab) (t : Fin (cfgA ch).N), ¬P0_0 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_4 ch t, sfreshF0_0 ch t, sfreshS0_0 ch t, sfreshF0_1 ch t, sfreshS0_1 ch t, sfreshF0_2 ch t, sfreshS0_2 ch t]; exact (fun ch t => (allFacts ch t).2.2.2.2.2.2.2.2.2) ch t

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if q0 : P0_0 ch t then
    if q1 : P0_1 ch t then
      (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1)
    else
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1)
  else
    (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1)

/-- THE TRAJECTORY: after position `n`. -/
def traj0 (c : Dev nD) : (n : ℕ) → n < (cfgA ch).N → (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

/-- What the output and the scratches hold after each point. -/
theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : P0_1 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 (hypsR0_A ch t q0 q1).2.2.1).2.2.2.1) := by
  unfold step0; simp only [dif_pos q0, dif_pos q1]

/-- `step0` at a point of path B. -/
theorem step0_B (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : P0_0 ch t) (q1 : ¬P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_B ch t q0 q1).1 (hypsR0_B ch t q0 q1).2.1 (hypsR0_B ch t q0 q1).2.2.1).2.2.2.1) := by
  unfold step0; simp only [dif_pos q0, dif_neg q1]

/-- `step0` at a point of path C. -/
theorem step0_C (c : Dev nD) (t : Fin (cfgA ch).N) (prev : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) (q0 : ¬P0_0 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2.1 prev.2.2.2 (hypsR0_C ch t q0).1 (hypsR0_C ch t q0).2.1).2.2.2.1) := by
  unfold step0; simp only [dif_neg q0]

/-- What the tracked buffers held before position `t` of `Fin (N+1)` (the invariant's index). -/
def prev0T (c : Dev nD) (t : Fin ((cfgA ch).N + 1)) : (S256x8x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 ch m ρ c (t.val - 1) (by omega)

/-- What they held before a point. -/
theorem prev0T_castSucc (c : Dev nD) (t : Fin (cfgA ch).N) : prev0T ch m ρ c t.castSucc = prev0 ch m ρ c t := by
  unfold prev0T prev0; simp only [Fin.val_castSucc]
/-- What they held before a point. -/
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp (MT nD τ sig Unit (Elt Ideal) ℕ (UR sig nD τ) ℕ) :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

/-- A part of the launch's frame at these tables. -/
theorem after0_0 (c : Dev nD) (t : Fin (cfgA ch).N) : (dats ch m ρ 0 c).after (0 : Fin 5) t = iblk ch m ρ c (0 : Fin 5) t := rfl
/-- A part of the launch's frame at these tables. -/
theorem after0_1 (c : Dev nD) (t : Fin (cfgA ch).N) : (dats ch m ρ 0 c).after (1 : Fin 5) t = iblk ch m ρ c (1 : Fin 5) t := rfl
/-- A part of the launch's frame at these tables. -/
theorem after0_2 (c : Dev nD) (t : Fin (cfgA ch).N) : (dats ch m ρ 0 c).after (2 : Fin 5) t = iblk ch m ρ c (2 : Fin 5) t := rfl
/-- A part of the launch's frame at these tables. -/
theorem after0_3 (c : Dev nD) (t : Fin (cfgA ch).N) : (dats ch m ρ 0 c).after (3 : Fin 5) t = iblk ch m ρ c (3 : Fin 5) t := rfl
/-- A part of the launch's frame at these tables. -/
theorem after0_4 (c : Dev nD) (t : Fin (cfgA ch).N) : (dats ch m ρ 0 c).after (4 : Fin 5) t = (traj0 ch m ρ c t.val t.isLt).1 := rfl

/-- What a window holds before the body runs. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- What a window holds before the body runs. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- What a window holds before the body runs. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- What a window holds before the body runs. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -, -, -, -⟩ := sched0_A ch t q0 q1
      rw [i4] at hi; exact absurd hi (by decide)
    · obtain ⟨i4, -, -, -, -, -, -, -, -⟩ := sched0_B ch t q0 q1
      rw [i4] at hi; exact absurd hi (by decide)
  · obtain ⟨i4, -, -, -, -, -, -, -, -⟩ := sched0_C ch t q0
    rw [i4] at hi; exact absurd hi (by decide)

/-- What a window holds before the body runs. -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _) (Memref.whole cc0_scratch2) (Memref.isWhole_whole _)

set_option maxHeartbeats 4000000 in
/-- A part of the launch's frame at these tables. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4, sfn0, sfn1, sfn2⟩ := sched0_A ch t q0 q1
      have F0 := hypsR0_A ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) k0_h1 hc1 k0_h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _ _)
    · obtain ⟨i4, f4, fr4, sf0, sfn0, sf1, sfn1, sf2, sfn2⟩ := sched0_B ch t q0 q1
      have F0 := hypsR0_B ch t q0 q1
      have k0_h1 := F0.1; have F1 := F0.2
      have hc1 := F1.1; have F2 := F1.2
      have k0_h3 := F2.1; have F3 := F2.2
      clear F0 F1 F2 F3
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 hc1 k0_h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _)
  · obtain ⟨i4, f4, fr4, sf0, sfn0, sf1, sfn1, sf2, sfn2⟩ := sched0_C ch t q0
    have F0 := hypsR0_C ch t q0
    have k0_h1 := F0.1; have F1 := F0.2
    have k0_h3 := F1.1; have F2 := F1.2
    clear F0 F1 F2
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_C ch m ρ c t _ q0]
    unfold Phi; simp only [prev0T_castSucc, prev0T_succ, traj0_eq, step0_C ch m ρ c t _ q0, Fin.val_castSucc, Fin.val_succ]
    simp only [exists_held sf0, exists_held sf1, exists_held sf2]
    iintro ⟨⟨HS0, HS1, HS2, HT0, HT1⟩, Ho, ⟨%d0, H0⟩, ⟨%d1, H1⟩, ⟨%d2, H2⟩, ⟨%d3, H3⟩, ⟨%d4, H4⟩⟩
    iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ _ k0_h1 k0_h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_C_4 c _ _ _ _ _ _ _ _ _ _ _ _ _ _ _ _ _ _ _ _ _ _)

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

/-- A part of the launch's frame at these tables. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp (MT nD τ sig Unit (Elt Ideal) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- A part of the launch's frame at these tables. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Under these tables every array ends at what the launch computes. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- Under these tables the kernel runs, its arguments end as they were and every counter ends at zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsOddIdeal.Route

end
-- ==== Proof.OKern.lean ====
module

public import proofs.«01_k».proof.Proof.Gen.ExpertsOddIdeal.Skeleton
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ExpertsOddIdeal.Route
open Cert.ExpertsOddIdeal Cert.ExpertsOddIdeal.Gen

/-- A token's activation in an expert's hidden unit: the gate's product times its logistic, times the up product. -/
def act (a b : EReal) : EReal := a * FloatOps.logistic (F := Ideal) (φ := .f32) a * b

/-- The feed-forward network of one expert at a token's row, at one output feature. -/
def ffn (x : Fin 1024 → EReal) (g u : Fin 1024 → Fin 512 → EReal) (d : Fin 512 → EReal) : EReal :=
  ∑ f : Fin 512, act (∑ k, x k * g k f) (∑ k, x k * u k f) * d f

/-- A row's feature in the layout of tokens by tiles of 128 features. -/
abbrev tok (p : Fin 256) (k : Fin 1024) : S256x8x128.Idx := ix3 p ⟨k.val / 128, by omega⟩ ⟨k.val % 128, by omega⟩

set_option maxHeartbeats 4000000 in
/-- The tokens' block as rows. -/
theorem rows (v19 : FVec Ideal S256x8x128 .f32) (p : Fin 256) (k : Fin 1024) (v20 : FVec Ideal S32x8x8x128 .f32) (v21 : FVec Ideal S8x32x8x128 .f32)
    (v22 : FVec Ideal S8x256x128 .f32)
    (e20 : v20 = shapeCast S32x8x8x128 v19 shapeCasts_S256x8x128_S32x8x8x128)
    (e21 : v21 = transpose S8x32x8x128 [2, 0, 1, 3] v20 transposes_S32x8x8x128_p2_0_1_3_S8x32x8x128)
    (e22 : v22 = shapeCast S8x256x128 v21 shapeCasts_S8x32x8x128_S8x256x128) (c : Fin 8) (l : Fin 128) :
    v22 (ix3 c p l) = v19 (ix3 p c l) := by
  subst e22; subst e21; subst e20
  pointwise

/-- The result's rows laid out by tiles of 128 features. -/
theorem tiles (v67 : FVec Ideal S8x256x128 .f32) (p : Fin 256) (c : Fin 8) (l : Fin 128) :
    shapeCast S256x8x128 (transpose S32x8x8x128 [1, 2, 0, 3] (shapeCast S8x32x8x128 v67 shapeCasts_S8x256x128_S8x32x8x128)
      transposes_S8x32x8x128_p1_2_0_3_S32x8x8x128) shapeCasts_S32x8x8x128_S256x8x128 (ix3 p c l) = v67 (ix3 c p l) := by
  pointwise

/-- The products a tile's rows go through. -/
theorem prod (x : FVec Ideal S256x1024 .bf16) (g u : FVec Ideal S1024x512 .bf16) (d : FVec Ideal S512x1024 .bf16) (p : Fin 256) (n : Fin 1024) :
    matmul dot_S256x512_S512x1024_S256x1024_1_0_0_1_n_n none
      (truncf (F := Ideal) (φ := .f32) (s := S256x512) .bf16 (mulf (mulf (matmul dot_S256x1024_S1024x512_S256x512_1_0_0_1_n_n none x g (constant S256x512 .f32 0x00000000#32))
        (logistic (matmul dot_S256x1024_S1024x512_S256x512_1_0_0_1_n_n none x g (constant S256x512 .f32 0x00000000#32))))
        (matmul dot_S256x1024_S1024x512_S256x512_1_0_0_1_n_n none x u (constant S256x512 .f32 0x00000000#32))) bitsLt_bf16_f32) d
      (constant S256x1024 .f32 0x00000000#32) (ix2 p n)
      = ffn (fun k => x (ix2 p k)) (fun k f => g (ix2 k f)) (fun k f => u (ix2 k f)) (fun f => d (ix2 f n)) := by
  unfold ffn act
  pointwise

end Cert.ExpertsOddIdeal.Route

end
-- ==== Proof.OKern2.lean ====
module

public import proofs.«01_k».proof.Proof.OKern

@[expose] public section

set_option maxRecDepth 16384

noncomputable section

open Idealize.ShloMosaic Idealize.ShloMosaic.TcCoe Idealize.SL.Sem

namespace Cert.ExpertsOddIdeal.Route
open Cert.ExpertsOddIdeal Cert.ExpertsOddIdeal.Gen

/-- An array read at two indices that agree by value. -/
theorem nx (x : FVec Ideal S8x256x128 .f32) {a a' : Fin 8} {p : Fin 256} {l l' : Fin 128} (h : a.val = a'.val) (h' : l.val = l'.val) :
    x (ix3 a p l) = x (ix3 a' p l') := by rw [Fin.ext h, Fin.ext h']

set_option maxHeartbeats 4000000 in
/-- Eight blocks of 128 features side by side. -/
theorem cat8 (x : FVec Ideal S8x256x128 .f32) (p : Fin 256) (k : Fin 1024) :
    concatenate S256x1024 1 [⟨S256x128, shapeCast S256x128 (extractStridedSlice S1x256x128 ![0, 0, 0] x slices_S8x256x128_o0_0_0_S1x256x128) shapeCasts_S1x256x128_S256x128⟩,
      ⟨S256x128, shapeCast S256x128 (extractStridedSlice S1x256x128 ![1, 0, 0] x slices_S8x256x128_o1_0_0_S1x256x128) shapeCasts_S1x256x128_S256x128⟩,
      ⟨S256x128, shapeCast S256x128 (extractStridedSlice S1x256x128 ![2, 0, 0] x slices_S8x256x128_o2_0_0_S1x256x128) shapeCasts_S1x256x128_S256x128⟩,
      ⟨S256x128, shapeCast S256x128 (extractStridedSlice S1x256x128 ![3, 0, 0] x slices_S8x256x128_o3_0_0_S1x256x128) shapeCasts_S1x256x128_S256x128⟩,
      ⟨S256x128, shapeCast S256x128 (extractStridedSlice S1x256x128 ![4, 0, 0] x slices_S8x256x128_o4_0_0_S1x256x128) shapeCasts_S1x256x128_S256x128⟩,
      ⟨S256x128, shapeCast S256x128 (extractStridedSlice S1x256x128 ![5, 0, 0] x slices_S8x256x128_o5_0_0_S1x256x128) shapeCasts_S1x256x128_S256x128⟩,
      ⟨S256x128, shapeCast S256x128 (extractStridedSlice S1x256x128 ![6, 0, 0] x slices_S8x256x128_o6_0_0_S1x256x128) shapeCasts_S1x256x128_S256x128⟩,
      ⟨S256x128, shapeCast S256x128 (extractStridedSlice S1x256x128 ![7, 0, 0] x slices_S8x256x128_o7_0_0_S1x256x128) shapeCasts_S1x256x128_S256x128⟩]
      concatenates_S256x128_S256x128_S256x128_S256x128_S256x128_S256x128_S256x128_S256x128_S256x1024_d1 (ix2 p k)
      = x (ix3 ⟨k.val / 128, by omega⟩ p ⟨k.val % 128, by omega⟩) := by
  pointwise
  repeat' split
  all_goals first | rfl | (refine nx x ?_ ?_ <;> (dsimp only; omega)) | (exfalso; omega)

set_option maxHeartbeats 4000000 in
/-- The eight blocks of 128 features of a row, stacked. -/
theorem stack8 (x : FVec Ideal S256x1024 .f32) (c : Fin 8) (p : Fin 256) (l : Fin 128) (h) :
    concatenate S8x256x128 0 [⟨S1x256x128, shapeCast S1x256x128 (extractStridedSlice S256x128 ![0, 0] x slices_S256x1024_o0_0_S256x128) shapeCasts_S256x128_S1x256x128⟩, ⟨S1x256x128, shapeCast S1x256x128 (extractStridedSlice S256x128 ![0, 128] x slices_S256x1024_o0_128_S256x128) shapeCasts_S256x128_S1x256x128⟩, ⟨S1x256x128, shapeCast S1x256x128 (extractStridedSlice S256x128 ![0, 256] x slices_S256x1024_o0_256_S256x128) shapeCasts_S256x128_S1x256x128⟩, ⟨S1x256x128, shapeCast S1x256x128 (extractStridedSlice S256x128 ![0, 384] x slices_S256x1024_o0_384_S256x128) shapeCasts_S256x128_S1x256x128⟩, ⟨S1x256x128, shapeCast S1x256x128 (extractStridedSlice S256x128 ![0, 512] x slices_S256x1024_o0_512_S256x128) shapeCasts_S256x128_S1x256x128⟩, ⟨S1x256x128, shapeCast S1x256x128 (extractStridedSlice S256x128 ![0, 640] x slices_S256x1024_o0_640_S256x128) shapeCasts_S256x128_S1x256x128⟩, ⟨S1x256x128, shapeCast S1x256x128 (extractStridedSlice S256x128 ![0, 768] x slices_S256x1024_o0_768_S256x128) shapeCasts_S256x128_S1x256x128⟩, ⟨S1x256x128, shapeCast S1x256x128 (extractStridedSlice S256x128 ![0, 896] x slices_S256x1024_o0_896_S256x128) shapeCasts_S256x128_S1x256x128⟩]
      concatenates_S1x256x128_S1x256x128_S1x256x128_S1x256x128_S1x256x128_S1x256x128_S1x256x128_S1x256x128_S8x256x128_d0 (ix3 c p l)
      = x (ix2 p ⟨c.val * 128 + l.val, h⟩) := by
  fin_cases c <;> pointwise

/-- What the body computes of a tile's rows and its scratches, in the layout of the result. -/
theorem pay (v19 : FVec Ideal S256x8x128 .f32) (g u : FVec Ideal S1024x512 .bf16) (d : FVec Ideal S512x1024 .bf16) (p : Fin 256) (c : Fin 8) (l : Fin 128) (h) :
    k0_pay1 (F := Ideal) (k0_pay6 (F := Ideal) v19 g u d) (ix3 p c l)
      = ffn (fun k => v19 (tok p k)) (fun k f => g (ix2 k f)) (fun k f => u (ix2 k f)) (fun f => d (ix2 f ⟨c.val * 128 + l.val, h⟩)) := by
  unfold k0_pay1
  refine (tiles _ p c l).trans ?_
  refine (stack8 _ c p l h).trans ?_
  unfold k0_pay6
  refine (prod _ _ _ _ p _).trans ?_
  refine congrArg (fun x => ffn x _ _ _) (funext fun k => ?_)
  exact (cat8 _ p k).trans (rows v19 p k _ _ _ rfl rfl rfl _ _)

/-- The rounded gate weights of a block. -/
theorem pay3 (x : FVec Ideal S1x1x1024x512 .f32) (k : Fin 1024) (f : Fin 512) : k0_pay3 (F := Ideal) x (ix2 k f) = x (ix4 0 0 k f) := by
  unfold k0_pay3
  pointwise

/-- The rounded up weights of a block. -/
theorem pay4 (x : FVec Ideal S1x1x1024x512 .f32) (k : Fin 1024) (f : Fin 512) : k0_pay4 (F := Ideal) x (ix2 k f) = x (ix4 0 0 k f) := by
  unfold k0_pay4
  pointwise

/-- The rounded down weights of a block. -/
theorem pay5 (x : FVec Ideal S1x1x512x1024 .f32) (f : Fin 512) (n : Fin 1024) : k0_pay5 (F := Ideal) x (ix2 f n) = x (ix4 0 0 f n) := by
  unfold k0_pay5
  pointwise

/-- The zeros of a tile past those in use. -/
theorem pay2 (y : S256x8x128.Idx) : k0_pay2 (F := Ideal) y = 0 := by
  unfold k0_pay2
  pointwise

end Cert.ExpertsOddIdeal.Route

end
-- ==== Proof.OStep.lean ====
module

public import proofs.«01_k».proof.Proof.ORouteI
public import proofs.«01_k».proof.Proof.OKern2

@[expose] public section

set_option maxRecDepth 16384

noncomputable section

open Idealize.ShloMosaic Idealize.ShloMosaic.TcCoe Idealize.SL.Sem

namespace Cert.ExpertsOddIdeal.Route
open Cert.ExpertsOddIdeal Cert.ExpertsOddIdeal.Gen

variable (ch : Tab) (m : (ℓ : Loc nD τ sig) → Buf (Elt Ideal) ℓ) (ρ : Dev nD → PrngReg)

set_option maxHeartbeats 1000000 in
/-- A point that loads its weights: the scratches become the rounded weights, the output the network of the tile. -/
theorem stepA (c : Dev nD) (t : Fin (cfgA ch).N) (prev) (q0 : P0_0 ch t) (q1 : P0_1 ch t) :
    step0 ch m ρ c t prev
      = (k0_pay1 (F := Ideal) (k0_pay6 (F := Ideal) (iblk ch m ρ c (0 : Fin 5) t) (k0_pay3 (F := Ideal) (iblk ch m ρ c (1 : Fin 5) t))
          (k0_pay4 (F := Ideal) (iblk ch m ρ c (2 : Fin 5) t)) (k0_pay5 (F := Ideal) (iblk ch m ρ c (3 : Fin 5) t))),
        k0_pay3 (F := Ideal) (iblk ch m ρ c (1 : Fin 5) t), k0_pay4 (F := Ideal) (iblk ch m ρ c (2 : Fin 5) t), k0_pay5 (F := Ideal) (iblk ch m ρ c (3 : Fin 5) t)) := by
  rw [step0_A ch m ρ c t prev q0 q1]
  refine Prod.ext ?_ (Prod.ext ?_ (Prod.ext ?_ ?_))
  · dsimp only
    unfold out0_A_4
    frame_out
    rw [View.read_rep, View.read_rep, View.read_rep, View.read_rep]
  · dsimp only
    unfold kernelRun0_A
    dsimp only
    refine (View.read_whole cc0_scratch0 _).symm.trans ?_
    frame_out
    rw [View.read_rep]
    exact View.canon_cons_unit_lit (S := S1024x512) _ _ _ (by decide)
  · dsimp only
    unfold kernelRun0_A
    dsimp only
    refine (View.read_whole cc0_scratch1 _).symm.trans ?_
    frame_out
    rw [View.read_rep]
    exact View.canon_cons_unit_lit (S := S1024x512) _ _ _ (by decide)
  · dsimp only
    unfold kernelRun0_A
    dsimp only
    refine (View.read_whole cc0_scratch2 _).symm.trans ?_
    frame_out
    rw [View.read_rep]
    exact View.canon_cons_unit_lit (S := S512x1024) _ _ _ (by decide)

/-- A point that keeps its weights: the output is the network of the tile at the scratches' weights. -/
theorem stepB (c : Dev nD) (t : Fin (cfgA ch).N) (prev) (q0 : P0_0 ch t) (q1 : ¬P0_1 ch t) :
    step0 ch m ρ c t prev
      = (k0_pay1 (F := Ideal) (k0_pay6 (F := Ideal) (iblk ch m ρ c (0 : Fin 5) t) prev.2.1 prev.2.2.1 prev.2.2.2), prev.2.1, prev.2.2.1, prev.2.2.2) := by
  rw [step0_B ch m ρ c t prev q0 q1]
  refine Prod.ext ?_ (Prod.ext ?_ (Prod.ext ?_ ?_))
  · dsimp only
    unfold out0_B_4
    frame_out
    rw [View.read_rep]
    rfl
  · rfl
  · rfl
  · rfl

/-- A point past the tiles in use: the output is zero. -/
theorem stepC (c : Dev nD) (t : Fin (cfgA ch).N) (prev) (q0 : ¬P0_0 ch t) :
    (step0 ch m ρ c t prev).1 = k0_pay2 (F := Ideal) := by
  rw [step0_C ch m ρ c t prev q0]
  dsimp only
  unfold out0_C_4
  frame_out

end Cert.ExpertsOddIdeal.Route

end
-- ==== Proof.OTraj.lean ====
module

public import proofs.«01_k».proof.Proof.OStep

@[expose] public section

set_option maxRecDepth 16384

noncomputable section

open Idealize.ShloMosaic Idealize.ShloMosaic.TcCoe Idealize.SL.Sem

namespace Cert.ExpertsOddIdeal.Route
open Cert.ExpertsOddIdeal Cert.ExpertsOddIdeal.Gen

variable (ch : Tab) (m : (ℓ : Loc nD τ sig) → Buf (Elt Ideal) ℓ) (ρ : Dev nD → PrngReg)

/-- The places a point reads the first table at. -/
theorem offs : ∀ t : Fin grid0.N, k0_off1 (grid0.coords t) 0 = t.val ∧ k0_off2 (grid0.coords t) 0 = t.val ∧ k0_off3 (grid0.coords t) 0 = t.val - 1 := by decide +kernel

/-- The place a rectangle of one place lies at. -/
theorem place (off : Fin 1 → ℕ) (h) (i) (n : Fin 112) (e : off 0 = n.val) :
    (Rect.unit (s := S112) off S1.size h).emb i = ix1 n := by
  refine funext fun (a : Fin 1) => Fin.ext ?_
  obtain rfl : a = 0 := Subsingleton.elim _ _
  show off 0 + 1 * (i 0).val = n.val
  have hi : (i 0).val < 1 := (i 0).isLt
  omega

/-- The word of the first table a rectangle of one place reads. -/
theorem at_te (off : Fin 1 → ℕ) (h) (n : Fin 112) (e : off 0 = n.val) :
    ((pfN ch).at 0 (Rect.unit (s := S112) off S1.size h) numel1_S1 : BitVec 32) = ch.te (ix1 n) :=
  congrArg ch.te (place off h _ n e)

/-- The same word, as the body loads it. -/
theorem ld_te (off : Fin 1 → ℕ) (h) (n : Fin 112) (e : off 0 = n.val) :
    View.readAt (Elt Ideal) (tbM0_0).view (Rect.unit (s := S112) off S1.size h).toLoadRect (pinT_0 ch) (Shape.Idx.first (numel1_S1.symm ▸ Nat.one_pos)) = ch.te (ix1 n) :=
  congrArg ch.te (place off h _ n e)

/-- A point that keeps its weights has the expert of the point before. -/
theorem keep (t : Fin (cfgA ch).N) (h : ¬ P0_1 ch t) (h1) (h2) : ch.te (ix1 ⟨t.val, h1⟩) = ch.te (ix1 ⟨t.val - 1, h2⟩) := by
  have k : ∀ (a : BitVec 1) (b : Bool), ¬ (Scalar.cmpi .ne (Scalar.extui (Scalar.ori a (BitVec.ofBool b)) : BitVec 32) 0#32 = 1#1) → b = false := by decide
  have e2 := ld_te ch (k0_off2 (crd ch t)) (k0_off2_inb (crd ch t)) ⟨t.val, h1⟩ (offs t).2.1
  have e3 := ld_te ch (k0_off3 (crd ch t)) (k0_off3_inb (crd ch t)) ⟨t.val - 1, h2⟩ (offs t).2.2
  have h' := k _ (ch.te (ix1 ⟨t.val, h1⟩) != ch.te (ix1 ⟨t.val - 1, h2⟩)) (fun h'' => h (by
    unfold P0_1
    rw [e2, e3]
    exact h''))
  simpa using h'

/-- The tokens' block of a point in use. -/
theorem idx0 (t : Fin (cfgA ch).N) (h : t.val < (ch.nt one₀).toNat) : ((cfgA ch).win (0 : Fin 5)).index t = ![t.val, 0, 0] := by
  have e : ∀ w : BitVec 32, w.toNat ≤ 112 → t.val < w.toNat → (Scalar.minsi (BitVec.ofNat 32 t.val) (Scalar.subi w 1#32)).toNat = t.val := by
    intro w h1 h2
    have e1 : (w - 1#32).toNat = w.toNat - 1 := by bv_omega
    have e2 : (BitVec.ofNat 32 t.val).toNat = t.val := by rw [BitVec.toNat_ofNat]; omega
    show (IntOp.minsi (BitVec.ofNat 32 t.val) (w - 1#32)).toNat = t.val
    unfold IntOp.minsi
    rw [BitVec.slt_eq_decide, BitVec.toInt_eq_toNat_of_lt (by omega), BitVec.toInt_eq_toNat_of_lt (by omega), e1, e2]
    split
    · exact e2
    · rename_i h3
      rw [decide_eq_true_iff] at h3
      omega
  show cc0_transform_0 inb_S1_S1_0 numel1_S1 (pfN ch) (crd ch t) = _
  unfold cc0_transform_0
  have hw : ((pfN ch).at 1 (Rect.unit (s := S1) ![0] S1.size inb_S1_S1_0) numel1_S1 : BitVec 32) = ch.nt one₀ := congrArg ch.nt (one_idx _ _)
  rw [hw, crd_val]
  dsimp only
  rw [e _ (ch.hnt _).2 h]
  rfl

/-- The weights' blocks of a point. -/
theorem idx1 (t : Fin (cfgA ch).N) (h1) : ((cfgA ch).win (1 : Fin 5)).index t = ![1, (ch.te (ix1 ⟨t.val, h1⟩)).toNat, 0, 0] := by
  show cc0_transform_1 k0_off1_inb numel1_S1 (pfN ch) (crd ch t) = _
  unfold cc0_transform_1
  have e := at_te ch (k0_off1 (crd ch t)) (k0_off1_inb (crd ch t)) ⟨t.val, h1⟩ (offs t).1
  exact congrArg (fun w : BitVec 32 => ![1, w.toNat, 0, 0]) e

/-- The weights' blocks of a point. -/
theorem idx2 (t : Fin (cfgA ch).N) (h1) : ((cfgA ch).win (2 : Fin 5)).index t = ![1, (ch.te (ix1 ⟨t.val, h1⟩)).toNat, 0, 0] := idx1 ch t h1

/-- The weights' blocks of a point. -/
theorem idx3 (t : Fin (cfgA ch).N) (h1) : ((cfgA ch).win (3 : Fin 5)).index t = ![1, (ch.te (ix1 ⟨t.val, h1⟩)).toNat, 0, 0] := idx1 ch t h1

/-- The output's block of a point. -/
theorem idx4 (t : Fin (cfgA ch).N) : ((cfgA ch).win (4 : Fin 5)).index t = ![t.val, 0, 0] :=
  (by decide +kernel : ∀ t : Fin grid0.N, cc0_transform_4 (grid0.coords t) = ![t.val, 0, 0]) t

/-- The tokens of a tile in use. -/
theorem b0 (c : Dev nD) (t : Fin (cfgA ch).N) (h : t.val < (ch.nt one₀).toNat) (p : Fin 256) (k : Fin 8) (l : Fin 128) (hr) :
    iblk ch m ρ c (0 : Fin 5) t (ix3 p k l) = m (c.tc.loc main_arg2) (ix3 ⟨t.val * 256 + p.val, hr⟩ k l) := by
  blk_ext [iblk, idx0 ch t h]

/-- The gate weights of a tile's expert. -/
theorem b1 (c : Dev nD) (t : Fin (cfgA ch).N) (h1) (h2) (k : Fin 1024) (f : Fin 512) :
    iblk ch m ρ c (1 : Fin 5) t (ix4 0 0 k f) = m (c.tc.loc main_arg3) (ix4 1 ⟨(ch.te (ix1 ⟨t.val, h1⟩)).toNat, h2⟩ k f) := by
  blk_ext [iblk, idx1 ch t h1]

/-- The up weights of a tile's expert. -/
theorem b2 (c : Dev nD) (t : Fin (cfgA ch).N) (h1) (h2) (k : Fin 1024) (f : Fin 512) :
    iblk ch m ρ c (2 : Fin 5) t (ix4 0 0 k f) = m (c.tc.loc main_arg4) (ix4 1 ⟨(ch.te (ix1 ⟨t.val, h1⟩)).toNat, h2⟩ k f) := by
  blk_ext [iblk, idx2 ch t h1]

/-- The down weights of a tile's expert. -/
theorem b3 (c : Dev nD) (t : Fin (cfgA ch).N) (h1) (h2) (f : Fin 512) (n : Fin 1024) :
    iblk ch m ρ c (3 : Fin 5) t (ix4 0 0 f n) = m (c.tc.loc main_arg5) (ix4 1 ⟨(ch.te (ix1 ⟨t.val, h1⟩)).toNat, h2⟩ f n) := by
  blk_ext [iblk, idx3 ch t h1]

end Cert.ExpertsOddIdeal.Route

end
-- ==== Proof.ORef.lean ====
module

public import proofs.«01_k».proof.Proof.Gen.ExpertsOddReferenceIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem

namespace Cert.ExpertsOddReferenceIdeal.Route
open Cert.ExpertsOddReferenceIdeal Cert.ExpertsOddReferenceIdeal.Gen Cert.ExpertsOddReferenceIdeal.Read

/-- A token's activation in an expert's hidden unit: the gate's product times its logistic, times the up product. -/
def act (a b : EReal) : EReal := a * FloatOps.logistic (F := Ideal) (φ := .f32) a * b

/-- The reference's product of a token's row with an expert's gate weights. -/
theorem r19 (x2 : FVec Ideal S28672x8x128 .f32) (x3 : FVec Ideal S2x16x1024x512 .f32) (e : Fin 16) (r : Fin 28672) (f : Fin 512) :
    val_main_v19 (F := Ideal) x2 x3 (ix3 e r f) = ∑ k : Fin 1024, x2 (ix3 r ⟨k.val / 128, by omega⟩ ⟨k.val % 128, by omega⟩) * x3 (ix4 1 e k f) := by
  pointwise [val_main_v19, val_main_v18, val_main_v6, val_main_v1, val_main_v0]
  exact Finset.sum_congr rfl fun k _ => mul_comm _ _

/-- The reference's product of a token's row with an expert's up weights. -/
theorem r22 (x2 : FVec Ideal S28672x8x128 .f32) (x4 : FVec Ideal S2x16x1024x512 .f32) (e : Fin 16) (r : Fin 28672) (f : Fin 512) :
    val_main_v22 (F := Ideal) x2 x4 (ix3 e r f) = ∑ k : Fin 1024, x2 (ix3 r ⟨k.val / 128, by omega⟩ ⟨k.val % 128, by omega⟩) * x4 (ix4 1 e k f) := by
  pointwise [val_main_v22, val_main_v21, val_main_v6, val_main_v3, val_main_v2]
  exact Finset.sum_congr rfl fun k _ => mul_comm _ _

/-- The reference's activation. -/
theorem r23 (x2 : FVec Ideal S28672x8x128 .f32) (x3 x4 : FVec Ideal S2x16x1024x512 .f32) (e : Fin 16) (r : Fin 28672) (f : Fin 512) :
    val_main_v23 (F := Ideal) x2 x3 x4 (ix3 e r f) = act (val_main_v19 (F := Ideal) x2 x3 (ix3 e r f)) (val_main_v22 (F := Ideal) x2 x4 (ix3 e r f)) := by
  unfold act
  generalize h1 : val_main_v19 (F := Ideal) x2 x3 = a
  generalize h2 : val_main_v22 (F := Ideal) x2 x4 = b
  pointwise [val_main_v23, val_main_v20, val_main_call2_v5, val_main_call2_v4, val_main_call2_cst_0, val_main_call2_v3, val_main_call2_v2, val_main_call2_cst, val_main_call2_v1, val_main_call2_v0, h1, h2]
  rfl

/-- The reference's network of every expert. -/
theorem r26 (x2 : FVec Ideal S28672x8x128 .f32) (x3 x4 : FVec Ideal S2x16x1024x512 .f32) (x5 : FVec Ideal S2x16x512x1024 .f32) (e : Fin 16) (r : Fin 28672) (n : Fin 1024) :
    val_main_v26 (F := Ideal) x2 x3 x4 x5 (ix3 e r n) = ∑ f : Fin 512, val_main_v23 (F := Ideal) x2 x3 x4 (ix3 e r f) * x5 (ix4 1 e f n) := by
  generalize h1 : val_main_v23 (F := Ideal) x2 x3 x4 = a
  pointwise [val_main_v26, val_main_v5, val_main_v4, h1]

/-- The reference's gates: one for the tile's expert in the tiles in use, zero elsewhere. -/
theorem r17 (x0 : IVec S112 32) (x1 : IVec S1 32) (t : Fin 112) (p : Fin 256) (e : Fin 16) (h) :
    val_main_v17 (F := Ideal) x0 x1 (ix2 ⟨t.val * 256 + p.val, h⟩ e)
      = if IntOp.cmpi .slt (BitVec.ofNat 32 (t.val * 256 + p.val)) (IntOp.muli (x1 (ix1 0)) 256#32) = 1#1
        then FloatOps.uitofp (F := Ideal) .f32 (IntOp.cmpi .eq (x0 (ix1 t)) (BitVec.ofNat 32 e.val)) else 0 := by
  pointwise [val_main_v17, val_main_call1_v2, val_main_call1_v1, val_main_call1_v0, val_main_cst, val_main_v16, val_main_call0_v4, val_main_call0_v3, val_main_call0_v2, val_main_call0_v1, val_main_call0_v0, val_main_v15, val_main_v14, val_main_v13, val_main_v12, val_main_c, val_main_v11, val_main_v10, val_main_v9, val_main_v8, val_main_v7]
  by_cases hc : IntOp.cmpi .slt (BitVec.ofNat 32 (t.val * 256 + p.val)) (IntOp.muli (x1 (ix1 0)) 256#32) = 1#1
  · rw [if_pos hc]
    exact if_pos hc
  · rw [if_neg hc]
    refine (if_neg hc).trans ?_
    show (constant (F := Ideal) S_ .f32 0x00000000#32) ix0 = 0
    pointwise

/-- The reference's result: every expert's network weighted by its gate. -/
theorem r30 (x0 : IVec S112 32) (x1 : IVec S1 32) (x2 : FVec Ideal S28672x8x128 .f32) (x3 x4 : FVec Ideal S2x16x1024x512 .f32) (x5 : FVec Ideal S2x16x512x1024 .f32)
    (r : Fin 28672) (c : Fin 8) (l : Fin 128) (h) :
    val_main_v30 (F := Ideal) x0 x1 x2 x3 x4 x5 (ix3 r c l)
      = ∑ e : Fin 16, val_main_v17 (F := Ideal) x0 x1 (ix2 r e) * val_main_v26 (F := Ideal) x2 x3 x4 x5 (ix3 e r ⟨c.val * 128 + l.val, h⟩) := by
  generalize h1 : val_main_v17 (F := Ideal) x0 x1 = a
  generalize h2 : val_main_v26 (F := Ideal) x2 x3 x4 x5 = b
  pointwise [val_main_v30, val_main_v29, val_main_cst_0, val_main_v28, val_main_v27, val_main_v25, val_main_v24, h1, h2]

/-- A row is in the tiles in use exactly when its tile is. -/
theorem live (w : BitVec 32) (hw : w.toNat ≤ 112) (t p : ℕ) (ht : t < 112) (hp : p < 256) :
    IntOp.cmpi .slt (BitVec.ofNat 32 (t * 256 + p)) (IntOp.muli w 256#32) = 1#1 ↔ t < w.toNat := by
  have e : ∀ q : Bool, BitVec.ofBool q = 1#1 ↔ q = true := by decide
  have hm : (w * 256#32).toNat = w.toNat * 256 := by
    rw [BitVec.toNat_mul, show (256#32 : BitVec 32).toNat = 256 from rfl]; omega
  have hr : (BitVec.ofNat 32 (t * 256 + p)).toNat = t * 256 + p := by rw [BitVec.toNat_ofNat]; omega
  refine (e ((BitVec.ofNat 32 (t * 256 + p)).slt (w * 256#32))).trans ?_
  rw [BitVec.slt_eq_decide, decide_eq_true_iff, BitVec.toInt_eq_toNat_of_lt (by omega), BitVec.toInt_eq_toNat_of_lt (by omega), hm, hr]
  omega

/-- The gate of an expert: one for the tile's own, zero for another. -/
theorem gate (w : BitVec 32) (hw : w.toNat < 16) (e : Fin 16) :
    (FloatOps.uitofp (F := Ideal) .f32 (IntOp.cmpi .eq w (BitVec.ofNat 32 e.val)) : EReal) = if e = ⟨w.toNat, hw⟩ then 1 else 0 := by
  have h1 : (FloatOps.uitofp (F := Ideal) .f32 (1#1 : BitVec 1) : EReal) = 1 := by
    show (((1#1 : BitVec 1).toNat : ℝ) : EReal) = 1
    simp
  have h0 : (FloatOps.uitofp (F := Ideal) .f32 (0#1 : BitVec 1) : EReal) = 0 := by
    show (((0#1 : BitVec 1).toNat : ℝ) : EReal) = 0
    simp
  have he := e.isLt
  by_cases h : e = ⟨w.toNat, hw⟩
  · rw [if_pos h, ← h1]
    have h' : e.val = w.toNat := congrArg Fin.val h
    have hv : w = BitVec.ofNat 32 e.val := BitVec.eq_of_toNat_eq (by rw [BitVec.toNat_ofNat]; omega)
    refine congrArg (FloatOps.uitofp (F := Ideal) .f32) ?_
    show BitVec.ofBool (w == BitVec.ofNat 32 e.val) = 1#1
    rw [← hv, beq_self_eq_true]; rfl
  · rw [if_neg h, ← h0]
    have hv : w ≠ BitVec.ofNat 32 e.val := fun hv => by
      have h' : w.toNat = e.val := by
        have := congrArg BitVec.toNat hv
        rw [BitVec.toNat_ofNat] at this; omega
      exact h (Fin.ext h'.symm)
    refine congrArg (FloatOps.uitofp (F := Ideal) .f32) ?_
    show BitVec.ofBool (w == BitVec.ofNat 32 e.val) = 0#1
    rw [beq_false_of_ne hv]; rfl

/-- The reference's result at a row of a tile: the network of the tile's expert in the tiles in use, zero past them. -/
theorem ref (x0 : IVec S112 32) (x1 : IVec S1 32) (x2 : FVec Ideal S28672x8x128 .f32) (x3 x4 : FVec Ideal S2x16x1024x512 .f32) (x5 : FVec Ideal S2x16x512x1024 .f32)
    (t : Fin 112) (p : Fin 256) (c : Fin 8) (l : Fin 128) (h0 : (x0 (ix1 t)).toNat < 16) (h1 : (x1 (ix1 0)).toNat ≤ 112) (hr) (hn) :
    val_main_v30 (F := Ideal) x0 x1 x2 x3 x4 x5 (ix3 ⟨t.val * 256 + p.val, hr⟩ c l)
      = if t.val < (x1 (ix1 0)).toNat then
          ∑ f : Fin 512, act (∑ k : Fin 1024, x2 (ix3 ⟨t.val * 256 + p.val, hr⟩ ⟨k.val / 128, by omega⟩ ⟨k.val % 128, by omega⟩) * x3 (ix4 1 ⟨(x0 (ix1 t)).toNat, h0⟩ k f))
            (∑ k : Fin 1024, x2 (ix3 ⟨t.val * 256 + p.val, hr⟩ ⟨k.val / 128, by omega⟩ ⟨k.val % 128, by omega⟩) * x4 (ix4 1 ⟨(x0 (ix1 t)).toNat, h0⟩ k f))
            * x5 (ix4 1 ⟨(x0 (ix1 t)).toNat, h0⟩ f ⟨c.val * 128 + l.val, hn⟩)
        else 0 := by
  refine (r30 x0 x1 x2 x3 x4 x5 _ c l hn).trans ?_
  simp only [r17, live _ h1 t.val p.val t.isLt p.isLt]
  split
  · rw [Finset.sum_eq_single (⟨(x0 (ix1 t)).toNat, h0⟩ : Fin 16)]
    · rw [gate _ h0, if_pos rfl, one_mul, r26]
      simp only [r23, r19, r22]
    · intro e _ he
      rw [gate _ h0, if_neg he, zero_mul]
    · exact fun h => absurd (Finset.mem_univ _) h
  · simp only [zero_mul, Finset.sum_const_zero]

end Cert.ExpertsOddReferenceIdeal.Route

end
-- ==== Proof.OFinal.lean ====
module

public import proofs.«01_k».proof.Proof.OTraj
public import proofs.«01_k».proof.Proof.ORef
public import Idealize.ShloMosaic.Lib.Pipeline.ReadBack

@[expose] public section

set_option maxRecDepth 16384

noncomputable section

open Idealize.ShloMosaic Idealize.ShloMosaic.TcCoe Idealize.SL.Sem

namespace Cert.ExpertsOddIdeal.Route
open Cert.ExpertsOddIdeal Cert.ExpertsOddIdeal.Gen Cert.ExpertsOddReferenceIdeal.Read

variable (ch : Tab) (m : (ℓ : Loc nD τ sig) → Buf (Elt Ideal) ℓ) (ρ : Dev nD → PrngReg)

/-- The scratches hold the three weights of an expert. -/
def Holds (c : Dev nD) (e : Fin 16) (s : FVec Ideal S1024x512 .bf16 × FVec Ideal S1024x512 .bf16 × FVec Ideal S512x1024 .bf16) : Prop :=
  (∀ k f, s.1 (ix2 k f) = m (c.tc.loc main_arg3) (ix4 1 e k f))
  ∧ (∀ k f, s.2.1 (ix2 k f) = m (c.tc.loc main_arg4) (ix4 1 e k f))
  ∧ (∀ f n, s.2.2 (ix2 f n) = m (c.tc.loc main_arg5) (ix4 1 e f n))

/-- A point that loads its weights leaves the weights of its tile's expert. -/
theorem holdsA (c : Dev nD) (t : Fin (cfgA ch).N) (prev) (q0 : P0_0 ch t) (q1 : P0_1 ch t) (h1) :
    Holds m c ⟨(ch.te (ix1 ⟨t.val, h1⟩)).toNat, ch.hte _⟩ (step0 ch m ρ c t prev).2 := by
  rw [stepA ch m ρ c t prev q0 q1]
  refine ⟨fun k f => ?_, fun k f => ?_, fun f n => ?_⟩
  · exact (pay3 (iblk ch m ρ c (1 : Fin 5) t) k f).trans (b1 ch m ρ c t h1 (ch.hte _) k f)
  · exact (pay4 (iblk ch m ρ c (2 : Fin 5) t) k f).trans (b2 ch m ρ c t h1 (ch.hte _) k f)
  · exact (pay5 (iblk ch m ρ c (3 : Fin 5) t) f n).trans (b3 ch m ρ c t h1 (ch.hte _) f n)

/-- After a point among the tiles in use the scratches hold the weights of its tile's expert. -/
theorem holds (c : Dev nD) : ∀ (n : ℕ) (h : n < (cfgA ch).N) (h1 : n < 112), n < (ch.nt one₀).toNat →
    Holds m c ⟨(ch.te (ix1 ⟨n, h1⟩)).toNat, ch.hte _⟩ (traj0 ch m ρ c n h).2 := by
  intro n
  induction n with
  | zero => exact fun h h1 _ => holdsA ch m ρ c ⟨0, h⟩ _ (P0_0_zero ch _ rfl) (P0_1_zero ch _ rfl) h1
  | succ n ih =>
    intro h h1 hl
    have q0 : P0_0 ch ⟨n + 1, h⟩ := (P0_0_iff ch _).2 hl
    by_cases q1 : P0_1 ch ⟨n + 1, h⟩
    · exact holdsA ch m ρ c ⟨n + 1, h⟩ _ q0 q1 h1
    · have e : (⟨(ch.te (ix1 ⟨n + 1, h1⟩)).toNat, ch.hte _⟩ : Fin 16) = ⟨(ch.te (ix1 ⟨n, by omega⟩)).toNat, ch.hte _⟩ :=
        Fin.ext (congrArg BitVec.toNat (keep ch ⟨n + 1, h⟩ q1 h1 (show n < 112 by omega)))
      show Holds m c _ (step0 ch m ρ c ⟨n + 1, h⟩ (traj0 ch m ρ c n _)).2
      rw [stepB ch m ρ c ⟨n + 1, h⟩ _ q0 q1, e]
      exact ih (Nat.lt_of_succ_lt h) _ (by omega)

/-- The output of a point among the tiles in use is the network of its tile at the weights the scratches end with. -/
theorem outAB (c : Dev nD) (t : Fin (cfgA ch).N) (prev) (q0 : P0_0 ch t) :
    (step0 ch m ρ c t prev).1 = k0_pay1 (F := Ideal) (k0_pay6 (F := Ideal) (iblk ch m ρ c (0 : Fin 5) t) (step0 ch m ρ c t prev).2.1 (step0 ch m ρ c t prev).2.2.1 (step0 ch m ρ c t prev).2.2.2) := by
  by_cases q1 : P0_1 ch t
  · rw [stepA ch m ρ c t prev q0 q1]
  · rw [stepB ch m ρ c t prev q0 q1]

/-- What a grid point leaves in its output block is the reference's result there. -/
theorem point (c : Dev nD) (t : Fin (cfgA ch).N) (p : Fin 256) (k : Fin 8) (l : Fin 128) (h) :
    (traj0 ch m ρ c t.val t.isLt).1 (ix3 p k l)
      = val_main_v30 (F := Ideal) ch.te ch.nt (m (c.tc.loc main_arg2)) (m (c.tc.loc main_arg3)) (m (c.tc.loc main_arg4)) (m (c.tc.loc main_arg5)) (ix3 ⟨t.val * 256 + p.val, h⟩ k l) := by
  have hN : t.val < 112 := t.isLt
  have ho : one₀ = (ix1 0 : S1.Idx) := one_idx _ _
  refine Eq.trans ?_ (Cert.ExpertsOddReferenceIdeal.Route.ref _ _ _ _ _ _ ⟨t.val, hN⟩ p k l (ch.hte _) (ch.hnt _).2 h (by omega)).symm
  by_cases ht : t.val < (ch.nt one₀).toNat
  · rw [if_pos (by rw [← ho]; exact ht)]
    have q0 := (P0_0_iff ch t).2 ht
    obtain ⟨w3, w4, w5⟩ := holds ch m ρ c t.val t.isLt hN ht
    have e := outAB ch m ρ c t (prev0 ch m ρ c t) q0
    rw [← traj0_eq ch m ρ c t] at e
    rw [e]
    refine (pay _ _ _ _ p k l (by omega)).trans ?_
    unfold ffn
    refine Finset.sum_congr rfl fun f _ => ?_
    refine congrArg₂ (fun a b : EReal => a * b) (congrArg₂ act (Finset.sum_congr rfl fun j _ => ?_) (Finset.sum_congr rfl fun j _ => ?_)) (w5 f _)
    · exact congrArg₂ (fun a b : EReal => a * b) (b0 ch m ρ c t ht p _ _ h) (w3 j f)
    · exact congrArg₂ (fun a b : EReal => a * b) (b0 ch m ρ c t ht p _ _ h) (w4 j f)
  · rw [if_neg (by rw [← ho]; exact ht), traj0_eq, stepC ch m ρ c t _ (fun q => ht ((P0_0_iff ch t).1 q))]
    exact pay2 _

/-- The output's blocks cover the result: they do not depend on the tables. -/
theorem covers₀ : ((cfgA tab₀).win (4 : Fin 5)).Covers := by decide +kernel

/-- Where a place of the output's block lies in the result. -/
theorem place4 (t : Fin (cfgA ch).N) (p : Fin 256) (k : Fin 8) (l : Fin 128) (h) (G : S28672x8x128.Idx → EReal) :
    G (ix3 ⟨t.val * 256 + p.val, h⟩ k l) = G ((((cfgA ch).win (4 : Fin 5)).blk t).view.emb (ix3 p k l)) := by
  blk_ext [idx4 ch t]

/-- What the kernel leaves in its result is the reference's result. -/
theorem final (c : Dev nD) :
    (dats ch m ρ 0 c).arrAt 4 (cfgA ch).N
      = val_main_v30 (F := Ideal) ch.te ch.nt (m (c.tc.loc main_arg2)) (m (c.tc.loc main_arg3)) (m (c.tc.loc main_arg4)) (m (c.tc.loc main_arg5)) := by
  refine (dats ch m ρ 0 c).arrAt_eq_of_covers 4 _ covers₀ fun t _ => ?_
  show ∀ y : S256x8x128.Idx, _
  intro y
  have ht : t.val < 112 := t.isLt
  obtain ⟨p, k, l, rfl⟩ : ∃ (p : Fin 256) (k : Fin 8) (l : Fin 128), y = ix3 p k l := ⟨y 0, y 1, y 2, eq_ix3 y⟩
  exact (point ch m ρ c t p k l (by omega)).trans (place4 ch t p k l _ _)

end Cert.ExpertsOddIdeal.Route

end
-- ==== Proof.OTop.lean ====
module

public import proofs.«01_k».proof.Proof.ORoute
public import proofs.«01_k».proof.Proof.EPre
public import proofs.«01_k».proof.Proof.OFinal

@[expose] public section

set_option maxRecDepth 16384

noncomputable section

open Idealize.ShloMosaic Idealize.ShloMosaic.TcCoe Idealize.SL.Sem

namespace Cert.ExpertsOdd.Route
open Cert.ExpertsOdd Cert.ExpertsOdd.Gen

/-- Tables in their ranges on every device are the tables some launch is pinned to. -/
theorem pinned (m : (ℓ : Loc nD τ sig) → Buf (Elt Bits) ℓ)
    (h : ∀ c : Dev nD, (∀ x : S112.Idx, (m (c.tc.loc main_arg0) x : BitVec 32).toNat < 16)
      ∧ ∀ x : S1.Idx, 1 ≤ (m (c.tc.loc main_arg1) x : BitVec 32).toNat ∧ (m (c.tc.loc main_arg1) x : BitVec 32).toNat ≤ 112) :
    ∃ ch : Tab, Pinned ch m := by
  obtain ⟨c₀, one⟩ : ∃ c₀ : Dev nD, ∀ a : Dev nD, a = c₀ := ⟨⟨0, by decide⟩, by decide⟩
  refine ⟨⟨m (c₀.tc.loc main_arg0), m (c₀.tc.loc main_arg1), (h _).1, (h _).2⟩, fun c => ?_, fun c => ?_⟩
  · obtain rfl := one c
    rfl
  · obtain rfl := one c
    rfl

end Cert.ExpertsOdd.Route

namespace Cert.ExpertsOddIdeal.Route
open Cert.ExpertsOddIdeal Cert.ExpertsOddIdeal.Gen Cert.ExpertsOddReferenceIdeal.Read

/-- Tables in their ranges on every device are the tables some launch is pinned to. -/
theorem pinned (m : (ℓ : Loc nD τ sig) → Buf (Elt Ideal) ℓ)
    (h : ∀ c : Dev nD, (∀ x : S112.Idx, (m (c.tc.loc main_arg0) x : BitVec 32).toNat < 16)
      ∧ ∀ x : S1.Idx, 1 ≤ (m (c.tc.loc main_arg1) x : BitVec 32).toNat ∧ (m (c.tc.loc main_arg1) x : BitVec 32).toNat ≤ 112) :
    ∃ ch : Tab, Pinned ch m := by
  obtain ⟨c₀, one⟩ : ∃ c₀ : Dev nD, ∀ a : Dev nD, a = c₀ := ⟨⟨0, by decide⟩, by decide⟩
  refine ⟨⟨m (c₀.tc.loc main_arg0), m (c₀.tc.loc main_arg1), (h _).1, (h _).2⟩, fun c => ?_, fun c => ?_⟩
  · obtain rfl := one c
    rfl
  · obtain rfl := one c
    rfl

/-- Equal arguments give equal results of the reference. -/
theorem ref_congr {a0 b0 : IVec S112 32} {a1 b1 : IVec S1 32} {a2 b2 : FVec Ideal S28672x8x128 .f32} {a3 b3 a4 b4 : FVec Ideal S2x16x1024x512 .f32}
    {a5 b5 : FVec Ideal S2x16x512x1024 .f32} (h0 : a0 = b0) (h1 : a1 = b1) (h2 : a2 = b2) (h3 : a3 = b3) (h4 : a4 = b4) (h5 : a5 = b5) :
    val_main_v30 (F := Ideal) a0 a1 a2 a3 a4 a5 = val_main_v30 (F := Ideal) b0 b1 b2 b3 b4 b5 := by
  rw [h0, h1, h2, h3, h4, h5]

/-- On tables in their ranges the kernel ends with the reference's result, and its arguments as they were. -/
theorem result (ch : Tab) (m : (ℓ : Loc nD τ sig) → Buf (Elt Ideal) ℓ) (ρ : Dev nD → PrngReg) (hp : Pinned ch m) :
    θ_run (defs (F := Ideal)) (onTc (τ := τ) (main (F := Ideal))) ⟨m, fun _ => 0, ρ⟩ (fun r => ∀ c : Dev nD,
      r.2.mem ((c.tc : Thread nD τ).loc main_v0) = val_main_v30 (F := Ideal) (m (c.tc.loc main_arg0)) (m (c.tc.loc main_arg1)) (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 (4 : Fin 5)).trans ((final ch m ρ c).trans (ref_congr (hp.1 c).symm (hp.2 c).symm rfl rfl rfl rfl)),
      ((h c).2 0).trans (hp.1 c).symm, ((h c).2 1).trans (hp.2 c).symm,
      ((h c).1 (0 : Fin 5)).trans ((dats ch m ρ 0 c).arrAt_in (0 : Fin 5) rfl _),
      ((h c).1 (1 : Fin 5)).trans ((dats ch m ρ 0 c).arrAt_in (1 : Fin 5) rfl _),
      ((h c).1 (2 : Fin 5)).trans ((dats ch m ρ 0 c).arrAt_in (2 : Fin 5) rfl _),
      ((h c).1 (3 : Fin 5)).trans ((dats ch m ρ 0 c).arrAt_in (3 : Fin 5) rfl _)⟩) (run_main ch m ρ hp)

end Cert.ExpertsOddIdeal.Route

end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.ExpertsOdd
public import proofs.«01_k».proof.Proof.Gen.ExpertsOdd.Skeleton
public import proofs.«01_k».proof.Proof.Gen.ExpertsOdd.Launch
public import proofs.«01_k».proof.Proof.Gen.ExpertsOdd.Flash
public import proofs.«01_k».proof.Proof.Gen.ExpertsOddIdeal
public import proofs.«01_k».proof.Proof.Gen.ExpertsOddIdeal.Skeleton
public import proofs.«01_k».proof.Proof.Gen.ExpertsOddIdeal.Launch
public import proofs.«01_k».proof.Proof.Gen.ExpertsOddIdeal.Flash
public import proofs.«01_k».proof.Proof.Gen.ExpertsOddReferenceIdeal
public import proofs.«01_k».proof.Proof.Gen.ExpertsOddReferenceIdeal.Run
public import proofs.«01_k».proof.Proof.Gen.ExpertsOddReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.KOpen
public import proofs.«01_k».proof.Proof.Finite
public import proofs.«01_k».proof.Proof.PFinal
public import proofs.«01_k».proof.Proof.ETop
public import proofs.«01_k».proof.Proof.OTop
public import Idealize.ShloMosaic.Adequacy
public import Idealize.ShloMosaic.Init

@[expose] public section

noncomputable section

namespace Cert.Proof

open Idealize.ShloMosaic Idealize.SL.Sem Cert.Kernel

/-- Equal arguments give equal results of the reference. -/
theorem val_congr {a0 b0 : FVec Ideal Cert.ReferenceIdeal.S12288x3072 .f32} {a1 b1 : FVec Ideal Cert.ReferenceIdeal.S8x1x256x4x2x64 .f32}
    {a2 b2 : FVec Ideal Cert.ReferenceIdeal.S8x1x256x4x128 .f32} {a3 b3 : FVec Ideal Cert.ReferenceIdeal.S1x4x64 .f32}
    {a4 b4 : FVec Ideal Cert.ReferenceIdeal.S1x128 .f32} (h0 : a0 = b0) (h1 : a1 = b1) (h2 : a2 = b2) (h3 : a3 = b3) (h4 : a4 = b4) :
    Cert.ReferenceIdeal.Read.val_main_v193 (F := Ideal) a0 a1 a2 a3 a4 = Cert.ReferenceIdeal.Read.val_main_v193 (F := Ideal) b0 b1 b2 b3 b4 := by
  rw [h0, h1, h2, h3, h4]

/-- Equal arguments give equal results of the projection's reference. -/
theorem proj_congr {a0 b0 : FVec Ideal Cert.ProjectReferenceIdeal.S16x256x1024 .f32} {a1 b1 : FVec Ideal Cert.ProjectReferenceIdeal.S8x1024x1024 .f32}
    {a2 b2 : FVec Ideal Cert.ProjectReferenceIdeal.S16x6x1024 .f32} {a3 b3 : FVec Ideal Cert.ProjectReferenceIdeal.S1x1024x3072 .f32}
    (h0 : a0 = b0) (h1 : a1 = b1) (h2 : a2 = b2) (h3 : a3 = b3) :
    Cert.ProjectReferenceIdeal.Read.val_main_v33 (F := Ideal) a0 a1 a2 a3 = Cert.ProjectReferenceIdeal.Read.val_main_v33 (F := Ideal) b0 b1 b2 b3 := by
  rw [h0, h1, h2, h3]

/-- The attention's three programs run and leave their arguments and every semaphore as they were; the idealization rewrites nothing; and on finite
arguments the kernel and the reference end with equal results. The projection's three programs run and leave their arguments and every
semaphore as they were; the idealization rewrites nothing; and on any arguments the kernel and the reference end with equal results. The experts' programs of either layer do the same wherever the
tables of a launch are in their ranges. -/
theorem claim : Cert.Claim := ⟨Cert.Kernel.Gen.facts, Cert.KernelIdeal.Gen.facts, Cert.ReferenceIdeal.Gen.facts, Cert.Project.Gen.facts, Cert.ProjectIdeal.Gen.facts, Cert.ProjectReferenceIdeal.Gen.facts,
  Cert.Experts.Gen.facts, Cert.ExpertsIdeal.Gen.facts, Cert.ExpertsReferenceIdeal.Gen.facts,
  Cert.ExpertsOdd.Gen.facts, Cert.ExpertsOddIdeal.Gen.facts, Cert.ExpertsOddReferenceIdeal.Gen.facts, Cert.Pre_finite.Attn.facts, Cert.Pre_tables.Range.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems (by decide) _⟩) (Cert.ReferenceIdeal.Value.run (F := Ideal) m ρ),
  fun m ρ _ => (θ_run _ _ _).mono (fun r h => ⟨fun c => (h c).2, sem_eq_zero_of_no_sems (by decide) _⟩) (Cert.ReferenceIdeal.Value.run (F := Ideal) m ρ),
  fun m ρ _ => Cert.Project.Gen.frame m ρ,
  fun m ρ _ => Cert.ProjectIdeal.Gen.frame m ρ,
  fun m ρ _ => (θ_run _ _ _).mono (fun r h => ⟨fun c => (h c).2, sem_eq_zero_of_no_sems (by decide) _⟩) (Cert.ProjectReferenceIdeal.Value.run (F := Ideal) m ρ),
  fun m ρ hp => by
    obtain ⟨ch, h⟩ := Cert.Experts.Route.pinned m fun c => @Cert.Pre_tables.Range.range Bits _ Cert.Pre_tables.Range.facts _ _ _ _ _ _ (hp c)
    exact Cert.Experts.Route.frame ch m ρ h,
  fun m ρ hp => by
    obtain ⟨ch, h⟩ := Cert.ExpertsIdeal.Route.pinned m fun c => @Cert.Pre_tables.Range.range Ideal _ Cert.Pre_tables.Range.facts _ _ _ _ _ _ (hp c)
    exact Cert.ExpertsIdeal.Route.frame ch m ρ h,
  fun m ρ _ => (θ_run _ _ _).mono (fun r h => ⟨fun c => (h c).2, sem_eq_zero_of_no_sems (by decide) _⟩) (Cert.ExpertsReferenceIdeal.Value.run (F := Ideal) m ρ),
  fun m ρ _ => (θ_run _ _ _).mono (fun r h => ⟨fun c => (h c).2, sem_eq_zero_of_no_sems (by decide) _⟩) (Cert.ExpertsReferenceIdeal.Value.run (F := Ideal) m ρ),
  fun m ρ hp => by
    obtain ⟨ch, h⟩ := Cert.ExpertsOdd.Route.pinned m fun c => @Cert.Pre_tables.Range.range Bits _ Cert.Pre_tables.Range.facts _ _ _ _ _ _ (hp c)
    exact Cert.ExpertsOdd.Route.frame ch m ρ h,
  fun m ρ hp => by
    obtain ⟨ch, h⟩ := Cert.ExpertsOddIdeal.Route.pinned m fun c => @Cert.Pre_tables.Range.range Ideal _ Cert.Pre_tables.Range.facts _ _ _ _ _ _ (hp c)
    exact Cert.ExpertsOddIdeal.Route.frame ch m ρ h,
  fun m ρ _ => (θ_run _ _ _).mono (fun r h => ⟨fun c => (h c).2, sem_eq_zero_of_no_sems (by decide) _⟩) (Cert.ExpertsOddReferenceIdeal.Value.run (F := Ideal) m ρ),
  fun m ρ _ => (θ_run _ _ _).mono (fun r h => ⟨fun c => (h c).2, sem_eq_zero_of_no_sems (by decide) _⟩) (Cert.ExpertsOddReferenceIdeal.Value.run (F := Ideal) m ρ),
  trivial,
  fun m ρ m' ρ' hp hag => ⟨fun c => Cert.ReferenceIdeal.Read.val_main_v193 (F := Ideal) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)),
    (θ_run _ _ _).mono (fun _ h c => by
      obtain ⟨r0, r1, r2, r3⟩ := @Cert.Pre_finite.Attn.real Cert.Pre_finite.Attn.facts _ _ _ _ _ (hp c)
      exact ⟨(h c).1.trans (Cert.KernelIdeal.Attn.final m c r0 r1 r2 r3), (h c).2⟩) (Cert.KernelIdeal.Value.run_blocks (F := Ideal) m ρ),
    (θ_run _ _ _).mono (fun _ h c => ⟨(h c).1.trans ((Cert.ReferenceIdeal.Read.val_main_v193_eq (F := Ideal) _).trans (by
      obtain ⟨a0, a1, a2, a3, a4⟩ := hag c
      exact val_congr a0 a1 a2 a3 a4)), (h c).2⟩) (Cert.ReferenceIdeal.Value.run (F := Ideal) m' ρ')⟩,
  trivial,
  fun m ρ m' ρ' _ hag => ⟨fun c => Cert.ProjectReferenceIdeal.Read.val_main_v33 (F := Ideal) (m (c.tc.loc Cert.ProjectIdeal.main_arg0)) (m (c.tc.loc Cert.ProjectIdeal.main_arg1)) (m (c.tc.loc Cert.ProjectIdeal.main_arg2)) (m (c.tc.loc Cert.ProjectIdeal.main_arg3)),
    (θ_run _ _ _).mono (fun _ h c => ⟨(h c).1.trans (Cert.ProjectIdeal.Proj.final m c), (h c).2⟩) (Cert.ProjectIdeal.Value.run_blocks (F := Ideal) m ρ),
    (θ_run _ _ _).mono (fun _ h c => ⟨(h c).1.trans ((Cert.ProjectReferenceIdeal.Read.val_main_v33_eq (F := Ideal) _ _ _ _).trans (by
      obtain ⟨a0, a1, a2, a3⟩ := hag c
      exact proj_congr a0 a1 a2 a3)), (h c).2⟩) (Cert.ProjectReferenceIdeal.Value.run (F := Ideal) m' ρ')⟩,
  trivial,
  fun m ρ m' ρ' hp hag => ⟨fun c => Cert.ExpertsReferenceIdeal.Read.val_main_v30 (F := Ideal) (m (c.tc.loc Cert.ExpertsIdeal.main_arg0)) (m (c.tc.loc Cert.ExpertsIdeal.main_arg1)) (m (c.tc.loc Cert.ExpertsIdeal.main_arg2)) (m (c.tc.loc Cert.ExpertsIdeal.main_arg3)) (m (c.tc.loc Cert.ExpertsIdeal.main_arg4)) (m (c.tc.loc Cert.ExpertsIdeal.main_arg5)),
    (by
      obtain ⟨ch, h⟩ := Cert.ExpertsIdeal.Route.pinned m fun c => @Cert.Pre_tables.Range.range Ideal _ Cert.Pre_tables.Range.facts _ _ _ _ _ _ (hp c)
      exact Cert.ExpertsIdeal.Route.result ch m ρ h),
    (θ_run _ _ _).mono (fun _ h c => ⟨(h c).1.trans ((Cert.ExpertsReferenceIdeal.Read.val_main_v30_eq (F := Ideal) _ _ _ _ _ _).trans (by
      obtain ⟨a0, a1, a2, a3, a4, a5⟩ := hag c
      exact Cert.ExpertsIdeal.Route.ref_congr a0 a1 a2 a3 a4 a5)), (h c).2⟩) (Cert.ExpertsReferenceIdeal.Value.run (F := Ideal) m' ρ')⟩,
  trivial,
  fun m ρ m' ρ' hp hag => ⟨fun c => Cert.ExpertsOddReferenceIdeal.Read.val_main_v30 (F := Ideal) (m (c.tc.loc Cert.ExpertsOddIdeal.main_arg0)) (m (c.tc.loc Cert.ExpertsOddIdeal.main_arg1)) (m (c.tc.loc Cert.ExpertsOddIdeal.main_arg2)) (m (c.tc.loc Cert.ExpertsOddIdeal.main_arg3)) (m (c.tc.loc Cert.ExpertsOddIdeal.main_arg4)) (m (c.tc.loc Cert.ExpertsOddIdeal.main_arg5)),
    (by
      obtain ⟨ch, h⟩ := Cert.ExpertsOddIdeal.Route.pinned m fun c => @Cert.Pre_tables.Range.range Ideal _ Cert.Pre_tables.Range.facts _ _ _ _ _ _ (hp c)
      exact Cert.ExpertsOddIdeal.Route.result ch m ρ h),
    (θ_run _ _ _).mono (fun _ h c => ⟨(h c).1.trans ((Cert.ExpertsOddReferenceIdeal.Read.val_main_v30_eq (F := Ideal) _ _ _ _ _ _).trans (by
      obtain ⟨a0, a1, a2, a3, a4, a5⟩ := hag c
      exact Cert.ExpertsOddIdeal.Route.ref_congr a0 a1 a2 a3 a4 a5)), (h c).2⟩) (Cert.ExpertsOddReferenceIdeal.Value.run (F := Ideal) m' ρ')⟩⟩

end Cert.Proof

end
